-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 1024, 32, 128]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 1024, 32, 128]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S1x1024x1024 : Shape := ⟨3, ![1, 1024, 1024]⟩
abbrev S1024x4096 : Shape := ⟨2, ![1024, 4096]⟩
abbrev S1x1024x8x128 : Shape := ⟨4, ![1, 1024, 8, 128]⟩
abbrev S4096x1024 : Shape := ⟨2, ![4096, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x1024x8x128 : S_.BroadcastsInDim S1x1024x8x128 (![] : Fin 0 → Fin S1x1024x8x128.rank)
  reducesTo_S1x1024x8x128_S_d0_1_2_3 : S1x1024x8x128.ReducesTo [0, 1, 2, 3] S_

variable [Facts]

def fn {F : FTy → Type} [FloatOps F] (main_arg0 : FVec F S1x1024x1024 .f32) (main_arg1 : FVec F S1024x4096 .f32) (main_arg2 : FVec F S1x1024x8x128 .f32) (main_arg3 : FVec F S1x1024x8x128 .f32) (main_arg4 : FVec F S4096x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x1024x8x128 .f32 := Host.absf main_arg2
  let main_cst_2 : FVec F S_ .f32 := constant S_ .f32 0x7F800000#32
  let main_v10 : FVec F S1x1024x8x128 .f32 := broadcastInDim S1x1024x8x128 ![] bcast_S_S1x1024x8x128 main_cst_2
  let main_v11 : IVec S1x1024x8x128 1 := cmpf .olt main_v9 main_v10
  let main_c_3 : IVec S_ 1 := constantI S_ 1 1#1
  let main_v12 : IVec S_ 1 := (fun x v => Host.reduce IntOp.andi x v reducesTo_S1x1024x8x128_S_d0_1_2_3 h_S_) main_v11 main_c_3
  let main_v13 : IVec S_ 1 := andi main_v8 main_v12
  main_v13
-- ==== Pre_finite_inputs_ReferenceIdeal.lean ====
abbrev S1x1024x1024 : Shape := ⟨3, ![1, 1024, 1024]⟩
abbrev S1024x4096 : Shape := ⟨2, ![1024, 4096]⟩
abbrev S1x1024x32x128 : Shape := ⟨4, ![1, 1024, 32, 128]⟩
abbrev S4096x1024 : Shape := ⟨2, ![4096, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x1024x32x128 : S_.BroadcastsInDim S1x1024x32x128 (![] : Fin 0 → Fin S1x1024x32x128.rank)
  reducesTo_S1x1024x32x128_S_d0_1_2_3 : S1x1024x32x128.ReducesTo [0, 1, 2, 3] S_

variable [Facts]

def fn {F : FTy → Type} [FloatOps F] (main_arg0 : FVec F S1x1024x1024 .f32) (main_arg1 : FVec F S1024x4096 .f32) (main_arg2 : FVec F S1x1024x32x128 .f32) (main_arg3 : FVec F S1x1024x32x128 .f32) (main_arg4 : FVec F S4096x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x1024x32x128 .f32 := Host.absf main_arg2
  let main_cst_2 : FVec F S_ .f32 := constant S_ .f32 0x7F800000#32
  let main_v10 : FVec F S1x1024x32x128 .f32 := broadcastInDim S1x1024x32x128 ![] bcast_S_S1x1024x32x128 main_cst_2
  let main_v11 : IVec S1x1024x32x128 1 := cmpf .olt main_v9 main_v10
  let main_c_3 : IVec S_ 1 := constantI S_ 1 1#1
  let main_v12 : IVec S_ 1 := (fun x v => Host.reduce IntOp.andi x v reducesTo_S1x1024x32x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x4096 : Shape := ⟨2, ![1024, 4096]⟩
abbrev S1x1024x8x128 : Shape := ⟨4, ![1, 1024, 8, 128]⟩
abbrev S4096x1024 : Shape := ⟨2, ![4096, 1024]⟩
abbrev S1024x1024 : Shape := ⟨2, ![1024, 1024]⟩
abbrev S1024x8x128 : Shape := ⟨3, ![1024, 8, 128]⟩
abbrev S8x1024x128 : Shape := ⟨3, ![8, 1024, 128]⟩
abbrev S3x256x1024 : Shape := ⟨3, ![3, 256, 1024]⟩
abbrev S4x256x1024 : Shape := ⟨3, ![4, 256, 1024]⟩
abbrev S4x4x64x1024 : Shape := ⟨4, ![4, 4, 64, 1024]⟩
abbrev S2 : Shape := ⟨1, ![2]⟩
abbrev S3 : Shape := ⟨1, ![3]⟩
abbrev S4 : Shape := ⟨1, ![4]⟩
abbrev S4x4 : Shape := ⟨2, ![4, 4]⟩
abbrev S_ : Shape := ⟨0, ![]⟩
abbrev S1 : Shape := ⟨1, ![1]⟩
abbrev S256x1024 : Shape := ⟨2, ![256, 1024]⟩
abbrev S256x512 : Shape := ⟨2, ![256, 512]⟩
abbrev S256x128 : Shape := ⟨2, ![256, 128]⟩
abbrev S1x512x128 : Shape := ⟨3, ![1, 512, 128]⟩
abbrev S512x128 : Shape := ⟨2, ![512, 128]⟩
abbrev S256 : Shape := ⟨1, ![256]⟩
abbrev S256x1 : Shape := ⟨2, ![256, 1]⟩
abbrev S1x256x1024 : Shape := ⟨3, ![1, 256, 1024]⟩
abbrev S1x64x1024 : Shape := ⟨3, ![1, 64, 1024]⟩
abbrev S64x1024 : Shape := ⟨2, ![64, 1024]⟩
abbrev S1x1x64x1024 : Shape := ⟨4, ![1, 1, 64, 1024]⟩
abbrev S1x1 : Shape := ⟨2, ![1, 1]⟩

abbrev nBuf : Space → Nat
  | .hbm => 12
  | .vmem => 9
  | .smem => 0
  | _ => 0

abbrev bufTy : (tb : Table) → Fin (tcTables nBuf tb) → BufTy
  | .hbm, ⟨0, _⟩ => ⟨S1x1024x1024, .f32⟩
  | .hbm, ⟨1, _⟩ => ⟨S1024x4096, .f32⟩
  | .hbm, ⟨2, _⟩ => ⟨S1x1024x8x128, .f32⟩
  | .hbm, ⟨3, _⟩ => ⟨S1x1024x8x128, .f32⟩
  | .hbm, ⟨4, _⟩ => ⟨S4096x1024, .f32⟩
  | .hbm, ⟨5, _⟩ => ⟨S1024x1024, .f32⟩
  | .hbm, ⟨6, _⟩ => ⟨S1024x8x128, .f32⟩
  | .hbm, ⟨7, _⟩ => ⟨S8x1024x128, .f32⟩
  | .hbm, ⟨8, _⟩ => ⟨S1024x8x128, .f32⟩
  | .hbm, ⟨9, _⟩ => ⟨S8x1024x128, .f32⟩
  | .hbm, ⟨10, _⟩ => ⟨S1024x1024, .f32⟩
  | .hbm, ⟨11, _⟩ => ⟨S1x1024x1024, .f32⟩
  | .local _ .vmem, ⟨0, _⟩ => ⟨S1024x1024, .f32⟩
  | .local _ .vmem, ⟨1, _⟩ => ⟨S8x1024x128, .f32⟩
  | .local _ .vmem, ⟨2, _⟩ => ⟨S8x1024x128, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S3x256x1024, .bf16⟩
  | .local _ .vmem, ⟨7, _⟩ => ⟨S4x256x1024, .bf16⟩
  | .local _ .vmem, ⟨8, _⟩ => ⟨S4x4x64x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  (ofTc nBuf bufTy 1 45 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_666 : BitVec 32 := 0#32
  let c0_i32_664 : BitVec 32 := 0#32
  let c1_i32_665 : BitVec 32 := 1#32
  let v1154 : BitVec 32 := Scalar.muli c0_i32_664 c1_i32_665
  let v1155 : BitVec 32 := Scalar.addi c0_i32_666 v1154
  v1155.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_666 : BitVec 32 := 0#32
  let c1_i32_664 : BitVec 32 := 1#32
  let c1_i32_665 : BitVec 32 := 1#32
  let v1154 : BitVec 32 := Scalar.muli c1_i32_664 c1_i32_665
  let v1155 : BitVec 32 := Scalar.addi c0_i32_666 v1154
  v1155.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_666 : BitVec 32 := 0#32
  let c2_i32_664 : BitVec 32 := 2#32
  let c1_i32_665 : BitVec 32 := 1#32
  let v1154 : BitVec 32 := Scalar.muli c2_i32_664 c1_i32_665
  let v1155 : BitVec 32 := Scalar.addi c0_i32_666 v1154
  v1155.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_666 : BitVec 32 := 0#32
  let c3_i32_664 : BitVec 32 := 3#32
  let c1_i32_665 : BitVec 32 := 1#32
  let v1154 : BitVec 32 := Scalar.muli c3_i32_664 c1_i32_665
  let v1155 : BitVec 32 := Scalar.addi c0_i32_666 v1154
  v1155.toNat
def k0_off1 (d0 : Dev nD) : Fin 2 → Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v16 : BitVec 32 := Scalar.muli v2 c1024_i32
  ![0, v16.toNat]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_5 : BitVec 32 := 1024#32
  let v17 : BitVec 32 := Scalar.muli v2 c1024_i32_5
  let c0_i32_9 : BitVec 32 := 0#32
  ![v17.toNat, 0]
def k0_off3 (d0 : Dev nD) (c0_i32_13 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_12 : BitVec 32 := 1#32
  let v27 : BitVec 32 := Scalar.addi v2 c1_i32_12
  let v28 : BitVec 32 := Scalar.addi v27 c0_i32_13
  let c4_i32_14 : BitVec 32 := 4#32
  let c0_i32_15 : BitVec 32 := 0#32
  let v29 : BitVec 1 := Scalar.cmpi .eq c4_i32_14 c0_i32_15
  let c1_i32_16 : BitVec 32 := 1#32
  let v30 : BitVec 32 := Scalar.select v29 c1_i32_16 c4_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c256_i32 : BitVec 32 := 256#32
  let v39 : BitVec 32 := Scalar.muli v38 c256_i32
  let v43 : Index := Scalar.indexCast v39
  let c0 : Index := 0#32
  ![v43.toNat, 0]
def k0_off4 (d0 : Dev nD) (c0_i32_13 : BitVec 32) : Fin 3 → Nat :=
  let c0_24 : Index := 0#32
  let c512_i32 : BitVec 32 := 512#32
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_12 : BitVec 32 := 1#32
  let v27 : BitVec 32 := Scalar.addi v2 c1_i32_12
  let v28 : BitVec 32 := Scalar.addi v27 c0_i32_13
  let c4_i32_14 : BitVec 32 := 4#32
  let c0_i32_15 : BitVec 32 := 0#32
  let v29 : BitVec 1 := Scalar.cmpi .eq c4_i32_14 c0_i32_15
  let c1_i32_16 : BitVec 32 := 1#32
  let v30 : BitVec 32 := Scalar.select v29 c1_i32_16 c4_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c256_i32 : BitVec 32 := 256#32
  let v39 : BitVec 32 := Scalar.muli v38 c256_i32
  let c128_i32 : BitVec 32 := 128#32
  let v40 : BitVec 32 := Scalar.subi v39 c128_i32
  let v41 : BitVec 32 := Scalar.maxsi c0_i32_20 v40
  let v42 : BitVec 32 := Scalar.minsi c512_i32 v41
  let v59 : Index := Scalar.indexCast v42
  let c0_25 : Index := 0#32
  ![0, v59.toNat, 0]
def k0_off5 (d0 : Dev nD) (c0_i32_13 : BitVec 32) : Fin 3 → Nat :=
  let c1 : Index := 1#32
  let c512_i32 : BitVec 32 := 512#32
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_12 : BitVec 32 := 1#32
  let v27 : BitVec 32 := Scalar.addi v2 c1_i32_12
  let v28 : BitVec 32 := Scalar.addi v27 c0_i32_13
  let c4_i32_14 : BitVec 32 := 4#32
  let c0_i32_15 : BitVec 32 := 0#32
  let v29 : BitVec 1 := Scalar.cmpi .eq c4_i32_14 c0_i32_15
  let c1_i32_16 : BitVec 32 := 1#32
  let v30 : BitVec 32 := Scalar.select v29 c1_i32_16 c4_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c256_i32 : BitVec 32 := 256#32
  let v39 : BitVec 32 := Scalar.muli v38 c256_i32
  let c128_i32 : BitVec 32 := 128#32
  let v40 : BitVec 32 := Scalar.subi v39 c128_i32
  let v41 : BitVec 32 := Scalar.maxsi c0_i32_20 v40
  let v42 : BitVec 32 := Scalar.minsi c512_i32 v41
  let v79 : Index := Scalar.indexCast v42
  let c0_34 : Index := 0#32
  ![1, v79.toNat, 0]
def k0_off6 (d0 : Dev nD) (c0_i32_13 : BitVec 32) : Fin 3 → Nat :=
  let c2 : Index := 2#32
  let c512_i32 : BitVec 32 := 512#32
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_12 : BitVec 32 := 1#32
  let v27 : BitVec 32 := Scalar.addi v2 c1_i32_12
  let v28 : BitVec 32 := Scalar.addi v27 c0_i32_13
  let c4_i32_14 : BitVec 32 := 4#32
  let c0_i32_15 : BitVec 32 := 0#32
  let v29 : BitVec 1 := Scalar.cmpi .eq c4_i32_14 c0_i32_15
  let c1_i32_16 : BitVec 32 := 1#32
  let v30 : BitVec 32 := Scalar.select v29 c1_i32_16 c4_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c256_i32 : BitVec 32 := 256#32
  let v39 : BitVec 32 := Scalar.muli v38 c256_i32
  let c128_i32 : BitVec 32 := 128#32
  let v40 : BitVec 32 := Scalar.subi v39 c128_i32
  let v41 : BitVec 32 := Scalar.maxsi c0_i32_20 v40
  let v42 : BitVec 32 := Scalar.minsi c512_i32 v41
  let v99 : Index := Scalar.indexCast v42
  let c0_43 : Index := 0#32
  ![2, v99.toNat, 0]
def k0_off7 (d0 : Dev nD) (c0_i32_13 : BitVec 32) : Fin 3 → Nat :=
  let c3 : Index := 3#32
  let c512_i32 : BitVec 32 := 512#32
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_12 : BitVec 32 := 1#32
  let v27 : BitVec 32 := Scalar.addi v2 c1_i32_12
  let v28 : BitVec 32 := Scalar.addi v27 c0_i32_13
  let c4_i32_14 : BitVec 32 := 4#32
  let c0_i32_15 : BitVec 32 := 0#32
  let v29 : BitVec 1 := Scalar.cmpi .eq c4_i32_14 c0_i32_15
  let c1_i32_16 : BitVec 32 := 1#32
  let v30 : BitVec 32 := Scalar.select v29 c1_i32_16 c4_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c256_i32 : BitVec 32 := 256#32
  let v39 : BitVec 32 := Scalar.muli v38 c256_i32
  let c128_i32 : BitVec 32 := 128#32
  let v40 : BitVec 32 := Scalar.subi v39 c128_i32
  let v41 : BitVec 32 := Scalar.maxsi c0_i32_20 v40
  let v42 : BitVec 32 := Scalar.minsi c512_i32 v41
  let v119 : Index := Scalar.indexCast v42
  let c0_52 : Index := 0#32
  ![3, v119.toNat, 0]
def k0_off8 (d0 : Dev nD) (c0_i32_13 : BitVec 32) : Fin 3 → Nat :=
  let c4 : Index := 4#32
  let c512_i32 : BitVec 32 := 512#32
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_12 : BitVec 32 := 1#32
  let v27 : BitVec 32 := Scalar.addi v2 c1_i32_12
  let v28 : BitVec 32 := Scalar.addi v27 c0_i32_13
  let c4_i32_14 : BitVec 32 := 4#32
  let c0_i32_15 : BitVec 32 := 0#32
  let v29 : BitVec 1 := Scalar.cmpi .eq c4_i32_14 c0_i32_15
  let c1_i32_16 : BitVec 32 := 1#32
  let v30 : BitVec 32 := Scalar.select v29 c1_i32_16 c4_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c256_i32 : BitVec 32 := 256#32
  let v39 : BitVec 32 := Scalar.muli v38 c256_i32
  let c128_i32 : BitVec 32 := 128#32
  let v40 : BitVec 32 := Scalar.subi v39 c128_i32
  let v41 : BitVec 32 := Scalar.maxsi c0_i32_20 v40
  let v42 : BitVec 32 := Scalar.minsi c512_i32 v41
  let v139 : Index := Scalar.indexCast v42
  let c0_61 : Index := 0#32
  ![4, v139.toNat, 0]
def k0_off9 (d0 : Dev nD) (c0_i32_13 : BitVec 32) : Fin 3 → Nat :=
  let c5 : Index := 5#32
  let c512_i32 : BitVec 32 := 512#32
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_12 : BitVec 32 := 1#32
  let v27 : BitVec 32 := Scalar.addi v2 c1_i32_12
  let v28 : BitVec 32 := Scalar.addi v27 c0_i32_13
  let c4_i32_14 : BitVec 32 := 4#32
  let c0_i32_15 : BitVec 32 := 0#32
  let v29 : BitVec 1 := Scalar.cmpi .eq c4_i32_14 c0_i32_15
  let c1_i32_16 : BitVec 32 := 1#32
  let v30 : BitVec 32 := Scalar.select v29 c1_i32_16 c4_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c256_i32 : BitVec 32 := 256#32
  let v39 : BitVec 32 := Scalar.muli v38 c256_i32
  let c128_i32 : BitVec 32 := 128#32
  let v40 : BitVec 32 := Scalar.subi v39 c128_i32
  let v41 : BitVec 32 := Scalar.maxsi c0_i32_20 v40
  let v42 : BitVec 32 := Scalar.minsi c512_i32 v41
  let v159 : Index := Scalar.indexCast v42
  let c0_70 : Index := 0#32
  ![5, v159.toNat, 0]
def k0_off10 (d0 : Dev nD) (c0_i32_13 : BitVec 32) : Fin 3 → Nat :=
  let c6 : Index := 6#32
  let c512_i32 : BitVec 32 := 512#32
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_12 : BitVec 32 := 1#32
  let v27 : BitVec 32 := Scalar.addi v2 c1_i32_12
  let v28 : BitVec 32 := Scalar.addi v27 c0_i32_13
  let c4_i32_14 : BitVec 32 := 4#32
  let c0_i32_15 : BitVec 32 := 0#32
  let v29 : BitVec 1 := Scalar.cmpi .eq c4_i32_14 c0_i32_15
  let c1_i32_16 : BitVec 32 := 1#32
  let v30 : BitVec 32 := Scalar.select v29 c1_i32_16 c4_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c256_i32 : BitVec 32 := 256#32
  let v39 : BitVec 32 := Scalar.muli v38 c256_i32
  let c128_i32 : BitVec 32 := 128#32
  let v40 : BitVec 32 := Scalar.subi v39 c128_i32
  let v41 : BitVec 32 := Scalar.maxsi c0_i32_20 v40
  let v42 : BitVec 32 := Scalar.minsi c512_i32 v41
  let v179 : Index := Scalar.indexCast v42
  let c0_79 : Index := 0#32
  ![6, v179.toNat, 0]
def k0_off11 (d0 : Dev nD) (c0_i32_13 : BitVec 32) : Fin 3 → Nat :=
  let c7 : Index := 7#32
  let c512_i32 : BitVec 32 := 512#32
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_12 : BitVec 32 := 1#32
  let v27 : BitVec 32 := Scalar.addi v2 c1_i32_12
  let v28 : BitVec 32 := Scalar.addi v27 c0_i32_13
  let c4_i32_14 : BitVec 32 := 4#32
  let c0_i32_15 : BitVec 32 := 0#32
  let v29 : BitVec 1 := Scalar.cmpi .eq c4_i32_14 c0_i32_15
  let c1_i32_16 : BitVec 32 := 1#32
  let v30 : BitVec 32 := Scalar.select v29 c1_i32_16 c4_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c256_i32 : BitVec 32 := 256#32
  let v39 : BitVec 32 := Scalar.muli v38 c256_i32
  let c128_i32 : BitVec 32 := 128#32
  let v40 : BitVec 32 := Scalar.subi v39 c128_i32
  let v41 : BitVec 32 := Scalar.maxsi c0_i32_20 v40
  let v42 : BitVec 32 := Scalar.minsi c512_i32 v41
  let v199 : Index := Scalar.indexCast v42
  let c0_88 : Index := 0#32
  ![7, v199.toNat, 0]
def k0_off12 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off13 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_110 : BitVec 32 := 0#32
  let c0_i32_111 : BitVec 32 := 0#32
  ![v2.toNat, 0, 0]
def k0_dev5 (d0 : Dev nD) : Nat :=
  let c0_i32_109 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_12 : BitVec 32 := 1#32
  let v27 : BitVec 32 := Scalar.addi v2 c1_i32_12
  let c0_i32_13 : BitVec 32 := 0#32
  let v28 : BitVec 32 := Scalar.addi v27 c0_i32_13
  let c4_i32_14 : BitVec 32 := 4#32
  let c0_i32_15 : BitVec 32 := 0#32
  let v29 : BitVec 1 := Scalar.cmpi .eq c4_i32_14 c0_i32_15
  let c1_i32_16 : BitVec 32 := 1#32
  let v30 : BitVec 32 := Scalar.select v29 c1_i32_16 c4_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c1_i32_108 : BitVec 32 := 1#32
  let v228 : BitVec 32 := Scalar.muli v38 c1_i32_108
  let v229 : BitVec 32 := Scalar.addi c0_i32_109 v228
  v229.toNat
def k0_dev6 (d0 : Dev nD) : Nat :=
  let c0_i32_220 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_114 : BitVec 32 := 1#32
  let v238 : BitVec 32 := Scalar.addi v2 c1_i32_114
  let c1_i32_115 : BitVec 32 := 1#32
  let v239 : BitVec 32 := Scalar.addi v238 c1_i32_115
  let c4_i32_116 : BitVec 32 := 4#32
  let c0_i32_117 : BitVec 32 := 0#32
  let v240 : BitVec 1 := Scalar.cmpi .eq c4_i32_116 c0_i32_117
  let c1_i32_118 : BitVec 32 := 1#32
  let v241 : BitVec 32 := Scalar.select v240 c1_i32_118 c4_i32_116
  let v242 : BitVec 32 := Scalar.remsi v239 v241
  let c0_i32_120 : BitVec 32 := 0#32
  let v244 : BitVec 1 := Scalar.cmpi .slt v242 c0_i32_120
  let c0_i32_121 : BitVec 32 := 0#32
  let v245 : BitVec 1 := Scalar.cmpi .slt v241 c0_i32_121
  let v246 : BitVec 1 := Scalar.xori v244 v245
  let c0_i32_119 : BitVec 32 := 0#32
  let v243 : BitVec 1 := Scalar.cmpi .ne v242 c0_i32_119
  let v247 : BitVec 1 := Scalar.andi v246 v243
  let v248 : BitVec 32 := Scalar.addi v242 v241
  let v249 : BitVec 32 := Scalar.select v247 v248 v242
  let c1_i32_219 : BitVec 32 := 1#32
  let v436 : BitVec 32 := Scalar.muli v249 c1_i32_219
  let v437 : BitVec 32 := Scalar.addi c0_i32_220 v436
  v437.toNat
def k0_dev7 (d0 : Dev nD) : Nat :=
  let c0_i32_331 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_225 : BitVec 32 := 1#32
  let v446 : BitVec 32 := Scalar.addi v2 c1_i32_225
  let c2_i32_226 : BitVec 32 := 2#32
  let v447 : BitVec 32 := Scalar.addi v446 c2_i32_226
  let c4_i32_227 : BitVec 32 := 4#32
  let c0_i32_228 : BitVec 32 := 0#32
  let v448 : BitVec 1 := Scalar.cmpi .eq c4_i32_227 c0_i32_228
  let c1_i32_229 : BitVec 32 := 1#32
  let v449 : BitVec 32 := Scalar.select v448 c1_i32_229 c4_i32_227
  let v450 : BitVec 32 := Scalar.remsi v447 v449
  let c0_i32_231 : BitVec 32 := 0#32
  let v452 : BitVec 1 := Scalar.cmpi .slt v450 c0_i32_231
  let c0_i32_232 : BitVec 32 := 0#32
  let v453 : BitVec 1 := Scalar.cmpi .slt v449 c0_i32_232
  let v454 : BitVec 1 := Scalar.xori v452 v453
  let c0_i32_230 : BitVec 32 := 0#32
  let v451 : BitVec 1 := Scalar.cmpi .ne v450 c0_i32_230
  let v455 : BitVec 1 := Scalar.andi v454 v451
  let v456 : BitVec 32 := Scalar.addi v450 v449
  let v457 : BitVec 32 := Scalar.select v455 v456 v450
  let c1_i32_330 : BitVec 32 := 1#32
  let v644 : BitVec 32 := Scalar.muli v457 c1_i32_330
  let v645 : BitVec 32 := Scalar.addi c0_i32_331 v644
  v645.toNat
def k0_cond17 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_472 : BitVec 32 := 0#32
  let v899 : BitVec 1 := Scalar.cmpi .ne v2 c0_i32_472
  let v900 : BitVec 32 := Scalar.extui v899
  let c0_i32_473 : BitVec 32 := 0#32
  let v901 : BitVec 1 := Scalar.cmpi .ne v900 c0_i32_473
  v901

def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_665 : BitVec 32 := 0#32
  ![v2.toNat, 0]
def k0_off15 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_664 : BitVec 32 := 0#32
  let c0_i32_671 : BitVec 32 := 0#32
  let c0_i32_672 : BitVec 32 := 0#32
  ![v2.toNat, 0, 0, 0]
def k0_dev8 : Nat :=
  let c0_i32_670 : BitVec 32 := 0#32
  let c0_i32_668 : BitVec 32 := 0#32
  let c1_i32_669 : BitVec 32 := 1#32
  let v1154 : BitVec 32 := Scalar.muli c0_i32_668 c1_i32_669
  let v1155 : BitVec 32 := Scalar.addi c0_i32_670 v1154
  v1155.toNat
def k0_cond18 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_474 : BitVec 32 := 1#32
  let v902 : BitVec 1 := Scalar.cmpi .ne v2 c1_i32_474
  let v903 : BitVec 32 := Scalar.extui v902
  let c0_i32_475 : BitVec 32 := 0#32
  let v904 : BitVec 1 := Scalar.cmpi .ne v903 c0_i32_475
  v904

def k0_off16 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_665 : BitVec 32 := 0#32
  ![v2.toNat, 0]
def k0_off17 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_664 : BitVec 32 := 0#32
  let c0_i32_671 : BitVec 32 := 0#32
  let c0_i32_672 : BitVec 32 := 0#32
  ![v2.toNat, 0, 0, 0]
def k0_dev9 : Nat :=
  let c0_i32_670 : BitVec 32 := 0#32
  let c1_i32_668 : BitVec 32 := 1#32
  let c1_i32_669 : BitVec 32 := 1#32
  let v1154 : BitVec 32 := Scalar.muli c1_i32_668 c1_i32_669
  let v1155 : BitVec 32 := Scalar.addi c0_i32_670 v1154
  v1155.toNat
def k0_cond19 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_476 : BitVec 32 := 2#32
  let v905 : BitVec 1 := Scalar.cmpi .ne v2 c2_i32_476
  let v906 : BitVec 32 := Scalar.extui v905
  let c0_i32_477 : BitVec 32 := 0#32
  let v907 : BitVec 1 := Scalar.cmpi .ne v906 c0_i32_477
  v907

def k0_off18 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_665 : BitVec 32 := 0#32
  ![v2.toNat, 0]
def k0_off19 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_664 : BitVec 32 := 0#32
  let c0_i32_671 : BitVec 32 := 0#32
  let c0_i32_672 : BitVec 32 := 0#32
  ![v2.toNat, 0, 0, 0]
def k0_dev10 : Nat :=
  let c0_i32_670 : BitVec 32 := 0#32
  let c2_i32_668 : BitVec 32 := 2#32
  let c1_i32_669 : BitVec 32 := 1#32
  let v1154 : BitVec 32 := Scalar.muli c2_i32_668 c1_i32_669
  let v1155 : BitVec 32 := Scalar.addi c0_i32_670 v1154
  v1155.toNat
def k0_cond20 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_478 : BitVec 32 := 3#32
  let v908 : BitVec 1 := Scalar.cmpi .ne v2 c3_i32_478
  let v909 : BitVec 32 := Scalar.extui v908
  let c0_i32_479 : BitVec 32 := 0#32
  let v910 : BitVec 1 := Scalar.cmpi .ne v909 c0_i32_479
  v910

def k0_off20 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_665 : BitVec 32 := 0#32
  ![v2.toNat, 0]
def k0_off21 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_664 : BitVec 32 := 0#32
  let c0_i32_671 : BitVec 32 := 0#32
  let c0_i32_672 : BitVec 32 := 0#32
  ![v2.toNat, 0, 0, 0]
def k0_dev11 : Nat :=
  let c0_i32_670 : BitVec 32 := 0#32
  let c3_i32_668 : BitVec 32 := 3#32
  let c1_i32_669 : BitVec 32 := 1#32
  let v1154 : BitVec 32 := Scalar.muli c3_i32_668 c1_i32_669
  let v1155 : BitVec 32 := Scalar.addi c0_i32_670 v1154
  v1155.toNat
def k0_cond25 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_499 : BitVec 32 := 0#32
  let v938 : BitVec 1 := Scalar.cmpi .ne v2 c0_i32_499
  let v939 : BitVec 32 := Scalar.extui v938
  let c0_i32_500 : BitVec 32 := 0#32
  let v940 : BitVec 1 := Scalar.cmpi .ne v939 c0_i32_500
  v940

def k0_off22 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_665 : BitVec 32 := 1#32
  ![v2.toNat, 1]
def k0_off23 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_664 : BitVec 32 := 1#32
  let c0_i32_671 : BitVec 32 := 0#32
  let c0_i32_672 : BitVec 32 := 0#32
  ![v2.toNat, 1, 0, 0]
def k0_dev12 : Nat :=
  let c0_i32_670 : BitVec 32 := 0#32
  let c0_i32_668 : BitVec 32 := 0#32
  let c1_i32_669 : BitVec 32 := 1#32
  let v1154 : BitVec 32 := Scalar.muli c0_i32_668 c1_i32_669
  let v1155 : BitVec 32 := Scalar.addi c0_i32_670 v1154
  v1155.toNat
def k0_cond26 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_501 : BitVec 32 := 1#32
  let v941 : BitVec 1 := Scalar.cmpi .ne v2 c1_i32_501
  let v942 : BitVec 32 := Scalar.extui v941
  let c0_i32_502 : BitVec 32 := 0#32
  let v943 : BitVec 1 := Scalar.cmpi .ne v942 c0_i32_502
  v943

def k0_off24 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_665 : BitVec 32 := 1#32
  ![v2.toNat, 1]
def k0_off25 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_664 : BitVec 32 := 1#32
  let c0_i32_671 : BitVec 32 := 0#32
  let c0_i32_672 : BitVec 32 := 0#32
  ![v2.toNat, 1, 0, 0]
def k0_dev13 : Nat :=
  let c0_i32_670 : BitVec 32 := 0#32
  let c1_i32_668 : BitVec 32 := 1#32
  let c1_i32_669 : BitVec 32 := 1#32
  let v1154 : BitVec 32 := Scalar.muli c1_i32_668 c1_i32_669
  let v1155 : BitVec 32 := Scalar.addi c0_i32_670 v1154
  v1155.toNat
def k0_cond27 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_503 : BitVec 32 := 2#32
  let v944 : BitVec 1 := Scalar.cmpi .ne v2 c2_i32_503
  let v945 : BitVec 32 := Scalar.extui v944
  let c0_i32_504 : BitVec 32 := 0#32
  let v946 : BitVec 1 := Scalar.cmpi .ne v945 c0_i32_504
  v946

def k0_off26 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_665 : BitVec 32 := 1#32
  ![v2.toNat, 1]
def k0_off27 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_664 : BitVec 32 := 1#32
  let c0_i32_671 : BitVec 32 := 0#32
  let c0_i32_672 : BitVec 32 := 0#32
  ![v2.toNat, 1, 0, 0]
def k0_dev14 : Nat :=
  let c0_i32_670 : BitVec 32 := 0#32
  let c2_i32_668 : BitVec 32 := 2#32
  let c1_i32_669 : BitVec 32 := 1#32
  let v1154 : BitVec 32 := Scalar.muli c2_i32_668 c1_i32_669
  let v1155 : BitVec 32 := Scalar.addi c0_i32_670 v1154
  v1155.toNat
def k0_cond28 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_505 : BitVec 32 := 3#32
  let v947 : BitVec 1 := Scalar.cmpi .ne v2 c3_i32_505
  let v948 : BitVec 32 := Scalar.extui v947
  let c0_i32_506 : BitVec 32 := 0#32
  let v949 : BitVec 1 := Scalar.cmpi .ne v948 c0_i32_506
  v949

def k0_off28 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_665 : BitVec 32 := 1#32
  ![v2.toNat, 1]
def k0_off29 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_664 : BitVec 32 := 1#32
  let c0_i32_671 : BitVec 32 := 0#32
  let c0_i32_672 : BitVec 32 := 0#32
  ![v2.toNat, 1, 0, 0]
def k0_dev15 : Nat :=
  let c0_i32_670 : BitVec 32 := 0#32
  let c3_i32_668 : BitVec 32 := 3#32
  let c1_i32_669 : BitVec 32 := 1#32
  let v1154 : BitVec 32 := Scalar.muli c3_i32_668 c1_i32_669
  let v1155 : BitVec 32 := Scalar.addi c0_i32_670 v1154
  v1155.toNat
def k0_cond33 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_526 : BitVec 32 := 0#32
  let v977 : BitVec 1 := Scalar.cmpi .ne v2 c0_i32_526
  let v978 : BitVec 32 := Scalar.extui v977
  let c0_i32_527 : BitVec 32 := 0#32
  let v979 : BitVec 1 := Scalar.cmpi .ne v978 c0_i32_527
  v979

def k0_off30 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_665 : BitVec 32 := 2#32
  ![v2.toNat, 2]
def k0_off31 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_664 : BitVec 32 := 2#32
  let c0_i32_671 : BitVec 32 := 0#32
  let c0_i32_672 : BitVec 32 := 0#32
  ![v2.toNat, 2, 0, 0]
def k0_dev16 : Nat :=
  let c0_i32_670 : BitVec 32 := 0#32
  let c0_i32_668 : BitVec 32 := 0#32
  let c1_i32_669 : BitVec 32 := 1#32
  let v1154 : BitVec 32 := Scalar.muli c0_i32_668 c1_i32_669
  let v1155 : BitVec 32 := Scalar.addi c0_i32_670 v1154
  v1155.toNat
def k0_cond34 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_528 : BitVec 32 := 1#32
  let v980 : BitVec 1 := Scalar.cmpi .ne v2 c1_i32_528
  let v981 : BitVec 32 := Scalar.extui v980
  let c0_i32_529 : BitVec 32 := 0#32
  let v982 : BitVec 1 := Scalar.cmpi .ne v981 c0_i32_529
  v982

def k0_off32 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_665 : BitVec 32 := 2#32
  ![v2.toNat, 2]
def k0_off33 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_664 : BitVec 32 := 2#32
  let c0_i32_671 : BitVec 32 := 0#32
  let c0_i32_672 : BitVec 32 := 0#32
  ![v2.toNat, 2, 0, 0]
def k0_dev17 : Nat :=
  let c0_i32_670 : BitVec 32 := 0#32
  let c1_i32_668 : BitVec 32 := 1#32
  let c1_i32_669 : BitVec 32 := 1#32
  let v1154 : BitVec 32 := Scalar.muli c1_i32_668 c1_i32_669
  let v1155 : BitVec 32 := Scalar.addi c0_i32_670 v1154
  v1155.toNat
def k0_cond35 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_530 : BitVec 32 := 2#32
  let v983 : BitVec 1 := Scalar.cmpi .ne v2 c2_i32_530
  let v984 : BitVec 32 := Scalar.extui v983
  let c0_i32_531 : BitVec 32 := 0#32
  let v985 : BitVec 1 := Scalar.cmpi .ne v984 c0_i32_531
  v985

def k0_off34 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_665 : BitVec 32 := 2#32
  ![v2.toNat, 2]
def k0_off35 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_664 : BitVec 32 := 2#32
  let c0_i32_671 : BitVec 32 := 0#32
  let c0_i32_672 : BitVec 32 := 0#32
  ![v2.toNat, 2, 0, 0]
def k0_dev18 : Nat :=
  let c0_i32_670 : BitVec 32 := 0#32
  let c2_i32_668 : BitVec 32 := 2#32
  let c1_i32_669 : BitVec 32 := 1#32
  let v1154 : BitVec 32 := Scalar.muli c2_i32_668 c1_i32_669
  let v1155 : BitVec 32 := Scalar.addi c0_i32_670 v1154
  v1155.toNat
def k0_cond36 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_532 : BitVec 32 := 3#32
  let v986 : BitVec 1 := Scalar.cmpi .ne v2 c3_i32_532
  let v987 : BitVec 32 := Scalar.extui v986
  let c0_i32_533 : BitVec 32 := 0#32
  let v988 : BitVec 1 := Scalar.cmpi .ne v987 c0_i32_533
  v988

def k0_off36 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_665 : BitVec 32 := 2#32
  ![v2.toNat, 2]
def k0_off37 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_664 : BitVec 32 := 2#32
  let c0_i32_671 : BitVec 32 := 0#32
  let c0_i32_672 : BitVec 32 := 0#32
  ![v2.toNat, 2, 0, 0]
def k0_dev19 : Nat :=
  let c0_i32_670 : BitVec 32 := 0#32
  let c3_i32_668 : BitVec 32 := 3#32
  let c1_i32_669 : BitVec 32 := 1#32
  let v1154 : BitVec 32 := Scalar.muli c3_i32_668 c1_i32_669
  let v1155 : BitVec 32 := Scalar.addi c0_i32_670 v1154
  v1155.toNat
def k0_cond41 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_553 : BitVec 32 := 0#32
  let v1016 : BitVec 1 := Scalar.cmpi .ne v2 c0_i32_553
  let v1017 : BitVec 32 := Scalar.extui v1016
  let c0_i32_554 : BitVec 32 := 0#32
  let v1018 : BitVec 1 := Scalar.cmpi .ne v1017 c0_i32_554
  v1018

def k0_off38 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_665 : BitVec 32 := 3#32
  ![v2.toNat, 3]
def k0_off39 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_664 : BitVec 32 := 3#32
  let c0_i32_671 : BitVec 32 := 0#32
  let c0_i32_672 : BitVec 32 := 0#32
  ![v2.toNat, 3, 0, 0]
def k0_dev20 : Nat :=
  let c0_i32_670 : BitVec 32 := 0#32
  let c0_i32_668 : BitVec 32 := 0#32
  let c1_i32_669 : BitVec 32 := 1#32
  let v1154 : BitVec 32 := Scalar.muli c0_i32_668 c1_i32_669
  let v1155 : BitVec 32 := Scalar.addi c0_i32_670 v1154
  v1155.toNat
def k0_cond42 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_555 : BitVec 32 := 1#32
  let v1019 : BitVec 1 := Scalar.cmpi .ne v2 c1_i32_555
  let v1020 : BitVec 32 := Scalar.extui v1019
  let c0_i32_556 : BitVec 32 := 0#32
  let v1021 : BitVec 1 := Scalar.cmpi .ne v1020 c0_i32_556
  v1021

def k0_off40 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_665 : BitVec 32 := 3#32
  ![v2.toNat, 3]
def k0_off41 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_664 : BitVec 32 := 3#32
  let c0_i32_671 : BitVec 32 := 0#32
  let c0_i32_672 : BitVec 32 := 0#32
  ![v2.toNat, 3, 0, 0]
def k0_dev21 : Nat :=
  let c0_i32_670 : BitVec 32 := 0#32
  let c1_i32_668 : BitVec 32 := 1#32
  let c1_i32_669 : BitVec 32 := 1#32
  let v1154 : BitVec 32 := Scalar.muli c1_i32_668 c1_i32_669
  let v1155 : BitVec 32 := Scalar.addi c0_i32_670 v1154
  v1155.toNat
def k0_cond43 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_557 : BitVec 32 := 2#32
  let v1022 : BitVec 1 := Scalar.cmpi .ne v2 c2_i32_557
  let v1023 : BitVec 32 := Scalar.extui v1022
  let c0_i32_558 : BitVec 32 := 0#32
  let v1024 : BitVec 1 := Scalar.cmpi .ne v1023 c0_i32_558
  v1024

def k0_off42 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_665 : BitVec 32 := 3#32
  ![v2.toNat, 3]
def k0_off43 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_664 : BitVec 32 := 3#32
  let c0_i32_671 : BitVec 32 := 0#32
  let c0_i32_672 : BitVec 32 := 0#32
  ![v2.toNat, 3, 0, 0]
def k0_dev22 : Nat :=
  let c0_i32_670 : BitVec 32 := 0#32
  let c2_i32_668 : BitVec 32 := 2#32
  let c1_i32_669 : BitVec 32 := 1#32
  let v1154 : BitVec 32 := Scalar.muli c2_i32_668 c1_i32_669
  let v1155 : BitVec 32 := Scalar.addi c0_i32_670 v1154
  v1155.toNat
def k0_cond44 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_559 : BitVec 32 := 3#32
  let v1025 : BitVec 1 := Scalar.cmpi .ne v2 c3_i32_559
  let v1026 : BitVec 32 := Scalar.extui v1025
  let c0_i32_560 : BitVec 32 := 0#32
  let v1027 : BitVec 1 := Scalar.cmpi .ne v1026 c0_i32_560
  v1027

def k0_off44 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_665 : BitVec 32 := 3#32
  ![v2.toNat, 3]
def k0_off45 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_664 : BitVec 32 := 3#32
  let c0_i32_671 : BitVec 32 := 0#32
  let c0_i32_672 : BitVec 32 := 0#32
  ![v2.toNat, 3, 0, 0]
def k0_dev23 : Nat :=
  let c0_i32_670 : BitVec 32 := 0#32
  let c3_i32_668 : BitVec 32 := 3#32
  let c1_i32_669 : BitVec 32 := 1#32
  let v1154 : BitVec 32 := Scalar.muli c3_i32_668 c1_i32_669
  let v1155 : BitVec 32 := Scalar.addi c0_i32_670 v1154
  v1155.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x4096 : Shape := ⟨2, ![1024, 4096]⟩
abbrev S1x1024x32x128 : Shape := ⟨4, ![1, 1024, 32, 128]⟩
abbrev S4096x1024 : Shape := ⟨2, ![4096, 1024]⟩
abbrev S1x1024x4096 : Shape := ⟨3, ![1, 1024, 4096]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S1x32x1024x1024 : Shape := ⟨4, ![1, 32, 1024, 1024]⟩
abbrev S1x1x1024x1024 : Shape := ⟨4, ![1, 1, 1024, 1024]⟩
abbrev S1x32x1024 : Shape := ⟨3, ![1, 32, 1024]⟩
abbrev S1x32x1024x1 : Shape := ⟨4, ![1, 32, 1024, 1]⟩
abbrev S1x1x1024x1 : Shape := ⟨4, ![1, 1, 1024, 1]⟩
abbrev S1x32x128x1024 : Shape := ⟨4, ![1, 32, 128, 1024]⟩

abbrev nBuf : Space → Nat
  | .hbm => 57
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x4096, .f32⟩
  | .hbm, ⟨2, _⟩ => ⟨S1x1024x32x128, .f32⟩
  | .hbm, ⟨3, _⟩ => ⟨S1x1024x32x128, .f32⟩
  | .hbm, ⟨4, _⟩ => ⟨S4096x1024, .f32⟩
  | .hbm, ⟨5, _⟩ => ⟨S1x1024x4096, .f32⟩
  | .hbm, ⟨6, _⟩ => ⟨S1x1024x32x128, .f32⟩
  | .hbm, ⟨7, _⟩ => ⟨S1024, .i32⟩
  | .hbm, ⟨8, _⟩ => ⟨S1024x1, .i32⟩
  | .hbm, ⟨9, _⟩ => ⟨S1024, .i32⟩
  | .hbm, ⟨10, _⟩ => ⟨S1x1024, .i32⟩
  | .hbm, ⟨11, _⟩ => ⟨S1024x1024, .i32⟩
  | .hbm, ⟨12, _⟩ => ⟨S1024x1024, .i32⟩
  | .hbm, ⟨13, _⟩ => ⟨S1024x1024, .i32⟩
  | .hbm, ⟨14, _⟩ => ⟨S1024x1024, .i32⟩
  | .hbm, ⟨15, _⟩ => ⟨S_, .i32⟩
  | .hbm, ⟨16, _⟩ => ⟨S1024x1024, .i32⟩
  | .hbm, ⟨17, _⟩ => ⟨S1024x1024, .i1⟩
  | .hbm, ⟨18, _⟩ => ⟨S1x32x1024x1024, .f32⟩
  | .hbm, ⟨19, _⟩ => ⟨S_, .f32⟩
  | .hbm, ⟨20, _⟩ => ⟨S1x32x1024x1024, .f32⟩
  | .hbm, ⟨21, _⟩ => ⟨S1x32x1024x1024, .f32⟩
  | .hbm, ⟨22, _⟩ => ⟨S1x1x1024x1024, .i1⟩
  | .hbm, ⟨23, _⟩ => ⟨S_, .f32⟩
  | .hbm, ⟨24, _⟩ => ⟨S_, .f32⟩
  | .hbm, ⟨25, _⟩ => ⟨S1x32x1024x1024, .i1⟩
  | .hbm, ⟨26, _⟩ => ⟨S1x32x1024x1024, .f32⟩
  | .hbm, ⟨27, _⟩ => ⟨S1x32x1024x1024, .f32⟩
  | .hbm, ⟨28, _⟩ => ⟨S_, .f32⟩
  | .hbm, ⟨29, _⟩ => ⟨S1x32x1024, .f32⟩
  | .hbm, ⟨30, _⟩ => ⟨S1x32x1024x1, .f32⟩
  | .hbm, ⟨31, _⟩ => ⟨S1x32x1024x1024, .f32⟩
  | .hbm, ⟨32, _⟩ => ⟨S1x32x1024x1024, .f32⟩
  | .hbm, ⟨33, _⟩ => ⟨S1x32x1024x1024, .f32⟩
  | .hbm, ⟨34, _⟩ => ⟨S_, .i1⟩
  | .hbm, ⟨35, _⟩ => ⟨S1024, .i1⟩
  | .hbm, ⟨36, _⟩ => ⟨S1x1x1024x1, .i1⟩
  | .hbm, ⟨37, _⟩ => ⟨S_, .f32⟩
  | .hbm, ⟨38, _⟩ => ⟨S1x32x1024, .f32⟩
  | .hbm, ⟨39, _⟩ => ⟨S1x32x1024x1, .f32⟩
  | .hbm, ⟨40, _⟩ => ⟨S_, .f32⟩
  | .hbm, ⟨41, _⟩ => ⟨S_, .f32⟩
  | .hbm, ⟨42, _⟩ => ⟨S1x32x1024x1, .i1⟩
  | .hbm, ⟨43, _⟩ => ⟨S1x32x1024x1, .f32⟩
  | .hbm, ⟨44, _⟩ => ⟨S1x32x1024x1, .f32⟩
  | .hbm, ⟨45, _⟩ => ⟨S1x32x1024x1024, .f32⟩
  | .hbm, ⟨46, _⟩ => ⟨S1x32x1024x1024, .f32⟩
  | .hbm, ⟨47, _⟩ => ⟨S1x1x1024x1, .i1⟩
  | .hbm, ⟨48, _⟩ => ⟨S_, .f32⟩
  | .hbm, ⟨49, _⟩ => ⟨S_, .f32⟩
  | .hbm, ⟨50, _⟩ => ⟨S1x32x1024x1024, .i1⟩
  | .hbm, ⟨51, _⟩ => ⟨S1x32x1024x1024, .f32⟩
  | .hbm, ⟨52, _⟩ => ⟨S1x32x1024x1024, .f32⟩
  | .hbm, ⟨53, _⟩ => ⟨S1x32x128x1024, .f32⟩
  | .hbm, ⟨54, _⟩ => ⟨S1x1024x32x128, .f32⟩
  | .hbm, ⟨55, _⟩ => ⟨S1x1024x4096, .f32⟩
  | .hbm, ⟨56, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Cont.lean ====
/-
  What every buffer of the kernel holds once it has been filled, as closed functions of the arrays that enter the kernel on
  ALL devices (`V c` is device `c`'s memory on entry).

    wqC, woC   the slices of Wq and Wo that belong to the device's own heads
    accG c r   at step r (0..3) device c's partial output for the chunk (c + 1 + r) mod 4 of the rows: attention of the
               device's heads on 256 rows, times its slice of Wo
    pC         the three partial outputs that are sent away, rounded to bf16
    rsC c      what device c has received: slab j is device j's partial output for chunk c (slab c is its own)
    redV c q   the sum of the four slabs on rows 64 q .. 64 q + 63
    agC        the same on every device: slab (j, q) is redV j q rounded
    outC c     the result: the own chunk unrounded, the other chunks from agC
-/
module

public import proofs.«01_k».proof.Defs
public import proofs.«01_k».proof.Proof.Gen.KernelIdeal
public import proofs.«01_k».proof.Proof.Gen.KernelIdeal.Skeleton

@[expose] public section
noncomputable section
namespace Cert.Proof.K

open Idealize.ShloMosaic Idealize.ShloMosaic.TcCoe Idealize.SL.Sem
open Cert.KernelIdeal Cert.KernelIdeal.Gen

variable {F : FTy → Type} [FloatOps F] [Named F]

/-! ## The attention block, as pure operations -/

/-- Exponentials of the masked, scaled scores of one head. -/
def expS (mk : IVec S256x512 1) (qh : FVec F S256x128 .f32) (kl : Vec F S1x512x128 .f32) : FVec F S256x512 .f32 :=
  exp (select mk
    (mulf (matmul dot_S256x128_S512x128_S256x512_1_1_0_0_n_n none qh (shapeCast S512x128 kl shapeCasts_S1x512x128_S512x128)
        (constant S256x512 .f32 0x00000000#32))
      (broadcast S256x512 (Scalar.ofBits .f32 0x3DB504F3#32 : F .f32)))
    (broadcast S256x512 (Named.named κ "mask" 0xCE6E6B28#32 : F .f32)))

/-- One head's output: the weighted rows of V, times one over the row's sum of weights. -/
def headO (mk : IVec S256x512 1) (qh : FVec F S256x128 .f32) (kl vl : Vec F S1x512x128 .f32) : FVec F S256x128 .f32 :=
  mulf (matmul dot_S256x512_S512x128_S256x128_1_0_0_1_n_n none (expS mk qh kl) (shapeCast S512x128 vl shapeCasts_S1x512x128_S512x128)
      (constant S256x128 .f32 0x00000000#32))
    (broadcastTo S256x128
      (divf (broadcast S256x1 (Scalar.ofBits .f32 0x3F800000#32 : F .f32))
        (shapeCast S256x1 (multiReduction .add [1] S256 (expS mk qh kl) 0x00000000#32 reduces_S256x512_S256 (.inl rfl) rfl) shapeCasts_S256_S256x1))
      broadcasts_S256x1_S256x128)

/-- The eight heads side by side. -/
def ctxO (mk : IVec S256x512 1) (q : FVec F S256x1024 .f32) (kl vl : Fin 8 → Vec F S1x512x128 .f32) : FVec F S256x1024 .f32 :=
  concatenate S256x1024 1
    [⟨S256x128, headO mk (extractStridedSlice S256x128 ![0, 0] q slices_S256x1024_o0_0_S256x128) (kl 0) (vl 0)⟩,
     ⟨S256x128, headO mk (extractStridedSlice S256x128 ![0, 128] q slices_S256x1024_o0_128_S256x128) (kl 1) (vl 1)⟩,
     ⟨S256x128, headO mk (extractStridedSlice S256x128 ![0, 256] q slices_S256x1024_o0_256_S256x128) (kl 2) (vl 2)⟩,
     ⟨S256x128, headO mk (extractStridedSlice S256x128 ![0, 384] q slices_S256x1024_o0_384_S256x128) (kl 3) (vl 3)⟩,
     ⟨S256x128, headO mk (extractStridedSlice S256x128 ![0, 512] q slices_S256x1024_o0_512_S256x128) (kl 4) (vl 4)⟩,
     ⟨S256x128, headO mk (extractStridedSlice S256x128 ![0, 640] q slices_S256x1024_o0_640_S256x128) (kl 5) (vl 5)⟩,
     ⟨S256x128, headO mk (extractStridedSlice S256x128 ![0, 768] q slices_S256x1024_o0_768_S256x128) (kl 6) (vl 6)⟩,
     ⟨S256x128, headO mk (extractStridedSlice S256x128 ![0, 896] q slices_S256x1024_o0_896_S256x128) (kl 7) (vl 7)⟩]
    concatenates_S256x128_S256x128_S256x128_S256x128_S256x128_S256x128_S256x128_S256x128_S256x1024_d1

/-- The heads' outputs times the slice of Wo. -/
def accO (mk : IVec S256x512 1) (q : FVec F S256x1024 .f32) (kl vl : Fin 8 → Vec F S1x512x128 .f32) (wo : Vec F S1024x1024 .f32) :
    FVec F S256x1024 .f32 :=
  matmul dot_S256x1024_S1024x1024_S256x1024_1_0_0_1_n_n none (ctxO mk q kl vl) wo (constant S256x1024 .f32 0x00000000#32)

/-- The rows' queries. -/
def qO (x : Vec F S256x1024 .f32) (wq : Vec F S1024x1024 .f32) : FVec F S256x1024 .f32 :=
  matmul dot_S256x1024_S1024x1024_S256x1024_1_0_0_1_n_n none (shapeCast S256x1024 x shapeCasts_S256x1024_S256x1024) wq
    (constant S256x1024 .f32 0x00000000#32)

/-- The window's mask: row `st + i` against key `ks + j`, no further apart than 128. -/
def maskO (st ks : BitVec 32) : IVec S256x512 1 :=
  cmpi .sle (absi (subi (addi (iota .tc S256x512 32 [0] iota_S256x512_d0_w32) (broadcast S256x512 st))
    (addi (iota .tc S256x512 32 [1] iota_S256x512_d1_w32) (broadcast S256x512 ks)))) (broadcast S256x512 128#32)

/-! ## The scalar words -/

/-- The device's place on the axis. -/
abbrev meW (c : Dev nD) : BitVec 32 := Scalar.remsi (Scalar.divsi (Dev.word c) 1#32) 4#32
/-- The chunk handled at the step whose word is `s`. -/
abbrev tgtW (c : Dev nD) (s : BitVec 32) : BitVec 32 :=
  Scalar.select
    (Scalar.andi (Scalar.xori (Scalar.cmpi .slt (Scalar.remsi (Scalar.addi (Scalar.addi (meW c) 1#32) s) (Scalar.select (Scalar.cmpi .eq 4#32 0#32) 1#32 4#32)) 0#32)
        (Scalar.cmpi .slt (Scalar.select (Scalar.cmpi .eq 4#32 0#32) 1#32 4#32) 0#32))
      (Scalar.cmpi .ne (Scalar.remsi (Scalar.addi (Scalar.addi (meW c) 1#32) s) (Scalar.select (Scalar.cmpi .eq 4#32 0#32) 1#32 4#32)) 0#32))
    (Scalar.addi (Scalar.remsi (Scalar.addi (Scalar.addi (meW c) 1#32) s) (Scalar.select (Scalar.cmpi .eq 4#32 0#32) 1#32 4#32)) (Scalar.select (Scalar.cmpi .eq 4#32 0#32) 1#32 4#32))
    (Scalar.remsi (Scalar.addi (Scalar.addi (meW c) 1#32) s) (Scalar.select (Scalar.cmpi .eq 4#32 0#32) 1#32 4#32))
/-- The first row of that chunk. -/
abbrev stW (c : Dev nD) (s : BitVec 32) : BitVec 32 := Scalar.muli (tgtW c s) 256#32
/-- The first key of the window. -/
abbrev ksW (c : Dev nD) (s : BitVec 32) : BitVec 32 := Scalar.minsi 512#32 (Scalar.maxsi 0#32 (Scalar.subi (stW c s) 128#32))

/-- The step's word. -/
abbrev rw (r : Fin 4) : BitVec 32 := BitVec.ofNat 32 r.val

/-- The chunk of device `c`'s step `r`. -/
def nxt (c : Dev nD) (r : Fin 4) : Dev nD := c + 1 + r
/-- The step at which device `j` handles chunk `c`. -/
def stepOf (j c : Dev nD) : Fin 4 := c - j - 1

theorem nxt_stepOf : ∀ j c : Dev nD, nxt j (stepOf j c) = c := by decide
theorem stepOf_nxt : ∀ (c : Dev nD) (r : Fin 4), stepOf c (nxt c r) = r := by decide
theorem stepOf_self : ∀ c : Dev nD, stepOf c c = 3 := by decide
theorem nxt_three : ∀ c : Dev nD, nxt c 3 = c := by decide
theorem nxt_ne : ∀ (c : Dev nD) (s : Fin 3), nxt c s.castSucc ≠ c := by decide
theorem stepOf_lt : ∀ (j c : Dev nD), j ≠ c → (stepOf j c).val < 3 := by decide
theorem tgtW_eq : ∀ (c : Dev nD) (r : Fin 4), tgtW c (rw r) = BitVec.ofNat 32 (nxt c r).val := by decide

/-! ## What the buffers hold -/

variable (V : (c : Dev nD) → Valuation τ sig (Elt F))

/-- The device's own columns of Wq. -/
def wqC (c : Dev nD) : S1024x1024.Idx → Elt F .f32 :=
  ((Memref.whole main_arg1).slice (Rect.unit (s := S1024x4096) (k0_off1 c) S1024x1024.size (k0_off1_inb c)) (fun _ => rfl)).view.read (Elt F) (V c main_arg1)
/-- The device's own rows of Wo. -/
def woC (c : Dev nD) : S1024x1024.Idx → Elt F .f32 :=
  ((Memref.whole main_arg4).slice (Rect.unit (s := S4096x1024) (k0_off2 c) S1024x1024.size (k0_off2_inb c)) (fun _ => rfl)).view.read (Elt F) (V c main_arg4)

/-- The rows of x of step `r`. -/
def xL (c : Dev nD) (r : Fin 4) : Vec F S256x1024 .f32 :=
  (Memref.whole main_v1).view.readAt (Elt F) (Rect.unit (s := S1024x1024) (k0_off3 c (rw r)) S256x1024.size (k0_off3_inb c r)).toLoadRect (V c main_v1)
/-- A window of the keys (`b` = main_v3) or values (`b` = main_v5) at offsets `o`. -/
def kvL (f : S8x1024x128.Idx → Elt F .f32) (o : Fin 3 → Nat) (h : ∀ a, o a + S1x512x128.size a ≤ S8x1024x128.size a) : Vec F S1x512x128 .f32 :=
  (Memref.whole main_v3).view.readAt (Elt F) (Rect.unit (s := S8x1024x128) o S1x512x128.size h).toLoadRect f
/-- Head by head, the window of step `r`. -/
def winL (f : S8x1024x128.Idx → Elt F .f32) (c : Dev nD) (r : Fin 4) : Fin 8 → Vec F S1x512x128 .f32
  | 0 => kvL f (k0_off4 c (rw r)) (k0_off4_inb c r)
  | 1 => kvL f (k0_off5 c (rw r)) (k0_off5_inb c r)
  | 2 => kvL f (k0_off6 c (rw r)) (k0_off6_inb c r)
  | 3 => kvL f (k0_off7 c (rw r)) (k0_off7_inb c r)
  | 4 => kvL f (k0_off8 c (rw r)) (k0_off8_inb c r)
  | 5 => kvL f (k0_off9 c (rw r)) (k0_off9_inb c r)
  | 6 => kvL f (k0_off10 c (rw r)) (k0_off10_inb c r)
  | 7 => kvL f (k0_off11 c (rw r)) (k0_off11_inb c r)

/-- The whole of a 1024x1024 buffer, as a load reads it. -/
def allL (f : S1024x1024.Idx → Elt F .f32) : Vec F S1024x1024 .f32 :=
  (Memref.whole cc0_scratch0).view.readAt (Elt F) (Rect.unit (s := S1024x1024) ![0, 0] S1024x1024.size inb_S1024x1024_S1024x1024_0_0).toLoadRect f

def qG (c : Dev nD) (r : Fin 4) : FVec F S256x1024 .f32 := qO (xL V c r) (allL (wqC V c))
def mkG (c : Dev nD) (r : Fin 4) : IVec S256x512 1 := maskO (stW c (rw r)) (ksW c (rw r))

/-- Device `c`'s partial output of step `r`. -/
def accG (c : Dev nD) (r : Fin 4) : FVec F S256x1024 .f32 :=
  accO (mkG c r) (qG V c r) (winL (V c main_v3) c r) (winL (V c main_v5) c r) (allL (woC V c))

/-- Rounded. -/
def accB (c : Dev nD) (r : Fin 4) : FVec F S256x1024 .bf16 := truncf .bf16 (accG V c r) bitsLt_bf16_f32

/-- An index of a slab of 256 rows, from the buffer's. -/
def ix2 (a : Fin 256) (b : Fin 1024) : S256x1024.Idx := fun | 0 => a | 1 => b

/-- The three partial outputs sent away. -/
def pC (c : Dev nD) : S3x256x1024.Idx → Elt F .bf16 := fun i => accB V c (Fin.castLE (by decide) (i 0 : Fin 3)) (ix2 (i 1) (i 2))
/-- The four partial outputs of the own chunk. -/
def rsC (c : Dev nD) : S4x256x1024.Idx → Elt F .bf16 := fun i => accB V (i 0) (stepOf (i 0) c) (ix2 (i 1) (i 2))

/-- Rows `o 1 ..` of slab `o 0` of what was received, as a load of 64 rows reads them. -/
def rsL (c : Dev nD) (o : Fin 3 → Nat) (h : ∀ a, o a + S1x64x1024.size a ≤ S4x256x1024.size a) : Vec F S1x64x1024 .bf16 :=
  (Memref.whole cc0_scratch3).view.readAt (Elt F) (Rect.unit (s := S4x256x1024) o S1x64x1024.size h).toLoadRect (rsC V c)

theorem rsL_inb (a q : Fin 4) : ∀ i, (![a.val, 64 * q.val, 0] : Fin 3 → Nat) i + S1x64x1024.size i ≤ S4x256x1024.size i := by
  revert a q; decide

/-- The sum of the four slabs, on the rows of quarter `q`. -/
def redV (c : Dev nD) (q : Fin 4) : FVec F S64x1024 .f32 :=
  k0_pay80 (k0_pay79 (rsL V c ![0, 64 * q.val, 0] (rsL_inb 0 q)) (rsL V c ![1, 64 * q.val, 0] (rsL_inb 1 q)))
    (rsL V c ![2, 64 * q.val, 0] (rsL_inb 2 q)) (rsL V c ![3, 64 * q.val, 0] (rsL_inb 3 q))
/-- Rounded. -/
def redB (c : Dev nD) (q : Fin 4) : FVec F S64x1024 .bf16 := truncf .bf16 (redV V c q) bitsLt_bf16_f32

/-- An index of a quarter, from the buffer's. -/
def ix2' (a : Fin 64) (b : Fin 1024) : S64x1024.Idx := fun | 0 => a | 1 => b

/-- All devices' rounded sums: what is gathered, the same on every device. -/
def agC : S4x4x64x1024.Idx → Elt F .bf16 := fun i => redB V (i 0) (i 1) (ix2' (i 2) (i 3))

/-- Rows `64 q ..` of chunk `j` of the result of device `c`. -/
def outQ (c j : Dev nD) (q : Fin 4) : FVec F S64x1024 .f32 :=
  if j = c then redV V c q else extf .f32 (redB V j q) bitsLt_bf16_f32

/-- Whether a row of the result lies in quarter `q` of chunk `j`. -/
def InQ (j q : Fin 4) (i : S1024x1024.Idx) : Prop := 256 * j.val + 64 * q.val ≤ (i 0).val ∧ (i 0).val < 256 * j.val + 64 * q.val + 64

/-- The result. -/
def outC (c : Dev nD) : S1024x1024.Idx → Elt F .f32 := fun i =>
  outQ V c ⟨(i 0).val / 256, Nat.div_lt_of_lt_mul (i 0).isLt⟩ ⟨(i 0).val % 256 / 64, Nat.div_lt_of_lt_mul (Nat.mod_lt _ (by decide))⟩
    (ix2' ⟨(i 0).val % 64, Nat.mod_lt _ (by decide)⟩ (i 1))

end Cert.Proof.K
-- ==== Proof.Proto.lean ====
/-
  The kernel's protocol across the four devices: its semaphore cells, who pays each of them, how much and with what contents.

    bar        c's barrier: one unit from each other device p, with p's landing slots for what c will send it
    ld i       the two local copies of the weights (Wq's columns, Wo's rows)
    rsS s      c's own copy of step s has been read: the partial output back
    rsR j      device j's partial output for chunk c has landed in c's slab j
    agS p q    c's copy of quarter q to device p has been read: its share of the quarter back
    agR j q    device j's sum for quarter q has landed in c's slab (j, q)

  Levels: bar 1, rsR 2, agR 3, the others 0; a wait is made while owing only what lies above it.
-/
module

public import proofs.«01_k».proof.Proof.Cont
public import Idealize.ShloMosaic.Lib.Pipeline.Regions
public import Idealize.ShloMosaic.Lib.Pipeline.Kit
public import Idealize.ShloMosaic.Lib.Pipeline.RegionTalk
public import Idealize.ShloMosaic.Lib.Pipeline.Value
public import Idealize.ShloMosaic.Lib.Rounds
public import Idealize.ShloMosaic.Lib.Tactic
public import Idealize.ShloMosaic.Lib.ViewIndex

@[expose] public section
noncomputable section
namespace Cert.Proof.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

/-! ## The resource algebra: the pipeline library's copy and the protocol's -/

abbrev UT : Type := Rounds.URounds (GSem nD τ sig) (Fin 4)
abbrev UU : Type := UR sig nD τ × UT
local notation "𝕄" => MT nD τ sig Unit (Elt F) ℕ UU ℕ

abbrev EP : Emb (UR sig nD τ) (MT nD τ sig Unit (Elt F) ℕ UU ℕ) := embL
abbrev ER : Emb UT (MT nD τ sig Unit (Elt F) ℕ UU ℕ) := embR

/-! ## The cells -/

inductive Kd where
  | bar
  | ld (i : Fin 2)
  | rsS (s : Fin 3)
  | rsR (j : Fin 4)
  | agS (p q : Fin 4)
  | agR (j q : Fin 4)
deriving DecidableEq, Fintype

/-- The semaphore of a kind. -/
def sl : Kd → SemLoc sig
  | .bar => .reg (sig.barrier 0 rfl)
  | .ld i => .dma ⟨4 + i.val, by have := i.isLt; show _ < 45; omega⟩
  | .rsS s => .dma ⟨6 + s.val, by have := s.isLt; show _ < 45; omega⟩
  | .rsR j => .dma ⟨9 + j.val, by have := j.isLt; show _ < 45; omega⟩
  | .agS p q => .dma ⟨13 + 4 * p.val + q.val, by have := p.isLt; have := q.isLt; show _ < 45; omega⟩
  | .agR j q => .dma ⟨29 + 4 * j.val + q.val, by have := j.isLt; have := q.isLt; show _ < 45; omega⟩

/-- The kind of a semaphore, if it is one of the protocol's. -/
def kd : SemLoc sig → Option Kd
  | .reg s => if s = sig.barrier 0 rfl then some .bar else none
  | .dma s =>
    if s.val < 4 then none
    else if h : s.val < 6 then some (.ld ⟨s.val - 4, by omega⟩)
    else if h : s.val < 9 then some (.rsS ⟨s.val - 6, by omega⟩)
    else if h : s.val < 13 then some (.rsR ⟨s.val - 9, by omega⟩)
    else if h : s.val < 29 then some (.agS ⟨(s.val - 13) / 4, by omega⟩ ⟨(s.val - 13) % 4, by omega⟩)
    else if h : s.val < 45 then some (.agR ⟨(s.val - 29) / 4, by omega⟩ ⟨(s.val - 29) % 4, by omega⟩)
    else none

theorem kd_sl : ∀ k, kd (sl k) = some k
  | .bar => rfl
  | .ld i => by revert i; decide
  | .rsS s => by revert s; decide
  | .rsR j => by revert j; decide
  | .agS p q => by revert p q; decide
  | .agR j q => by revert j q; decide
theorem sl_inj {k k' : Kd} (h : sl k = sl k') : k = k' := Option.some.inj (by rw [← kd_sl k, h, kd_sl])

abbrev cell (c : Dev nD) (k : Kd) : GSem nD τ sig := ((c : Thread nD τ), sl k)

theorem cell_inj {c c' : Dev nD} {k k' : Kd} (h : cell c k = cell c' k') : c = c' ∧ k = k' :=
  ⟨congrArg (fun g => g.1.1) h, sl_inj (congrArg (fun g => g.2) h)⟩

/-! ## The buffers' parts -/

abbrev wqM (c : Dev nD) : Memref sig .tc .hbm S1024x1024 .f32 :=
  (Memref.whole main_arg1).slice (Rect.unit (s := S1024x4096) (k0_off1 c) S1024x1024.size (k0_off1_inb c)) (fun _ => rfl)
abbrev woM (c : Dev nD) : Memref sig .tc .hbm S1024x1024 .f32 :=
  (Memref.whole main_arg4).slice (Rect.unit (s := S4096x1024) (k0_off2 c) S1024x1024.size (k0_off2_inb c)) (fun _ => rfl)
abbrev pM (o : Fin 3 → Nat) (h : ∀ a, o a + S1x256x1024.size a ≤ S3x256x1024.size a) : Memref sig .tc .vmem S256x1024 .bf16 :=
  ((Memref.whole cc0_scratch2).slice (Rect.unit (s := S3x256x1024) o S1x256x1024.size h) (fun _ => rfl)).squeeze S256x1024 squeezes_S1x256x1024_S256x1024
abbrev rM (o : Fin 3 → Nat) (h : ∀ a, o a + S1x256x1024.size a ≤ S4x256x1024.size a) : Memref sig .tc .vmem S256x1024 .bf16 :=
  ((Memref.whole cc0_scratch3).slice (Rect.unit (s := S4x256x1024) o S1x256x1024.size h) (fun _ => rfl)).squeeze S256x1024 squeezes_S1x256x1024_S256x1024
abbrev aM (o : Fin 4 → Nat) (h : ∀ a, o a + S1x1x64x1024.size a ≤ S4x4x64x1024.size a) : Memref sig .tc .vmem S64x1024 .bf16 :=
  ((Memref.whole cc0_scratch4).slice (Rect.unit (s := S4x4x64x1024) o S1x1x64x1024.size h) (fun _ => rfl)).squeeze S64x1024 squeezes_S1x1x64x1024_S64x1024

def pSet (s : Fin 3) : Finset S3x256x1024.Idx := Finset.univ.filter fun i => (i 0).val = s.val
def rsSet (j : Fin 4) : Finset S4x256x1024.Idx := Finset.univ.filter fun i => (i 0).val = j.val
def agSet (j q : Fin 4) : Finset S4x4x64x1024.Idx := Finset.univ.filter fun i => (i 0).val = j.val ∧ (i 1).val = q.val

theorem mem_pSet {s : Fin 3} {i : S3x256x1024.Idx} : i ∈ pSet s ↔ (i 0).val = s.val := by simp [pSet]
theorem mem_rsSet {j : Fin 4} {i : S4x256x1024.Idx} : i ∈ rsSet j ↔ (i 0).val = j.val := by simp [rsSet]
theorem mem_agSet {j q : Fin 4} {i : S4x4x64x1024.Idx} : i ∈ agSet j q ↔ (i 0).val = j.val ∧ (i 1).val = q.val := by simp [agSet]

theorem p_rect (s : Fin 3) {o : Fin 3 → Nat} (ho : o = ![s.val, 0, 0]) (h : ∀ a, o a + S1x256x1024.size a ≤ S3x256x1024.size a) :
    (Rect.unit (s := S3x256x1024) o S1x256x1024.size h).set = pSet s := by
  subst ho
  ext i
  rw [Rect.mem_set_unit, mem_pSet]
  constructor
  · intro hi; have := hi 0; simp at this; omega
  · intro hi a
    match a with
    | 0 => simp; omega
    | 1 => exact ⟨Nat.zero_le _, by have := (i 1).isLt; simpa using this⟩
    | 2 => exact ⟨Nat.zero_le _, by have := (i 2).isLt; simpa using this⟩

theorem r_rect (j : Fin 4) {o : Fin 3 → Nat} (ho : o = ![j.val, 0, 0]) (h : ∀ a, o a + S1x256x1024.size a ≤ S4x256x1024.size a) :
    (Rect.unit (s := S4x256x1024) o S1x256x1024.size h).set = rsSet j := by
  subst ho
  ext i
  rw [Rect.mem_set_unit, mem_rsSet]
  constructor
  · intro hi; have := hi 0; simp at this; omega
  · intro hi a
    match a with
    | 0 => simp; omega
    | 1 => exact ⟨Nat.zero_le _, by have := (i 1).isLt; simpa using this⟩
    | 2 => exact ⟨Nat.zero_le _, by have := (i 2).isLt; simpa using this⟩

theorem a_rect (j q : Fin 4) {o : Fin 4 → Nat} (ho : o = ![j.val, q.val, 0, 0]) (h : ∀ a, o a + S1x1x64x1024.size a ≤ S4x4x64x1024.size a) :
    (Rect.unit (s := S4x4x64x1024) o S1x1x64x1024.size h).set = agSet j q := by
  subst ho
  ext i
  rw [Rect.mem_set_unit, mem_agSet]
  constructor
  · intro hi; have := hi 0; have := hi 1; simp at *; omega
  · intro hi a
    match a with
    | 0 => simp; omega
    | 1 => simp; omega
    | 2 => exact ⟨Nat.zero_le _, by have := (i 2).isLt; simpa using this⟩
    | 3 => exact ⟨Nat.zero_le _, by have := (i 3).isLt; simpa using this⟩

theorem pM_set (s : Fin 3) {o} (ho : o = ![s.val, 0, 0]) (h) : (pM o h).view.set = pSet s := by
  rw [← p_rect s ho h]; exact (View.set_reshape _ _).trans (View.set_slice_whole _ _)
theorem rM_set (j : Fin 4) {o} (ho : o = ![j.val, 0, 0]) (h) : (rM o h).view.set = rsSet j := by
  rw [← r_rect j ho h]; exact (View.set_reshape _ _).trans (View.set_slice_whole _ _)
theorem aM_set (j q : Fin 4) {o} (ho : o = ![j.val, q.val, 0, 0]) (h) : (aM o h).view.set = agSet j q := by
  rw [← a_rect j q ho h]; exact (View.set_reshape _ _).trans (View.set_slice_whole _ _)

abbrev pPt (c : Dev nD) (s : Fin 3) (f : S3x256x1024.Idx → Elt F .bf16) : sProp 𝕄 :=
  (Memref.whole cc0_scratch2).view.loc (c : Thread nD τ) ↦[pSet s]{fullShare} f
abbrev rsPt (c : Dev nD) (j : Fin 4) (f : S4x256x1024.Idx → Elt F .bf16) : sProp 𝕄 :=
  (Memref.whole cc0_scratch3).view.loc (c : Thread nD τ) ↦[rsSet j]{fullShare} f
abbrev agPt (c : Dev nD) (j q : Fin 4) (sh : PosShare TreeShare) (f : S4x4x64x1024.Idx → Elt F .bf16) : sProp 𝕄 :=
  (Memref.whole cc0_scratch4).view.loc (c : Thread nD τ) ↦[agSet j q]{sh} f

/-- Four quarter shares. -/
def shr : Fin 4 → PosShare TreeShare
  | 0 => fullShare.left.left
  | 1 => fullShare.left.right
  | 2 => fullShare.right.left
  | 3 => fullShare.right.right

@[irreducible] def N0 : ℕ := (Memref.whole cc0_scratch0 : Memref sig .tc .vmem S1024x1024 .f32).view.dmaCredit
@[irreducible] def NR : ℕ := (rM ![0, 0, 0] inb_S4x256x1024_S1x256x1024_0_0_0).view.dmaCredit
@[irreducible] def NA : ℕ := (aM ![0, 0, 0, 0] inb_S4x4x64x1024_S1x1x64x1024_0_0_0_0).view.dmaCredit
theorem N0_pos : 0 < N0 := by unfold N0; exact View.dmaCredit_pos _ (by decide)
theorem NR_pos : 0 < NR := by unfold NR; exact View.dmaCredit_pos _ (by decide)
theorem NA_pos : 0 < NA := by unfold NA; exact View.dmaCredit_pos _ (by decide)

/-! ## The schedule -/

variable (V : (c : Dev nD) → Valuation τ sig (Elt F))

/-- Device `d`'s landing slab for what `c` reduces into it. -/
def rsSlot (d c : Dev nD) : sProp 𝕄 := iprop((∃ f, rsPt d c f) ∗ reached ER (cell d (.rsR c)) 0)
/-- Device `d`'s landing slab for `c`'s quarter `q`. -/
def agSlot (d c : Dev nD) (q : Fin 4) : sProp 𝕄 := iprop((∃ f, agPt d c q fullShare f) ∗ reached ER (cell d (.agR c q)) 0)
def agSlots (d c : Dev nD) : sProp 𝕄 := iprop(agSlot d c 0 ∗ agSlot d c 1 ∗ agSlot d c 2 ∗ agSlot d c 3)

def dut (c : Dev nD) : Kd → Finset (Fin 4)
  | .bar => Finset.univ.erase c
  | .ld _ => {0}
  | .rsS _ => {0}
  | .rsR j => if j = c then ∅ else {0}
  | .agS p _ => if p = c then ∅ else {0}
  | .agR j _ => if j = c then ∅ else {0}

def amt : Kd → ℕ
  | .bar => 1
  | .ld _ => N0
  | .rsS _ => NR
  | .rsR _ => NR
  | .agS _ _ => NA
  | .agR _ _ => NA

/-- Wq's columns in the kernel's buffer, and the columns themselves back. -/
def wqPay (c : Dev nD) : sProp 𝕄 :=
  iprop(((Memref.whole cc0_scratch0).view.loc (c : Thread nD τ) ↦{fullShare} wqC V c)
    ∗ ((wqM c).view.loc (c : Thread nD τ) ↦[(wqM c).view.set]{fullShare} V c main_arg1))
/-- The same of Wo's rows. -/
def woPay (c : Dev nD) : sProp 𝕄 :=
  iprop(((Memref.whole cc0_scratch1).view.loc (c : Thread nD τ) ↦{fullShare} woC V c)
    ∗ ((woM c).view.loc (c : Thread nD τ) ↦[(woM c).view.set]{fullShare} V c main_arg4))

def pay (c : Dev nD) : Kd → Fin 4 → sProp 𝕄
  | .bar, d => iprop(rsSlot d c ∗ agSlots d c)
  | .ld i, _ => if i = 0 then wqPay V c else woPay V c
  | .rsS s, _ => pPt c s (pC V c)
  | .rsR j, _ => rsPt c j (rsC V c)
  | .agS p q, _ => agPt c c q (shr p) (agC V)
  | .agR j q, _ => agPt c j q fullShare (agC V)

instance wqPay_storable (c : Dev nD) : BI.Storable (upEmb : UEmb _ 𝕄) (wqPay V c) := by unfold wqPay; infer_instance
instance woPay_storable (c : Dev nD) : BI.Storable (upEmb : UEmb _ 𝕄) (woPay V c) := by unfold woPay; infer_instance
instance rsSlot_storable (d c : Dev nD) : BI.Storable (upEmb : UEmb _ 𝕄) (rsSlot (F := F) d c) := by unfold rsSlot; infer_instance
instance agSlots_storable (d c : Dev nD) : BI.Storable (upEmb : UEmb _ 𝕄) (agSlots (F := F) d c) := by unfold agSlots agSlot; infer_instance

instance pay_storable (c : Dev nD) : ∀ (k : Kd) (d : Fin 4), BI.Storable (upEmb : UEmb _ 𝕄) (pay V c k d)
  | .bar, d => by show BI.Storable upEmb iprop(rsSlot d c ∗ agSlots d c); infer_instance
  | .ld i, d => by show BI.Storable upEmb (if i = 0 then wqPay V c else woPay V c); split <;> infer_instance
  | .rsS s, d => by show BI.Storable upEmb (pPt c s (pC V c)); infer_instance
  | .rsR j, d => by show BI.Storable upEmb (rsPt c j (rsC V c)); infer_instance
  | .agS p q, d => by show BI.Storable upEmb (agPt c c q (shr p) (agC V)); infer_instance
  | .agR j q, d => by show BI.Storable upEmb (agPt c j q fullShare (agC V)); infer_instance

theorem amt_pos : ∀ k, 0 < amt k
  | .bar => Nat.one_pos
  | .ld _ => N0_pos
  | .rsS _ => NR_pos
  | .rsR _ => NR_pos
  | .agS _ _ => NA_pos
  | .agR _ _ => NA_pos

/-- One round on every cell of every TensorCore. -/
def Rd : Rounds.Schedule (GSem nD τ sig) (Fin 4) 𝕄 where
  duties g r := if r = 0 ∧ g.1.2 = .tc then (kd g.2).elim ∅ (dut g.1.1) else ∅
  unitless _ := False
  amount g _ _ := (kd g.2).elim 1 amt
  payload g _ d := (kd g.2).elim iprop(emp) fun k => pay V g.1.1 k d
  amount_pos g _ _ _ := by
    cases kd g.2 with
    | none => exact Nat.one_pos
    | some k => exact amt_pos k

instance Rd_storable (g : GSem nD τ sig) (r : ℕ) (d : Fin 4) : BI.Storable (upEmb : UEmb _ 𝕄) ((Rd V).payload g r d) := by
  show BI.Storable upEmb ((kd g.2).elim iprop(emp) fun k => pay V g.1.1 k d)
  cases kd g.2 with
  | none => dsimp only [Option.elim]; infer_instance
  | some k => dsimp only [Option.elim]; infer_instance

section Sched
variable (c : Dev nD) (k : Kd)

theorem duties_eq : (Rd V).duties (cell c k) 0 = dut c k := by
  dsimp only [Rd]; rw [if_pos ⟨rfl, rfl⟩, kd_sl]; rfl
theorem duties_later (g : GSem nD τ sig) : ∀ r, 1 ≤ r → (Rd V).duties g r = ∅ :=
  fun r hr => by dsimp only [Rd]; rw [if_neg (fun h => by omega)]
theorem amount_eq (d : Fin 4) : (Rd V).amount (cell c k) 0 d = amt k := by dsimp only [Rd]; rw [kd_sl]; rfl
theorem payload_eq (d : Fin 4) : (Rd V).payload (cell c k) 0 d = pay V c k d := by dsimp only [Rd]; rw [kd_sl]; rfl
theorem expect_eq : (Rd V).expect (cell c k) 0 = (dut c k).card * amt k := by
  unfold Schedule.expect Schedule.amountOf
  rw [duties_eq, Finset.sum_congr rfl (fun d _ => amount_eq V c k d), Finset.sum_const, smul_eq_mul]
theorem rest_eq : bigSep ((Rd V).duties (cell c k) 0 \ ∅) (fun d => (Rd V).payload (cell c k) 0 d) = bigSep (dut c k) (fun d => pay V c k d) := by
  rw [Finset.sdiff_empty, duties_eq]
  exact congrArg _ (funext fun d => payload_eq V c k d)
/-- A cell of one duty. -/
theorem rest_one (h : dut c k = {0}) :
    bigSep ((Rd V).duties (cell c k) 0 \ ∅) (fun d => (Rd V).payload (cell c k) 0 d) = pay V c k 0 := by
  rw [rest_eq, h, bigSep_singleton]
theorem expect_one (h : dut c k = {0}) : (Rd V).expect (cell c k) 0 = amt k := by
  rw [expect_eq, h, Finset.card_singleton, one_mul]
end Sched

/-! ## What is owed, in program order; the levels -/

inductive Due where
  | B (p : Dev nD)
  | R (s : Fin 3)
  | A (q : Fin 4) (p : Dev nD)

def tal (c : Dev nD) : Due → CellTallies nD τ sig Unit
  | .B p => if p = c then 0 else tallyAt (cell p .bar) () 1
  | .R s => tallyAt (cell (nxt c s.castSucc) (.rsR c)) () NR
  | .A q p => if p = c then 0 else tallyAt (cell p (.agR c q)) () NA

theorem tal_B (c p : Dev nD) : tal c (.B p) = if p = c then 0 else tallyAt (cell p .bar) () 1 := rfl
theorem tal_A (c : Dev nD) (q : Fin 4) (p : Dev nD) : tal c (.A q p) = if p = c then 0 else tallyAt (cell p (.agR c q)) () NA := rfl

def Ow (c : Dev nD) : List Due → CellTallies nD τ sig Unit
  | [] => 0
  | d :: l => Ow c l + tal c d

def dues : List Due :=
  [.B 0, .B 1, .B 2, .B 3, .R 0, .R 1, .R 2,
   .A 0 0, .A 0 1, .A 0 2, .A 0 3, .A 1 0, .A 1 1, .A 1 2, .A 1 3,
   .A 2 0, .A 2 1, .A 2 2, .A 2 3, .A 3 0, .A 3 1, .A 3 2, .A 3 3]

def L (g : GSem nD τ sig) : Finset Unit := if g.1.2 = .tc then {()} else ∅
def lev : Kd → ℕ
  | .bar => 1
  | .rsR _ => 2
  | .agR _ _ => 3
  | _ => 0
def lv (g : GSem nD τ sig) (_ : Unit) : ℕ := (kd g.2).elim 0 lev
def levD : Due → ℕ
  | .B _ => 1
  | .R _ => 2
  | .A _ _ => 3

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Kd) (u : Unit) : lv (cell c k) u = lev k := by unfold lv; rw [kd_sl]; rfl

theorem tal_pos {c : Dev nD} {d : Due} {g : GSem nD τ sig} {u : Unit} (h : 0 < tal c d g u) : () ∈ L g ∧ lv g u = levD d := by
  have key : ∀ (p : Dev nD) (k : Kd) (n : ℕ), 0 < tallyAt (cell p k) () n g u → () ∈ L g ∧ lv g u = lev k := by
    intro p k n h
    rw [tallyAt_apply] at h
    by_cases e : g = cell p k ∧ u = ()
    · rw [e.1]; exact ⟨by rw [L_tc]; exact Finset.mem_singleton_self _, lv_cell _ _ _⟩
    · rw [if_neg e] at h; exact absurd h (Nat.lt_irrefl 0)
  cases d with
  | B p =>
    rw [tal_B] at h
    by_cases e : p = c
    · rw [if_pos e] at h; exact absurd h (Nat.lt_irrefl 0)
    · rw [if_neg e] at h; exact key _ _ _ h
  | R s => exact key _ _ _ h
  | A q p =>
    rw [tal_A] at h
    by_cases e : p = c
    · rw [if_pos e] at h; exact absurd h (Nat.lt_irrefl 0)
    · rw [if_neg e] at h; exact key _ _ _ h

theorem Ow_pos {c : Dev nD} {l : List Due} {n : ℕ} (hl : ∀ d ∈ l, n < levD d) {g : GSem nD τ sig} {u : Unit} (h : 0 < Ow c l g u) :
    () ∈ L g ∧ n < lv g u := by
  induction l with
  | nil => exact absurd h (Nat.lt_irrefl 0)
  | cons d l ih =>
    have h' : 0 < Ow c l g u + tal c d g u := h
    rcases Nat.eq_zero_or_pos (tal c d g u) with e | e
    · rw [e, Nat.add_zero] at h'
      exact ih (fun d hd => hl d (List.mem_cons_of_mem _ hd)) h'
    · exact ⟨(tal_pos e).1, (tal_pos e).2 ▸ hl d List.mem_cons_self⟩

theorem mayWait (c : Dev nD) (k : Kd) (l : List Due) (hl : ∀ d ∈ l, lev k < levD d) :
    (levAts L lv : sProp 𝕄) ⊢ MayWait (c : Thread nD τ) (sl k) () (Ow c l) :=
  MayOwe.of_cut (L := L) (lev := lv) (lev k) (fun p hp => by rw [Finset.mem_singleton.mp hp, L_tc]; exact Finset.mem_singleton_self _)
    (fun g u hg => (Ow_pos hl hg).1)
    (fun p hp => by rw [Finset.mem_singleton.mp hp]; exact le_of_eq (lv_cell c k ()))
    (fun g u hg => (Ow_pos hl hg).2)

/-- What `c` still owes, whatever it has waited for. -/
def OW (c : Dev nD) (l : List Due) : sProp 𝕄 := iprop(∃ W, owes (c : Thread nD τ) (Ow c l) W)

/-! ## The invariants of all cells -/

def invs (K : GSem nD τ sig → ℕ) : sProp 𝕄 :=
  bigSep (Finset.univ : Finset (Dev nD × Kd)) fun x => cellInv ER (Rd V) (K (cell x.1 x.2)) (cell x.1 x.2)

instance invs_persistent (K : GSem nD τ sig → ℕ) : BI.Persistent (invs V K) := by unfold invs; infer_instance

theorem invs_get (K : GSem nD τ sig → ℕ) (c : Dev nD) (k : Kd) : invs V K ⊢ cellInv ER (Rd V) (K (cell c k)) (cell c k) := by
  unfold invs
  exact (Entails.of_eq (bigSep_erase (Finset.mem_univ (c, k)))).trans sep_elim_left

end Cert.Proof.K
-- ==== Proof.Slabs.lean ====
/-
  What the loads and stores of slabs read and write, index by index.
-/
module

public import proofs.«01_k».proof.Proof.Proto

@[expose] public section
noncomputable section
namespace Cert.Proof.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
local notation "𝕄" => MT nD τ sig Unit (Elt F) ℕ UU ℕ

/-! ## Casts that add or drop leading unit axes -/

theorem cast_add1 {α : Type} (v : S256x1024.Idx → α) (h) (j : S1x256x1024.Idx) : shapeCast S1x256x1024 v h j = v (ix2 (j 1) (j 2)) := by
  refine (shapeCast_addUnit_apply ![256, 1024] v h j).trans (congrArg v ?_)
  funext a
  match a with
  | 0 => rfl
  | 1 => rfl

theorem cast_add2 {α : Type} (v : S64x1024.Idx → α) (h) (j : S1x1x64x1024.Idx) : shapeCast S1x1x64x1024 v h j = v (ix2' (j 2) (j 3)) := by
  unfold shapeCast
  congr 1
  apply Shape.reshapeEquiv_eq_of_rowMajor
  have h0 : (j 0).val = 0 := by have := (j 0).isLt; simp at this; omega
  have h1 : (j 1).val = 0 := by have := (j 1).isLt; simp at this; omega
  show (Shape.rowMajorPi ![64, 1024] (ix2' (j 2) (j 3))).val = (Shape.rowMajorPi ![1, 1, 64, 1024] j).val
  rw [Shape.rowMajorPi_succ_val ![1, 1, 64, 1024] j, Shape.rowMajorPi_succ_val _ (fun a : Fin 3 => j a.succ), h0]
  simp only [Fin.succ_zero_eq_one, h1, Nat.zero_mul, Nat.zero_add]
  have : (fun a : Fin 2 => j a.succ.succ) = ix2' (j 2) (j 3) := by
    funext a
    match a with
    | 0 => rfl
    | 1 => rfl
  exact congrArg (fun k => (Shape.rowMajorPi ![64, 1024] k).val) this.symm

theorem cast_drop2 {α : Type} (v : S1x1x64x1024.Idx → α) (h) (y : S64x1024.Idx) (x : S1x1x64x1024.Idx) (h2 : x 2 = y 0) (h3 : x 3 = y 1) :
    shapeCast S64x1024 v h y = v x := by
  unfold shapeCast
  congr 1
  apply Shape.reshapeEquiv_eq_of_rowMajor
  have h0 : (x 0).val = 0 := by have := (x 0).isLt; simp at this; omega
  have h1 : (x 1).val = 0 := by have := (x 1).isLt; simp at this; omega
  show (Shape.rowMajorPi ![1, 1, 64, 1024] x).val = (Shape.rowMajorPi ![64, 1024] y).val
  rw [Shape.rowMajorPi_succ_val ![1, 1, 64, 1024] x, Shape.rowMajorPi_succ_val _ (fun a : Fin 3 => x a.succ), h0]
  simp only [Fin.succ_zero_eq_one, h1, Nat.zero_mul, Nat.zero_add]
  have : (fun a : Fin 2 => x a.succ.succ) = y := by
    funext a
    match a with
    | 0 => exact h2
    | 1 => exact h3
  exact congrArg (fun k => (Shape.rowMajorPi ![64, 1024] k).val) this

/-! ## Stores into slabs -/

variable (V : (c : Dev nD) → Valuation τ sig (Elt F))

abbrev rectP (o : Fin 3 → Nat) (h : ∀ a, o a + S1x256x1024.size a ≤ S3x256x1024.size a) : Rect S3x256x1024 := Rect.unit (s := S3x256x1024) o S1x256x1024.size h
abbrev rectR (o : Fin 3 → Nat) (h : ∀ a, o a + S1x256x1024.size a ≤ S4x256x1024.size a) : Rect S4x256x1024 := Rect.unit (s := S4x256x1024) o S1x256x1024.size h
abbrev rectA (o : Fin 4 → Nat) (h : ∀ a, o a + S1x1x64x1024.size a ≤ S4x4x64x1024.size a) : Rect S4x4x64x1024 := Rect.unit (s := S4x4x64x1024) o S1x1x64x1024.size h
abbrev rectO (o : Fin 2 → Nat) (h : ∀ a, o a + S64x1024.size a ≤ S1024x1024.size a) : Rect S1024x1024 := Rect.unit (s := S1024x1024) o S64x1024.size h

theorem p_access (s : Fin 3) {o} (ho : o = ![s.val, 0, 0]) (h) : ((Memref.whole cc0_scratch2).access (rectP o h)).set = pSet s := by
  rw [← p_rect s ho h]; exact View.set_slice_whole _ _
theorem r_access (j : Fin 4) {o} (ho : o = ![j.val, 0, 0]) (h) : ((Memref.whole cc0_scratch3).access (rectR o h)).set = rsSet j := by
  rw [← r_rect j ho h]; exact View.set_slice_whole _ _
theorem a_access (j q : Fin 4) {o} (ho : o = ![j.val, q.val, 0, 0]) (h) : ((Memref.whole cc0_scratch4).access (rectA o h)).set = agSet j q := by
  rw [← a_rect j q ho h]; exact View.set_slice_whole _ _

theorem p_store (c : Dev nD) (s : Fin 3) {o} (ho : o = ![s.val, 0, 0]) (h) (f : S3x256x1024.Idx → Elt F .bf16) (hs) :
    ∀ i ∈ pSet s, ((Memref.whole cc0_scratch2).access (rectP o h)).write (Elt F) f (shapeCast S1x256x1024 (accB V c s.castSucc) hs) Finset.univ i = pC V c i := by
  intro i hi
  rw [← p_access s ho h] at hi
  obtain ⟨x, -, rfl⟩ := Finset.mem_map.mp hi
  refine (View.write_emb_of_mem _ _ (Finset.mem_univ x)).trans ?_
  subst ho
  refine (cast_add1 (accB V c s.castSucc) hs x).trans ?_
  have h0 : (x 0).val = 0 := by have := (x 0).isLt; simp at this; omega
  unfold pC
  congr 1
  · congr 1; apply Fin.ext; show s.val = s.val + 1 * (x 0).val; omega
  · funext a
    match a with
    | 0 => apply Fin.ext; show (x 1).val = 0 + 1 * (x 1).val; omega
    | 1 => apply Fin.ext; show (x 2).val = 0 + 1 * (x 2).val; omega

theorem r_store (c : Dev nD) {o} (ho : o = ![c.val, 0, 0]) (h) (f : S4x256x1024.Idx → Elt F .bf16) (hs) :
    ∀ i ∈ rsSet c, ((Memref.whole cc0_scratch3).access (rectR o h)).write (Elt F) f (shapeCast S1x256x1024 (accB V c 3) hs) Finset.univ i = rsC V c i := by
  intro i hi
  rw [← r_access c ho h] at hi
  obtain ⟨x, -, rfl⟩ := Finset.mem_map.mp hi
  refine (View.write_emb_of_mem _ _ (Finset.mem_univ x)).trans ?_
  subst ho
  refine (cast_add1 (accB V c 3) hs x).trans ?_
  have h0 : (x 0).val = 0 := by have := (x 0).isLt; simp at this; omega
  unfold rsC
  have e0 : (((Memref.whole cc0_scratch3).access (rectR ![c.val, 0, 0] h)).emb x : S4x256x1024.Idx) 0 = c := by
    apply Fin.ext; show c.val + 1 * (x 0).val = c.val; omega
  have e1 : (((Memref.whole cc0_scratch3).access (rectR ![c.val, 0, 0] h)).emb x : S4x256x1024.Idx) 1 = x 1 := by
    apply Fin.ext; show 0 + 1 * (x 1).val = (x 1).val; omega
  have e2 : (((Memref.whole cc0_scratch3).access (rectR ![c.val, 0, 0] h)).emb x : S4x256x1024.Idx) 2 = x 2 := by
    apply Fin.ext; show 0 + 1 * (x 2).val = (x 2).val; omega
  rw [e0, e1, e2, stepOf_self]

theorem a_store (c : Dev nD) (q : Fin 4) {o} (ho : o = ![c.val, q.val, 0, 0]) (h) (f : S4x4x64x1024.Idx → Elt F .bf16) (hs) :
    ∀ i ∈ agSet c q, ((Memref.whole cc0_scratch4).access (rectA o h)).write (Elt F) f (shapeCast S1x1x64x1024 (redB V c q) hs) Finset.univ i = agC V i := by
  intro i hi
  rw [← a_access c q ho h] at hi
  obtain ⟨x, -, rfl⟩ := Finset.mem_map.mp hi
  refine (View.write_emb_of_mem _ _ (Finset.mem_univ x)).trans ?_
  subst ho
  refine (cast_add2 (redB V c q) hs x).trans ?_
  have h0 : (x 0).val = 0 := by have := (x 0).isLt; simp at this; omega
  have h1 : (x 1).val = 0 := by have := (x 1).isLt; simp at this; omega
  unfold agC
  have e0 : (((Memref.whole cc0_scratch4).access (rectA ![c.val, q.val, 0, 0] h)).emb x : S4x4x64x1024.Idx) 0 = c := by
    apply Fin.ext; show c.val + 1 * (x 0).val = c.val; omega
  have e1 : (((Memref.whole cc0_scratch4).access (rectA ![c.val, q.val, 0, 0] h)).emb x : S4x4x64x1024.Idx) 1 = q := by
    apply Fin.ext; show q.val + 1 * (x 1).val = q.val; omega
  have e2 : (((Memref.whole cc0_scratch4).access (rectA ![c.val, q.val, 0, 0] h)).emb x : S4x4x64x1024.Idx) 2 = x 2 := by
    apply Fin.ext; show 0 + 1 * (x 2).val = (x 2).val; omega
  have e3 : (((Memref.whole cc0_scratch4).access (rectA ![c.val, q.val, 0, 0] h)).emb x : S4x4x64x1024.Idx) 3 = x 3 := by
    apply Fin.ext; show 0 + 1 * (x 3).val = (x 3).val; omega
  rw [e0, e1, e2, e3]

def ix4' (a : Fin 64) (b : Fin 1024) : S1x1x64x1024.Idx := fun | 0 => ⟨0, Nat.one_pos⟩ | 1 => ⟨0, Nat.one_pos⟩ | 2 => a | 3 => b

/-- A quarter read back. -/
theorem a_load (j q : Fin 4) {o} (ho : o = ![j.val, q.val, 0, 0]) (h) (hs) :
    (shapeCast S64x1024 (((Memref.whole cc0_scratch4).access (rectA o h)).read (Elt F) (agC V)) hs : S64x1024.Idx → Elt F .bf16) = redB V j q := by
  funext y
  subst ho
  refine (cast_drop2 _ hs y (ix4' (y 0) (y 1)) rfl rfl).trans ?_
  show agC V _ = _
  unfold agC
  have e0 : (((Memref.whole cc0_scratch4).access (rectA ![j.val, q.val, 0, 0] h)).emb (ix4' (y 0) (y 1)) : S4x4x64x1024.Idx) 0 = j := by
    apply Fin.ext; show j.val + 1 * 0 = j.val; omega
  have e1 : (((Memref.whole cc0_scratch4).access (rectA ![j.val, q.val, 0, 0] h)).emb (ix4' (y 0) (y 1)) : S4x4x64x1024.Idx) 1 = q := by
    apply Fin.ext; show q.val + 1 * 0 = q.val; omega
  have e2 : (((Memref.whole cc0_scratch4).access (rectA ![j.val, q.val, 0, 0] h)).emb (ix4' (y 0) (y 1)) : S4x4x64x1024.Idx) 2 = y 0 := by
    apply Fin.ext; show 0 + 1 * (y 0).val = (y 0).val; omega
  have e3 : (((Memref.whole cc0_scratch4).access (rectA ![j.val, q.val, 0, 0] h)).emb (ix4' (y 0) (y 1)) : S4x4x64x1024.Idx) 3 = y 1 := by
    apply Fin.ext; show 0 + 1 * (y 1).val = (y 1).val; omega
  rw [e0, e1, e2, e3]
  congr 1
  funext a
  match a with
  | 0 => rfl
  | 1 => rfl

/-! ## Stores of quarters into the result -/

theorem outC_apply (c : Dev nD) {j q : Fin 4} {i : S1024x1024.Idx} (hi : InQ j q i) (x : S64x1024.Idx)
    (h0 : (i 0).val = 256 * j.val + 64 * q.val + (x 0).val) (h1 : i 1 = x 1) : outC V c i = outQ V c j q x := by
  have hx : (x 0).val < 64 := (x 0).isLt
  have hq := q.isLt
  unfold outC
  have e1 : (⟨(i 0).val / 256, Nat.div_lt_of_lt_mul (i 0).isLt⟩ : Fin 4) = j := by apply Fin.ext; show (i 0).val / 256 = j.val; omega
  have e2 : (⟨(i 0).val % 256 / 64, Nat.div_lt_of_lt_mul (Nat.mod_lt _ (by decide))⟩ : Fin 4) = q := by apply Fin.ext; show (i 0).val % 256 / 64 = q.val; omega
  have e3 : (ix2' ⟨(i 0).val % 64, Nat.mod_lt _ (by decide)⟩ (i 1) : S64x1024.Idx) = x := by
    funext a
    match a with
    | 0 => apply Fin.ext; show (i 0).val % 64 = (x 0).val; omega
    | 1 => exact h1
  rw [e3]
  exact congrArg₂ (fun j q => outQ V c j q x) e1 e2

theorem o_store_mem (c : Dev nD) (j q : Fin 4) {o} (ho : o = ![256 * j.val + 64 * q.val, 0]) (h) (f : S1024x1024.Idx → Elt F .f32) {w : S64x1024.Idx → Elt F .f32}
    (hw : w = outQ V c j q) {i : S1024x1024.Idx} (hi : InQ j q i) :
    ((Memref.whole cc0_stg3_0).access (rectO o h)).write (Elt F) f w Finset.univ i = outC V c i := by
  subst ho hw
  let x : S64x1024.Idx := ix2' ⟨(i 0).val - (256 * j.val + 64 * q.val), by have := hi.1; have := hi.2; omega⟩ (i 1)
  have hx : ((Memref.whole cc0_stg3_0).access (rectO _ h)).emb x = i := by
    funext a
    match a with
    | 0 => apply Fin.ext; show 256 * j.val + 64 * q.val + 1 * ((i 0).val - (256 * j.val + 64 * q.val)) = (i 0).val; have := hi.1; omega
    | 1 => apply Fin.ext; show 0 + 1 * (i 1).val = (i 1).val; omega
  rw [outC_apply V c hi x (by show (i 0).val = 256 * j.val + 64 * q.val + ((i 0).val - (256 * j.val + 64 * q.val)); have := hi.1; omega) rfl]
  conv_lhs => rw [← hx]
  exact View.write_emb_of_mem _ _ (Finset.mem_univ x)

theorem o_store_not (j q : Fin 4) {o} (ho : o = ![256 * j.val + 64 * q.val, 0]) (h) (f : S1024x1024.Idx → Elt F .f32) {w : S64x1024.Idx → Elt F .f32}
    {i : S1024x1024.Idx} (hi : ¬ InQ j q i) :
    ((Memref.whole cc0_stg3_0).access (rectO o h)).write (Elt F) f w Finset.univ i = f i := by
  refine View.write_of_not_mem _ _ _ fun hm => hi ?_
  subst ho
  obtain ⟨x, -, rfl⟩ := Finset.mem_map.mp hm
  have hx : (x 0).val < 64 := (x 0).isLt
  constructor
  · show _ ≤ 256 * j.val + 64 * q.val + 1 * (x 0).val; omega
  · show 256 * j.val + 64 * q.val + 1 * (x 0).val < _; omega

/-- Chunk `j` is the result's wherever the listed quarters (of other devices) and, from place `o` on, the own chunk are done. -/
def OutOK (c : Dev nD) (S : List (Fin 4 × Fin 4)) (n : Nat) (f : S1024x1024.Idx → Elt F .f32) : Prop :=
  (∀ x ∈ S, x.1 ≠ c → ∀ i, InQ x.1 x.2 i → f i = outC V c i) ∧ (c.val < n → ∀ q i, InQ c q i → f i = outC V c i)

theorem InQ_inj {j q j' q' : Fin 4} {i : S1024x1024.Idx} (h : InQ j q i) (h' : InQ j' q' i) : j = j' ∧ q = q' := by
  obtain ⟨a, b⟩ := h; obtain ⟨a', b'⟩ := h'
  have := q.isLt; have := q'.isLt
  constructor <;> apply Fin.ext <;> omega

theorem OutOK_snoc {c : Dev nD} {S : List (Fin 4 × Fin 4)} {f : S1024x1024.Idx → Elt F .f32} (hf : OutOK V c S 0 f) (j q : Fin 4)
    {o} (ho : o = ![256 * j.val + 64 * q.val, 0]) (h) {w : S64x1024.Idx → Elt F .f32} (hw : w = outQ V c j q) :
    OutOK V c (S ++ [(j, q)]) 0 (((Memref.whole cc0_stg3_0).access (rectO o h)).write (Elt F) f w Finset.univ) := by
  refine ⟨fun x hx hc i hi => ?_, fun h => absurd h (Nat.not_lt_zero _)⟩
  by_cases hiq : InQ j q i
  · exact o_store_mem V c j q ho h f hw hiq
  · rw [o_store_not j q ho h f hiq]
    rcases List.mem_append.mp hx with hx | hx
    · exact hf.1 x hx hc i hi
    · rw [List.mem_singleton.mp hx] at hi; exact absurd hi hiq

theorem OutOK_skip {c : Dev nD} {S : List (Fin 4 × Fin 4)} {f : S1024x1024.Idx → Elt F .f32} {n : Nat} (hf : OutOK V c S n f) {j : Fin 4} (q : Fin 4) (hj : j = c) :
    OutOK V c (S ++ [(j, q)]) n f := by
  refine ⟨fun x hx hc i hi => ?_, hf.2⟩
  rcases List.mem_append.mp hx with hx | hx
  · exact hf.1 x hx hc i hi
  · rw [List.mem_singleton.mp hx] at hc; exact absurd hj hc

theorem OutOK_all {c : Dev nD} {S : List (Fin 4 × Fin 4)} {f : S1024x1024.Idx → Elt F .f32} (hf : OutOK V c S 4 f) (hS : ∀ j q, (j, q) ∈ S) : f = outC V c := by
  funext i
  have hi0 : (i 0).val < 1024 := (i 0).isLt
  let j : Fin 4 := ⟨(i 0).val / 256, by omega⟩
  let q : Fin 4 := ⟨(i 0).val % 256 / 64, by omega⟩
  have hi : InQ j q i := by
    constructor
    · show 256 * ((i 0).val / 256) + 64 * ((i 0).val % 256 / 64) ≤ _; omega
    · show _ < 256 * ((i 0).val / 256) + 64 * ((i 0).val % 256 / 64) + 64; omega
  by_cases hj : j = c
  · rw [hj] at hi; exact hf.2 c.isLt q i hi
  · exact hf.1 (j, q) (hS j q) hj i hi

end Cert.Proof.K
-- ==== Proof.Steps.lean ====
/-
  One lemma for every kind of communication step of the kernel, each stated once for a symbolic device `c` and a symbolic
  partner, with its guard: where the guard is off the step only passes its resources on.
-/
module

public import proofs.«01_k».proof.Proof.Slabs

@[expose] public section
noncomputable section
namespace Cert.Proof.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
local notation "𝕄" => MT nD τ sig Unit (Elt F) ℕ UU ℕ

abbrev WP {α : Type} (c : Dev nD) (p : Prog (TpuEff nD τ sig (Elt F) Λ₀ .tc) α) (Q : α → sProp 𝕄) : sProp 𝕄 :=
  wp frame (wpE (defs₀ (F := F)) Variants.none (c : Thread nD τ) none) Set.univ p Q

/-- A list of resources. -/
def sepL {α : Type} (Φ : α → sProp 𝕄) : List α → sProp 𝕄
  | [] => iprop(emp)
  | a :: l => iprop(Φ a ∗ sepL Φ l)

theorem sepL_cons {α : Type} (Φ : α → sProp 𝕄) (a : α) (l : List α) : sepL Φ (a :: l) = iprop(Φ a ∗ sepL Φ l) := rfl
theorem sepL_snoc {α : Type} (Φ : α → sProp 𝕄) (a : α) : ∀ l : List α, iprop(sepL Φ l ∗ Φ a) ⊢ sepL Φ (l ++ [a])
  | [] => by
    show iprop(emp ∗ Φ a) ⊢ iprop(Φ a ∗ emp)
    iintro ⟨-, H⟩; isplitl [H]; · iexact H
    iempintro
  | b :: l => by
    show iprop((Φ b ∗ sepL Φ l) ∗ Φ a) ⊢ iprop(Φ b ∗ sepL Φ (l ++ [a]))
    iintro ⟨⟨Hb, Hl⟩, Ha⟩
    isplitl [Hb]; · iexact Hb
    iapply (sepL_snoc Φ a l)
    isplitl [Hl]; · iexact Hl
    iexact Ha

/-! ## The guards -/

theorem guard_ne : ∀ (j c : Fin 4), (Scalar.cmpi .ne (Scalar.extui (Scalar.cmpi .ne (meW c) (rw j)) : BitVec 32) 0#32 = 1#1) ↔ j ≠ c := by decide
theorem guard_eq : ∀ (j c : Fin 4), (Scalar.cmpi .ne (Scalar.extui (Scalar.cmpi .eq (meW c) (rw j)) : BitVec 32) 0#32 = 1#1) ↔ j = c := by decide

/-! ## The semaphores of a slice -/

theorem sem_ld : ∀ (i : Fin 2) (h : ∀ a, (![i.val] : Fin 1 → Nat) a + S1.size a ≤ S2.size a),
    SemLoc.dma ((cc0_scratch5.slice (Rect.unit (s := S2) ![i.val] S1.size h)).squeeze S_ squeezes_S1_S_).sem = sl (.ld i) := by decide
theorem sem_rsS : ∀ (s : Fin 3) (h : ∀ a, (![s.val] : Fin 1 → Nat) a + S1.size a ≤ S3.size a),
    SemLoc.dma ((cc0_scratch6.slice (Rect.unit (s := S3) ![s.val] S1.size h)).squeeze S_ squeezes_S1_S_).sem = sl (.rsS s) := by decide
theorem sem_rsR : ∀ (j : Fin 4) (h : ∀ a, (![j.val] : Fin 1 → Nat) a + S1.size a ≤ S4.size a),
    SemLoc.dma ((cc0_scratch7.slice (Rect.unit (s := S4) ![j.val] S1.size h)).squeeze S_ squeezes_S1_S_).sem = sl (.rsR j) := by decide
theorem sem_agS : ∀ (p q : Fin 4) (h : ∀ a, (![p.val, q.val] : Fin 2 → Nat) a + S1x1.size a ≤ S4x4.size a),
    SemLoc.dma ((cc0_scratch8.slice (Rect.unit (s := S4x4) ![p.val, q.val] S1x1.size h)).squeeze S_ squeezes_S1x1_S_).sem = sl (.agS p q) := by decide
theorem sem_agR : ∀ (j q : Fin 4) (h : ∀ a, (![j.val, q.val] : Fin 2 → Nat) a + S1x1.size a ≤ S4x4.size a),
    SemLoc.dma ((cc0_scratch9.slice (Rect.unit (s := S4x4) ![j.val, q.val] S1x1.size h)).squeeze S_ squeezes_S1x1_S_).sem = sl (.agR j q) := by decide

theorem amount_aM (o) (h) (s : DmaSem sig) : (aM o h).view.amount (.dma s) = NA := by unfold NA; rfl
theorem amount_rM (o) (h) (s : DmaSem sig) : (rM o h).view.amount (.dma s) = NR := by unfold NR; rfl
theorem amount_0 (s : DmaSem sig) : (Memref.whole cc0_scratch0 : Memref sig .tc .vmem S1024x1024 .f32).view.amount (.dma s) = N0 := by unfold N0; rfl
theorem amount_1 (s : DmaSem sig) : (Memref.whole cc0_scratch1 : Memref sig .tc .vmem S1024x1024 .f32).view.amount (.dma s) = N0 := by unfold N0; rfl

/-! ## Where every step stands -/

variable (V : (c : Dev nD) → Valuation τ sig (Elt F)) (K : GSem nD τ sig → ℕ)

/-- What every step may read: the invariants of all cells and the levels. -/
def Env : sProp 𝕄 := iprop(invs V K ∗ levAts L lv)
instance Env_persistent : BI.Persistent (Env V K) := by unfold Env; infer_instance
theorem Env_inv (c : Dev nD) (k : Kd) : Env V K ⊢ cellInv ER (Rd V) (K (cell c k)) (cell c k) :=
  sep_elim_left.trans (invs_get V K c k)
theorem Env_lev : Env V K ⊢ (levAts L lv : sProp 𝕄) := sep_elim_right

theorem mem_dut {c : Dev nD} {k : Kd} (h : dut c k = {0}) : (0 : Fin 4) ∈ (Rd V).duties (cell c k) 0 := by
  rw [duties_eq, h]; exact Finset.mem_singleton_self _

theorem dut_rsR {c j : Dev nD} (h : j ≠ c) : dut c (.rsR j) = {0} := if_neg h
theorem dut_agS {c p : Dev nD} (q : Fin 4) (h : p ≠ c) : dut c (.agS p q) = {0} := if_neg h
theorem dut_agR {c j : Dev nD} (q : Fin 4) (h : j ≠ c) : dut c (.agR j q) = {0} := if_neg h

theorem Ow_B {c p : Dev nD} (h : p ≠ c) (l : List Due) : Ow c (.B p :: l) = Ow c l + tallyAt (cell p .bar) () 1 := by
  show Ow c l + tal c (.B p) = _; rw [tal_B, if_neg h]
theorem Ow_B' {c p : Dev nD} (h : p = c) (l : List Due) : Ow c (.B p :: l) = Ow c l := by
  show Ow c l + tal c (.B p) = _; rw [tal_B, if_pos h, add_zero]
theorem Ow_R (c : Dev nD) (s : Fin 3) (l : List Due) : Ow c (.R s :: l) = Ow c l + tallyAt (cell (nxt c s.castSucc) (.rsR c)) () NR := rfl
theorem Ow_A {c p : Dev nD} (q : Fin 4) (h : p ≠ c) (l : List Due) : Ow c (.A q p :: l) = Ow c l + tallyAt (cell p (.agR c q)) () NA := by
  show Ow c l + tal c (.A q p) = _; rw [tal_A, if_neg h]
theorem Ow_A' {c p : Dev nD} (q : Fin 4) (h : p = c) (l : List Due) : Ow c (.A q p :: l) = Ow c l := by
  show Ow c l + tal c (.A q p) = _; rw [tal_A, if_pos h, add_zero]

/-! ## The gather's copies -/

abbrev at0 (c : Dev nD) (k : Kd) : sProp 𝕄 := atPos ER (cell c k) 0 ∅ 0
/-- After its round. -/
abbrev at1 (c : Dev nD) (k : Kd) : sProp 𝕄 := atPos ER (cell c k) 1 ∅ 0

/-- To copy quarter `x.1` of the own chunk to device `x.2`. -/
def AgSend (c : Dev nD) (x : Fin 4 × Dev nD) : sProp 𝕄 :=
  iprop(at0 c (.agS x.2 x.1) ∗ if x.2 = c then iprop(emp) else
    iprop(agSlot x.2 c x.1 ∗ dutyTok ER (cell x.2 (.agR c x.1)) 0 0 ∗ dutyTok ER (cell c (.agS x.2 x.1)) 0 0 ∗ reached ER (cell c (.agS x.2 x.1)) 0))
/-- Once it is under way. -/
def AgWait (c : Dev nD) (x : Fin 4 × Dev nD) : sProp 𝕄 :=
  iprop(at0 c (.agS x.2 x.1) ∗ if x.2 = c then agPt c c x.1 (shr x.2) (agC V) else cred (tallyAt (cell c (.agS x.2 x.1)) () NA))
/-- Once its share of the slab is back. -/
def AgDone (c : Dev nD) (x : Fin 4 × Dev nD) : sProp 𝕄 :=
  iprop((if x.2 = c then at0 c (.agS x.2 x.1) else at1 c (.agS x.2 x.1)) ∗ agPt c c x.1 (shr x.2) (agC V))

theorem ag_land (c p : Dev nD) (q : Fin 4) {o : Fin 4 → Nat} (ho : o = ![c.val, q.val, 0, 0]) (h h' : ∀ a, o a + S1x1x64x1024.size a ≤ S4x4x64x1024.size a)
    (fd : S4x4x64x1024.Idx → Elt F .bf16) :
    ((aM o h').view.loc (p : Thread nD τ) ↦[(aM o h').view.set]{fullShare} ((aM o h').view.write (Elt F) fd ((aM o h).view.read (Elt F) (agC V)) Finset.univ) : sProp 𝕄)
      ⊢ agPt p c q fullShare (agC V) := by
  refine Entails.of_eq ?_
  rw [aM_set c q ho h']
  refine pointsTo_congr fun i hi => ?_
  rw [← aM_set c q ho h'] at hi
  obtain ⟨x, -, rfl⟩ := Finset.mem_map.mp hi
  exact (View.write_emb_of_mem _ _ (Finset.mem_univ x)).trans rfl

theorem AgSend_ne {c p : Dev nD} (q : Fin 4) (h : p ≠ c) : AgSend (F := F) c (q, p) = iprop(at0 c (.agS p q) ∗ agSlot p c q
    ∗ dutyTok ER (cell p (.agR c q)) 0 0 ∗ dutyTok ER (cell c (.agS p q)) 0 0 ∗ reached ER (cell c (.agS p q)) 0) := by
  unfold AgSend; rw [if_neg (show ¬((q, p) : Fin 4 × Dev nD).2 = c from h)]
theorem AgSend_self {c p : Dev nD} (q : Fin 4) (h : p = c) : AgSend (F := F) c (q, p) = iprop(at0 c (.agS p q) ∗ emp) := by
  unfold AgSend; rw [if_pos (show ((q, p) : Fin 4 × Dev nD).2 = c from h)]
theorem AgWait_ne {c p : Dev nD} (q : Fin 4) (h : p ≠ c) : AgWait V c (q, p) = iprop(at0 c (.agS p q) ∗ cred (tallyAt (cell c (.agS p q)) () NA)) := by
  unfold AgWait; rw [if_neg (show ¬((q, p) : Fin 4 × Dev nD).2 = c from h)]
theorem AgWait_self {c p : Dev nD} (q : Fin 4) (h : p = c) : AgWait V c (q, p) = iprop(at0 c (.agS p q) ∗ agPt c c q (shr p) (agC V)) := by
  unfold AgWait; rw [if_pos (show ((q, p) : Fin 4 × Dev nD).2 = c from h)]
theorem AgDone_ne {c p : Dev nD} (q : Fin 4) (h : p ≠ c) : AgDone V c (q, p) = iprop(at1 c (.agS p q) ∗ agPt c c q (shr p) (agC V)) := by
  unfold AgDone; rw [if_neg (show ¬((q, p) : Fin 4 × Dev nD).2 = c from h)]
theorem AgDone_self {c p : Dev nD} (q : Fin 4) (h : p = c) : AgDone V c (q, p) = iprop(at0 c (.agS p q) ∗ agPt c c q (shr p) (agC V)) := by
  unfold AgDone; rw [if_pos (show ((q, p) : Fin 4 × Dev nD).2 = c from h)]

theorem ag_copy (c : Dev nD) (q p : Fin 4) (hp : p ≠ c) {α : Type} {d : Dev nD} (hd : d = p) {o : Fin 4 → Nat} (ho : o = ![c.val, q.val, 0, 0])
    {h} {sS sR : DmaSem sig} (hS : SemLoc.dma sS = sl (.agS p q)) (hR : SemLoc.dma sR = sl (.agR c q)) {hsc hsrc hdst hsem}
    {k : PUnit → Prog (TpuEff nD τ sig (Elt F) Λ₀ .tc) α} {Q : α → sProp 𝕄} {l : List Due} :
    Env V K ⊢ iprop(OW c (.A q p :: l) -∗ agSlot p c q -∗ dutyTok ER (cell p (.agR c q)) 0 0 -∗ dutyTok ER (cell c (.agS p q)) 0 0
      -∗ reached ER (cell c (.agS p q)) 0 -∗ agPt c c q (shr p) (agC V) -∗ (OW c l -∗ cred (tallyAt (cell c (.agS p q)) () NA) -∗ WP c (k ⟨⟩) Q)
      -∗ WP c (.op (.enqueueDma (aM o h) (.remote (Dev.tc d) (aM o h) (.dma sS) hsc) (.dma sR) hsrc hdst hsem) k) Q) := by
  unfold OW agSlot
  iintro #HE ⟨%W, HO⟩ ⟨⟨%fd, Hdst⟩, #Hr2⟩ Ht2 Ht1 #Hr1 Hsh Hk
  subst hd
  have hN : (aM o h).view.amount (.dma sR) = NA := amount_aM o h sR
  have hpay₁ : ((aM o h).view.loc (c : Thread nD τ) ↦[(aM o h).view.set]{shr d} (agC V)) ⊢ (Rd V).payload ((c : Thread nD τ), .dma sS) 0 0 := by
    rw [hS, payload_eq, aM_set c q ho h]
    exact BI.Entails.refl _
  have hpay₂ : ((aM o h).view.loc (d : Thread nD τ) ↦[(aM o h).view.set]{fullShare} ((aM o h).view.write (Elt F) fd ((aM o h).view.read (Elt F) (agC V)) Finset.univ))
      ⊢ (Rd V).payload ((d : Thread nD τ), .dma sR) 0 0 := by
    rw [hR, payload_eq]; exact ag_land V c d q ho h h fd
  have hd₁ : (0 : Fin 4) ∈ (Rd V).duties ((c : Thread nD τ), .dma sS) 0 := by rw [hS]; exact mem_dut V (dut_agS q hp)
  have hd₂ : (0 : Fin 4) ∈ (Rd V).duties ((d : Thread nD τ), .dma sR) 0 := by rw [hR]; exact mem_dut V (dut_agR q (Ne.symm hp))
  have hk₁ : (Rd V).amount ((c : Thread nD τ), .dma sS) 0 0 = NA := by rw [hS]; exact amount_eq V c _ 0
  have hk₂ : (Rd V).amount ((d : Thread nD τ), .dma sR) 0 0 = NA := by rw [hR]; exact amount_eq V d _ 0
  have hO : Ow c (.A q d :: l) = Ow c l + tallyAt ((d : Thread nD τ), .dma sR) () NA := by rw [hR]; exact Ow_A q hp l
  iapply (Rounds.wp_send_pointsTo Variants.none ER (Rd V) (c : Thread nD τ) none (c' := (d : Thread nD τ)) (src := aM o h) (dst := aM o h)
      (sS := .dma sS) (sem := .dma sR) (q := shr d) (fs := agC V)
      (κ₁ := K (cell c (.agS d q))) (κ₂ := K (cell d (.agR c q))) (r₁ := 0) (r₂ := 0) (d₁ := 0) (d₂ := 0) (fd := fd)
      hd₁ hd₂ () () NA hN hk₁ hk₂ (Ow c l) hO (W := W) hpay₁ hpay₂) $$ [HO Hdst Ht2 Ht1 Hsh]
  · rw [hS, hR, aM_set c q ho h]
    isplitr; · iapply (Env_inv V K c (.agS d q)); iexact HE
    isplitr; · iapply (Env_inv V K d (.agR c q)); iexact HE
    isplitl [Hsh]; · iexact Hsh
    isplitl [Hdst]; · iexact Hdst
    isplitl [HO]; · iexact HO
    isplitl [Ht1]; · iexact Ht1
    isplitr; · iexact Hr1
    isplitl [Ht2]; · iexact Ht2
    iexact Hr2
  rw [hS]
  iintro ⟨Hc, HO⟩
  iapply Hk $$ [HO] Hc
  iexists W; iexact HO

/-- The state of the gather's copies: still owed, to come, under way. -/
def AgS (c : Dev nD) (l : List Due) (todo done : List (Fin 4 × Dev nD)) : sProp 𝕄 :=
  iprop(OW c l ∗ sepL (AgSend c) todo ∗ sepL (AgWait V c) done)

theorem ag_send (c : Dev nD) (q p : Fin 4) {α : Type} {C : BitVec 1} (hC : C = 1#1 ↔ p ≠ c) {dev : C = 1#1 → Dev nD} (hdev : ∀ h, dev h = p)
    {o : Fin 4 → Nat} (ho : o = ![c.val, q.val, 0, 0]) {so sr : Fin 2 → Nat} (hso : so = ![p.val, q.val]) (hsr : sr = ![c.val, q.val])
    {hi : C = 1#1 → ∀ a, o a + S1x1x64x1024.size a ≤ S4x4x64x1024.size a}
    {hsi : ∀ a, so a + S1x1.size a ≤ S4x4.size a} {hri : C = 1#1 → ∀ a, sr a + S1x1.size a ≤ S4x4.size a}
    {hw hw' : ∀ h, (aM o (hi h)).view.WordExact}
    {kk : Prog (TpuEff nD τ sig (Elt F) Λ₀ .tc) α} {Q : α → sProp 𝕄} {l : List Due} {todo done : List (Fin 4 × Dev nD)} :
    Env V K ⊢ iprop(AgS V c (.A q p :: l) ((q, p) :: todo) done -∗ agPt c c q (shr p) (agC V) -∗ (AgS V c l todo (done ++ [(q, p)]) -∗ WP c kk Q)
      -∗ WP c (dite (C = 1#1) (fun h => Prog.lift (.enqueueDma (aM o (hi h)) (.remote (Dev.tc (dev h)) (aM o (hi h))
            (.dma ((cc0_scratch8.slice (Rect.unit (s := S4x4) so S1x1.size hsi)).squeeze S_ squeezes_S1x1_S_).sem))
          (.dma ((cc0_scratch9.slice (Rect.unit (s := S4x4) sr S1x1.size (hri h))).squeeze S_ squeezes_S1x1_S_).sem) (hw h) (hw' h) ⟨⟨rfl, Or.inl rfl⟩, trivial⟩) >>= fun _ => kk) (fun _ => kk)) Q) := by
  unfold AgS
  rw [sepL_cons]
  by_cases hp : p = c
  · rw [dif_neg (fun h => hC.mp h hp), AgSend_self q hp]
    iintro #HE ⟨HO, ⟨⟨Hat, -⟩, Ht⟩, Hd⟩ Hsh Hk
    ihave HO := (Entails.of_eq (show OW c (.A q p :: l) = (OW c l : sProp 𝕄) by unfold OW; rw [Ow_A' q hp])) $$ HO
    iapply Hk
    isplitl [HO]; · iexact HO
    isplitl [Ht]; · iexact Ht
    iapply (sepL_snoc (AgWait V c) (q, p) done)
    isplitl [Hd]; · iexact Hd
    iapply (Entails.of_eq (AgWait_self V q hp).symm)
    isplitl [Hat]; · iexact Hat
    iexact Hsh
  · have h1 : C = 1#1 := hC.mpr hp
    subst hso hsr
    rw [dif_pos h1, AgSend_ne q hp]
    iintro #HE ⟨HO, ⟨⟨Hat, Hsl, Ht2, Ht1, Hr1⟩, Ht⟩, Hd⟩ Hsh Hk
    iapply (ag_copy V K c q p hp (hdev h1) ho (sem_agS p q _) (sem_agR c q _)) $$ HE HO Hsl Ht2 Ht1 Hr1 Hsh
    iintro HO Hc
    iapply Hk
    isplitl [HO]; · iexact HO
    isplitl [Ht]; · iexact Ht
    iapply (sepL_snoc (AgWait V c) (q, p) done)
    isplitl [Hd]; · iexact Hd
    iapply (Entails.of_eq (AgWait_ne V q hp).symm)
    isplitl [Hat]; · iexact Hat
    iexact Hc

/-! ## Waits for one arrival -/

theorem wait_one (c : Dev nD) (k : Kd) (hk : dut c k = {0}) {l : List Due} (hl : ∀ d ∈ l, lev k < levD d) {α : Type}
    {w : TpuEff nD τ sig (Elt F) Λ₀ .tc PUnit} {n : ℕ} (hw : ∀ P : PUnit → sProp 𝕄, wpE (defs₀ (F := F)) Variants.none (c : Thread nD τ) none Set.univ w P
      = waitSpec (c : Thread nD τ) Set.univ (sl k) n P) (hn : n = amt k)
    {kc : PUnit → Prog (TpuEff nD τ sig (Elt F) Λ₀ .tc) α} {Q : α → sProp 𝕄} :
    Env V K ⊢ iprop(OW c l -∗ cred (tallyAt (cell c k) () (amt k)) -∗ at0 c k -∗ (OW c l -∗ at1 c k -∗ pay V c k 0 -∗ WP c (kc ⟨⟩) Q)
      -∗ WP c (.op w kc) Q) := by
  subst hn
  unfold OW
  iintro #HE ⟨%W, HO⟩ Hc Hat Hk
  iapply (Rounds.wp_wait_rest_token Variants.none ER (Rd V) (c : Thread nD τ) none (κ := K (cell c k)) (sm := sl k)
      hw (Set.mem_univ _) () (O := Ow c l) (W := W) (R := 0) (m := 0) (T := ∅)
      ((Nat.zero_add _).trans (expect_one V c k hk).symm)) $$ [Hc HO Hat]
  · isplitr; · iapply (Env_inv V K c k); iexact HE
    isplitl [Hc]; · iexact Hc
    isplitl [HO]; · iexact HO
    isplitr; · iapply (mayWait c k l hl); iapply (Env_lev V K); iexact HE
    iexact Hat
  iintro ⟨HO, Hat, -, Hpay⟩
  ihave Hp := (Entails.of_eq (rest_one V c k hk)) $$ Hpay
  iapply Hk $$ [HO] Hat Hp
  iexists _; iexact HO

theorem wait_dma (c : Dev nD) (k : Kd) (hk : dut c k = {0}) {l : List Due} (hl : ∀ d ∈ l, lev k < levD d) {α : Type}
    {sp sp' : Space} {s s' : Shape} {e e' : EltTy} {sem : DmaSem sig} {src : Memref sig .tc sp' s' e'} {dst : Memref sig .tc sp s e}
    {hsrc : src.view.WordExact} {hdst : dst.view.WordExact} (hs : SemLoc.dma sem = sl k) {n : ℕ} (hn : dst.view.dmaCredit = n) (ha : n = amt k)
    {kc : PUnit → Prog (TpuEff nD τ sig (Elt F) Λ₀ .tc) α} {Q : α → sProp 𝕄} :
    Env V K ⊢ iprop(OW c l -∗ cred (tallyAt (cell c k) () n) -∗ at0 c k -∗ (OW c l -∗ at1 c k -∗ pay V c k 0 -∗ WP c (kc ⟨⟩) Q)
      -∗ WP c (.op (.waitDma2 sem src dst hsrc hdst) kc) Q) :=
  ha ▸ wait_one V K c k hk hl (fun P => by rw [← hs]; exact wpE_waitDma2_eq Variants.none (c : Thread nD τ) none Set.univ P) (hn.trans ha)

theorem credit_aM (o) (h) : (aM o h).view.dmaCredit = NA := by unfold NA; rfl
theorem credit_rM (o) (h) : (rM o h).view.dmaCredit = NR := by unfold NR; rfl
theorem credit_pM (o) (h) : (pM o h).view.dmaCredit = NR := by unfold NR; rfl
theorem credit_0 : (Memref.whole cc0_scratch0 : Memref sig .tc .vmem S1024x1024 .f32).view.dmaCredit = N0 := by unfold N0; rfl
theorem credit_1 : (Memref.whole cc0_scratch1 : Memref sig .tc .vmem S1024x1024 .f32).view.dmaCredit = N0 := by unfold N0; rfl

/-! ## The waits for the gather's own copies -/

def AwS (c : Dev nD) (todo done : List (Fin 4 × Dev nD)) : sProp 𝕄 :=
  iprop(OW c [] ∗ sepL (AgWait V c) todo ∗ sepL (AgDone V c) done)

theorem pay_agS (c : Dev nD) (q p : Fin 4) : pay V c (.agS p q) 0 ⊢ agPt c c q (shr p) (agC V) := BI.Entails.refl _
theorem pay_agR (c : Dev nD) (j q : Fin 4) : pay V c (.agR j q) 0 ⊢ agPt c j q fullShare (agC V) := BI.Entails.refl _
theorem pay_rsS (c : Dev nD) (s : Fin 3) : pay V c (.rsS s) 0 ⊢ pPt c s (pC V c) := BI.Entails.refl _
theorem pay_rsR (c : Dev nD) (j : Fin 4) : pay V c (.rsR j) 0 ⊢ rsPt c j (rsC V c) := BI.Entails.refl _
theorem pay_ld0 (c : Dev nD) : pay V c (.ld 0) 0 ⊢ wqPay V c := BI.Entails.refl _
theorem pay_ld1 (c : Dev nD) : pay V c (.ld 1) 0 ⊢ woPay V c := BI.Entails.refl _

theorem ag_sent (c : Dev nD) (q p : Fin 4) {α : Type} {C : BitVec 1} (hC : C = 1#1 ↔ p ≠ c) {o o' : Fin 4 → Nat}
    {so : Fin 2 → Nat} (hso : so = ![p.val, q.val]) {hi hi'} {hsi : ∀ a, so a + S1x1.size a ≤ S4x4.size a}
    {hw : (aM o hi).view.WordExact} {hw' : (aM o' hi').view.WordExact}
    {kk : Prog (TpuEff nD τ sig (Elt F) Λ₀ .tc) α} {Q : α → sProp 𝕄} {todo done : List (Fin 4 × Dev nD)} :
    Env V K ⊢ iprop(AwS V c ((q, p) :: todo) done -∗ (AwS V c todo (done ++ [(q, p)]) -∗ WP c kk Q)
      -∗ WP c (dite (C = 1#1) (fun _ => Prog.lift (.waitDma2 ((cc0_scratch8.slice (Rect.unit (s := S4x4) so S1x1.size hsi)).squeeze S_ squeezes_S1x1_S_).sem
          (aM o hi) (aM o' hi') hw hw') >>= fun _ => kk) (fun _ => kk)) Q) := by
  unfold AwS
  rw [sepL_cons]
  by_cases hp : p = c
  · rw [dif_neg (fun h => hC.mp h hp), AgWait_self V q hp]
    iintro #HE ⟨HO, ⟨⟨Hat, Hsh⟩, Ht⟩, Hd⟩ Hk
    iapply Hk
    isplitl [HO]; · iexact HO
    isplitl [Ht]; · iexact Ht
    iapply (sepL_snoc (AgDone V c) (q, p) done)
    isplitl [Hd]; · iexact Hd
    iapply (Entails.of_eq (AgDone_self V q hp).symm)
    isplitl [Hat]; · iexact Hat
    iexact Hsh
  · have h1 : C = 1#1 := hC.mpr hp
    subst hso
    rw [dif_pos h1, AgWait_ne V q hp]
    iintro #HE ⟨HO, ⟨⟨Hat, Hc⟩, Ht⟩, Hd⟩ Hk
    iapply (wait_dma V K c (.agS p q) (dut_agS q hp) (l := []) (by intro d hd; cases hd) (sem_agS p q _) (credit_aM o' hi') rfl) $$ HE HO Hc Hat
    iintro HO Hat Hp
    iapply Hk
    isplitl [HO]; · iexact HO
    isplitl [Ht]; · iexact Ht
    iapply (sepL_snoc (AgDone V c) (q, p) done)
    isplitl [Hd]; · iexact Hd
    iapply (Entails.of_eq (AgDone_ne V q hp).symm)
    isplitl [Hat]; · iexact Hat
    iapply (pay_agS V c q p); iexact Hp

/-! ## The gather's arrivals -/

def AgRecv (c : Dev nD) (x : Fin 4 × Fin 4) : sProp 𝕄 :=
  iprop(at0 c (.agR x.1 x.2) ∗ if x.1 = c then iprop(emp) else cred (tallyAt (cell c (.agR x.1 x.2)) () NA))
def AgGot (c : Dev nD) (x : Fin 4 × Fin 4) : sProp 𝕄 :=
  if x.1 = c then at0 c (.agR x.1 x.2) else iprop(at1 c (.agR x.1 x.2) ∗ agPt c x.1 x.2 fullShare (agC V))

theorem AgRecv_ne {c j : Dev nD} (q : Fin 4) (h : j ≠ c) : AgRecv (F := F) c (j, q) = iprop(at0 c (.agR j q) ∗ cred (tallyAt (cell c (.agR j q)) () NA)) := by
  unfold AgRecv; rw [if_neg (show ¬((j, q) : Fin 4 × Fin 4).1 = c from h)]
theorem AgRecv_self {c j : Dev nD} (q : Fin 4) (h : j = c) : AgRecv (F := F) c (j, q) = iprop(at0 c (.agR j q) ∗ emp) := by
  unfold AgRecv; rw [if_pos (show ((j, q) : Fin 4 × Fin 4).1 = c from h)]
theorem AgGot_ne {c j : Dev nD} (q : Fin 4) (h : j ≠ c) : AgGot V c (j, q) = iprop(at1 c (.agR j q) ∗ agPt c j q fullShare (agC V)) := by
  unfold AgGot; rw [if_neg (show ¬((j, q) : Fin 4 × Fin 4).1 = c from h)]
theorem AgGot_self {c j : Dev nD} (q : Fin 4) (h : j = c) : AgGot V c (j, q) = at0 c (.agR j q) := by
  unfold AgGot; rw [if_pos (show ((j, q) : Fin 4 × Fin 4).1 = c from h)]

abbrev outPt (c : Dev nD) (f : S1024x1024.Idx → Elt F .f32) : sProp 𝕄 :=
  (Memref.whole cc0_stg3_0).view.loc (c : Thread nD τ) ↦{fullShare} f
/-- The result so far. -/
def OutS (c : Dev nD) (S : List (Fin 4 × Fin 4)) (n : Nat) : sProp 𝕄 := iprop(∃ f, ⌜OutOK V c S n f⌝ ∗ outPt c f)

def ArS (c : Dev nD) (todo done : List (Fin 4 × Fin 4)) : sProp 𝕄 :=
  iprop(OW c [] ∗ sepL (AgRecv c) todo ∗ sepL (AgGot V c) done ∗ OutS V c done 0)

theorem o_touch (c : Dev nD) {oo : Fin 2 → Nat} (hio : ∀ a, oo a + S64x1024.size a ≤ S1024x1024.size a) {hlo} {f : S1024x1024.Idx → Elt F .f32} {α : Type}
    {kc : _ → Prog (TpuEff nD τ sig (Elt F) Λ₀ .tc) α} {Q : α → sProp 𝕄} :
    outPt c f ⊢ iprop((outPt c f -∗ WP c (kc (((Memref.whole cc0_stg3_0).access (rectO oo hio)).read (Elt F) f)) Q)
      -∗ WP c (.op (.load (Memref.whole cc0_stg3_0) (rectO oo hio).toLoadRect hlo) kc) Q) :=
  wp_load_rect Variants.none (c : Thread nD τ) none Set.univ (r := rectO oo hio) (m := Memref.whole cc0_stg3_0)
    (S := (Finset.univ : Finset S1024x1024.Idx)) (Finset.subset_univ _)
theorem o_put (c : Dev nD) {oo : Fin 2 → Nat} (hio : ∀ a, oo a + S64x1024.size a ≤ S1024x1024.size a) {hst} {hmk} {f : S1024x1024.Idx → Elt F .f32}
    {w : S64x1024.Idx → Elt F .f32} {α : Type} {kc : _ → Prog (TpuEff nD τ sig (Elt F) Λ₀ .tc) α} {Q : α → sProp 𝕄} :
    outPt c f ⊢ iprop((outPt c (((Memref.whole cc0_stg3_0).access (rectO oo hio)).write (Elt F) f w Finset.univ) -∗ WP c (kc ⟨⟩) Q)
      -∗ WP c (.op (.store (Memref.whole cc0_stg3_0) (rectO oo hio) w Finset.univ hst hmk) kc) Q) :=
  wp_store Variants.none (c : Thread nD τ) none Set.univ (r := rectO oo hio) (m := Memref.whole cc0_stg3_0)
    (S := (Finset.univ : Finset S1024x1024.Idx)) (Finset.subset_univ _)

theorem outQ_ne {c j : Fin 4} (q : Fin 4) (h : j ≠ c) : outQ V c j q = extf .f32 (redB V j q) bitsLt_bf16_f32 := if_neg h
theorem outQ_self (c q : Fin 4) : outQ V c c q = redV V c q := if_pos rfl

theorem ag_recv (c : Dev nD) (j q : Fin 4) {α : Type} {C : BitVec 1} (hC : C = 1#1 ↔ j ≠ c) {o o' : Fin 4 → Nat}
    (ho : o = ![j.val, q.val, 0, 0]) {so : Fin 2 → Nat} (hso : so = ![j.val, q.val]) {hi hi'} {hsi : ∀ a, so a + S1x1.size a ≤ S4x4.size a}
    {hw : (aM o' hi').view.WordExact} {hw' : (aM o hi).view.WordExact} {hl}
    {oo : Fin 2 → Nat} (hoo : oo = ![256 * j.val + 64 * q.val, 0]) {hio : ∀ a, oo a + S64x1024.size a ≤ S1024x1024.size a} {hlo} {hst} {hmk}
    {kk : Prog (TpuEff nD τ sig (Elt F) Λ₀ .tc) α} {Q : α → sProp 𝕄} {todo done : List (Fin 4 × Fin 4)} :
    Env V K ⊢ iprop(ArS V c ((j, q) :: todo) done -∗ (ArS V c todo (done ++ [(j, q)]) -∗ WP c kk Q)
      -∗ WP c (dite (C = 1#1) (fun _ => Prog.lift (.waitDma2 ((cc0_scratch9.slice (Rect.unit (s := S4x4) so S1x1.size hsi)).squeeze S_ squeezes_S1x1_S_).sem
          (aM o' hi') (aM o hi) hw hw') >>= fun _ =>
          Prog.lift (.load (Memref.whole cc0_scratch4) (rectA o hi).toLoadRect hl) >>= fun v =>
          Prog.lift (.load (Memref.whole cc0_stg3_0) (rectO oo hio).toLoadRect hlo) >>= fun _ =>
          Prog.lift (.store (Memref.whole cc0_stg3_0) (rectO oo hio) (extf .f32 (shapeCast S64x1024 v shapeCasts_S1x1x64x1024_S64x1024) bitsLt_bf16_f32)
            Finset.univ hst hmk) >>= fun _ => kk) (fun _ => kk)) Q) := by
  unfold ArS OutS
  rw [sepL_cons]
  by_cases hp : j = c
  · rw [dif_neg (fun h => hC.mp h hp), AgRecv_self q hp]
    iintro #HE ⟨HO, ⟨⟨Hat, -⟩, Ht⟩, Hd, ⟨%f, %hf, Hf⟩⟩ Hk
    iapply Hk
    isplitl [HO]; · iexact HO
    isplitl [Ht]; · iexact Ht
    isplitl [Hd Hat]
    · iapply (sepL_snoc (AgGot V c) (j, q) done)
      isplitl [Hd]; · iexact Hd
      iapply (Entails.of_eq (AgGot_self V q hp).symm)
      iexact Hat
    iexists f
    isplitr; · ipureintro; exact OutOK_skip V hf q hp
    iexact Hf
  · have h1 : C = 1#1 := hC.mpr hp
    subst hso
    rw [dif_pos h1, AgRecv_ne q hp]
    iintro #HE ⟨HO, ⟨⟨Hat, Hc⟩, Ht⟩, Hd, ⟨%f, %hf, Hf⟩⟩ Hk
    iapply (wait_dma V K c (.agR j q) (dut_agR q hp) (l := []) (by intro d hd; cases hd) (sem_agR j q _) (credit_aM o hi) rfl) $$ HE HO Hc Hat
    iintro HO Hat Hp
    ihave Hp := (pay_agR V c j q) $$ Hp
    iapply (wp_load_rect Variants.none (c : Thread nD τ) none Set.univ (r := rectA o hi) (S := (agSet j q : Finset S4x4x64x1024.Idx)) (m := Memref.whole cc0_scratch4) (q := fullShare) (f := agC V)
      (Finset.subset_of_eq (a_access j q ho hi))) $$ Hp
    iintro Hp
    iapply (o_touch c hio) $$ Hf
    iintro Hf
    iapply (o_put c hio) $$ Hf
    iintro Hf
    iapply Hk
    isplitl [HO]; · iexact HO
    isplitl [Ht]; · iexact Ht
    isplitl [Hd Hat Hp]
    · iapply (sepL_snoc (AgGot V c) (j, q) done)
      isplitl [Hd]; · iexact Hd
      iapply (Entails.of_eq (AgGot_ne V q hp).symm)
      isplitl [Hat]; · iexact Hat
      iexact Hp
    iexists _
    isplitr
    rotate_left
    · iexact Hf
    ipureintro
    exact OutOK_snoc V hf j q hoo hio (by rw [outQ_ne V q hp]; exact congrArg (fun v => extf .f32 v bitsLt_bf16_f32) (a_load V j q ho hi _))
end Cert.Proof.K
-- ==== Proof.Steps2.lean ====
/-
  The other steps of the body: signals, the barrier, the reduce-scatter, the own slabs and the own chunk.
-/
module

public import proofs.«01_k».proof.Proof.Steps

@[expose] public section
noncomputable section
namespace Cert.Proof.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
local notation "𝕄" => MT nD τ sig Unit (Elt F) ℕ UU ℕ

variable (V : (c : Dev nD) → Valuation τ sig (Elt F)) (K : GSem nD τ sig → ℕ)

/-! ## The barrier -/

/-- To tell device `p` that `c` is there, handing it the slabs it will land in. -/
def SigR (c p : Dev nD) : sProp 𝕄 :=
  if p = c then iprop(emp) else iprop(dutyTok ER (cell p .bar) 0 c ∗ reached ER (cell p .bar) 0 ∗ rsSlot c p ∗ agSlots c p)

theorem SigR_ne {c p : Dev nD} (h : p ≠ c) : SigR (F := F) c p = iprop(dutyTok ER (cell p .bar) 0 c ∗ reached ER (cell p .bar) 0 ∗ rsSlot c p ∗ agSlots c p) := if_neg h

theorem bar_signal (c p : Dev nD) {α : Type} {C : BitVec 1} (hC : C = 1#1 ↔ p ≠ c) {dev : C = 1#1 → Dev nD} (hdev : ∀ h, dev h = p)
    {kk : Prog (TpuEff nD τ sig (Elt F) Λ₀ .tc) α} {Q : α → sProp 𝕄} {l : List Due} :
    Env V K ⊢ iprop(OW c (.B p :: l) -∗ SigR c p -∗ (OW c l -∗ WP c kk Q)
      -∗ WP c (dite (C = 1#1) (fun h => semSignalWord (dev h) (SemArray.scalar (sig.barrier 0 rfl) : Sems sig S_).sem 1#32 >>= fun _ => kk) (fun _ => kk)) Q) := by
  by_cases hp : p = c
  · rw [dif_neg (fun h => hC.mp h hp)]
    iintro #HE HO - Hk
    ihave HO := (Entails.of_eq (show OW c (.B p :: l) = (OW c l : sProp 𝕄) by unfold OW; rw [Ow_B' hp])) $$ HO
    iapply Hk; iexact HO
  · have h1 : C = 1#1 := hC.mpr hp
    rw [dif_pos h1, hdev h1, SigR_ne hp]
    unfold OW
    have hd : c ∈ (Rd V).duties ((p : Thread nD τ), .reg (sig.barrier 0 rfl)) 0 := by
      rw [show ((p : Thread nD τ), SemLoc.reg (sig.barrier 0 rfl)) = cell p .bar from rfl, duties_eq]
      exact Finset.mem_erase.mpr ⟨Ne.symm hp, Finset.mem_univ _⟩
    have hk : (Rd V).amount ((p : Thread nD τ), .reg (sig.barrier 0 rfl)) 0 c = 1 := amount_eq V p .bar c
    have hO : Ow c (.B p :: l) = Ow c l + tallyAt ((p : Thread nD τ), .reg (sig.barrier 0 rfl)) () 1 := Ow_B hp l
    have hpay : iprop(rsSlot c p ∗ agSlots c p) ⊢ (Rd V).payload ((p : Thread nD τ), .reg (sig.barrier 0 rfl)) 0 c :=
      Entails.of_eq (payload_eq V p .bar c).symm
    iintro #HE ⟨%W, HO⟩ ⟨Ht, #Hr, Hs⟩ Hk
    iapply (Rounds.wp_signal Variants.none ER (Rd V) (c : Thread nD τ) none (dst := (p : Thread nD τ)) (sem := sig.barrier 0 rfl) (r := 0) (d := c)
      (κ := K (cell p .bar)) hd hk () (Ow c l) hO (W := W)) $$ [HO Ht Hs]
    · isplitr; · iapply (Env_inv V K p .bar); iexact HE
      isplitl [HO]; · iexact HO
      isplitl [Ht]; · iexact Ht
      isplitl [Hs]; · iapply hpay; iexact Hs
      iexact Hr
    iintro HO
    iapply Hk
    iexists W; iexact HO

theorem bar_wait (c : Dev nD) {l : List Due} (hl : ∀ d ∈ l, 1 < levD d) {α : Type}
    {kc : PUnit → Prog (TpuEff nD τ sig (Elt F) Λ₀ .tc) α} {Q : α → sProp 𝕄} :
    Env V K ⊢ iprop(OW c l -∗ cred (tallyAt (cell c .bar) () 3) -∗ at0 c .bar
      -∗ (OW c l -∗ at1 c .bar -∗ bigSep (Finset.univ.erase c) (fun d => iprop(rsSlot d c ∗ agSlots d c)) -∗ WP c (kc ⟨⟩) Q)
      -∗ WP c (semWaitWord (SemArray.scalar (sig.barrier 0 rfl) : Sems sig S_).sem 3#32 >>= kc) Q) := by
  unfold OW
  have he : 0 + 3 = (Rd V).expect (cell c .bar) 0 := by
    rw [expect_eq]
    show 3 = (Finset.univ.erase c).card * 1
    rw [Finset.card_erase_of_mem (Finset.mem_univ c), Finset.card_univ]; rfl
  have hr : bigSep ((Rd V).duties (cell c .bar) 0 \ ∅) (fun d => (Rd V).payload (cell c .bar) 0 d)
      = bigSep (Finset.univ.erase c) (fun d => iprop(rsSlot (F := F) d c ∗ agSlots d c)) := rest_eq V c .bar
  iintro #HE ⟨%W, HO⟩ Hc Hat Hk
  iapply (Rounds.wp_wait_rest_token Variants.none ER (Rd V) (c : Thread nD τ) none (κ := K (cell c .bar)) (sm := sl .bar)
      (wpE_semWait_eq Variants.none (c : Thread nD τ) none Set.univ) (Set.mem_univ _) () (O := Ow c l) (W := W) (R := 0) (m := 0) (T := ∅) he) $$ [Hc HO Hat]
  · isplitr; · iapply (Env_inv V K c .bar); iexact HE
    isplitl [Hc]; · iexact Hc
    isplitl [HO]; · iexact HO
    isplitr; · iapply (mayWait c .bar l hl); iapply (Env_lev V K); iexact HE
    iexact Hat
  iintro ⟨HO, Hat, -, Hpay⟩
  ihave Hp := (Entails.of_eq hr) $$ Hpay
  iapply Hk $$ [HO] Hat Hp
  iexists _; iexact HO

/-! ## The copies into the kernel's own buffers -/

theorem ld_copy (c : Dev nD) (i : Fin 2) {α : Type} {src : Memref sig .tc .hbm S1024x1024 .f32} {b : Memref sig .tc .vmem S1024x1024 .f32}
    {sem : DmaSem sig} (hs : SemLoc.dma sem = sl (.ld i)) {hsrc hdst hsem}
    (hN : b.view.amount (.dma sem) = N0) {fs : Buf (Elt F) (src.view.loc (c : Thread nD τ))} {fd : Buf (Elt F) (b.view.loc (c : Thread nD τ))}
    (hpay : iprop((b.view.loc (c : Thread nD τ) ↦[b.view.set]{fullShare} (b.view.write (Elt F) fd (src.view.read (Elt F) fs) Finset.univ))
      ∗ (src.view.loc (c : Thread nD τ) ↦[src.view.set]{fullShare} fs)) ⊢ pay V c (.ld i) 0)
    {kc : PUnit → Prog (TpuEff nD τ sig (Elt F) Λ₀ .tc) α} {Q : α → sProp 𝕄} :
    Env V K ⊢ iprop((src.view.loc (c : Thread nD τ) ↦[src.view.set]{fullShare} fs) -∗ (b.view.loc (c : Thread nD τ) ↦[b.view.set]{fullShare} fd)
      -∗ dutyTok ER (cell c (.ld i)) 0 0 -∗ reached ER (cell c (.ld i)) 0
      -∗ (cred (tallyAt (cell c (.ld i)) () N0) -∗ WP c (kc ⟨⟩) Q)
      -∗ WP c (.op (.enqueueDma src (.here b) (.dma sem) hsrc hdst hsem) kc) Q) := by
  have hd : (0 : Fin 4) ∈ (Rd V).duties ((c : Thread nD τ), .dma sem) 0 := by rw [hs]; exact mem_dut V rfl
  have hk : (Rd V).amount ((c : Thread nD τ), .dma sem) 0 0 = N0 := by rw [hs]; exact amount_eq V c _ 0
  have hp : iprop((b.view.loc (c : Thread nD τ) ↦[b.view.set]{fullShare} (b.view.write (Elt F) fd (src.view.read (Elt F) fs) Finset.univ))
      ∗ (src.view.loc (c : Thread nD τ) ↦[src.view.set]{fullShare} fs)) ⊢ (Rd V).payload ((c : Thread nD τ), .dma sem) 0 0 := by
    rw [hs, payload_eq]; exact hpay
  iintro #HE Hs Hd Ht #Hr Hk
  iapply (Rounds.wp_copy_pointsTo Variants.none ER (Rd V) (c : Thread nD τ) none (src := src) (dst := b) (sem := .dma sem) (q := fullShare)
      (fs := fs) (fd := fd) (r := 0) (d := 0) (κ := K (cell c (.ld i))) hd () N0 hN hk hp) $$ [Hs Hd Ht]
  · rw [hs]
    isplitr; · iapply (Env_inv V K c (.ld i)); iexact HE
    isplitl [Hs]; · iexact Hs
    isplitl [Hd]; · iexact Hd
    isplitl [Ht]; · iexact Ht
    iexact Hr
  rw [hs]
  iexact Hk

/-! ## The reduce-scatter -/

/-- To send partial output `s`, but for the slab it lands in. -/
def RsPre (c : Dev nD) (s : Fin 3) : sProp 𝕄 :=
  iprop(at0 c (.rsS s) ∗ dutyTok ER (cell (nxt c s.castSucc) (.rsR c)) 0 0 ∗ dutyTok ER (cell c (.rsS s)) 0 0 ∗ reached ER (cell c (.rsS s)) 0)

theorem rs_land (c : Dev nD) (s : Fin 3) {o o' : Fin 3 → Nat} (ho : o = ![s.val, 0, 0]) (ho' : o' = ![c.val, 0, 0])
    (h : ∀ a, o a + S1x256x1024.size a ≤ S3x256x1024.size a) (h' : ∀ a, o' a + S1x256x1024.size a ≤ S4x256x1024.size a)
    {p : Dev nD} (hp : p = nxt c s.castSucc) (fd : S4x256x1024.Idx → Elt F .bf16) :
    ((rM o' h').view.loc (p : Thread nD τ) ↦[(rM o' h').view.set]{fullShare} ((rM o' h').view.write (Elt F) fd ((pM o h).view.read (Elt F) (pC V c)) Finset.univ) : sProp 𝕄)
      ⊢ rsPt p c (rsC V p) := by
  refine Entails.of_eq ?_
  rw [rM_set c ho' h']
  refine pointsTo_congr fun i hi => ?_
  rw [← rM_set c ho' h'] at hi
  obtain ⟨x, -, rfl⟩ := Finset.mem_map.mp hi
  refine (View.write_emb_of_mem _ _ (Finset.mem_univ x)).trans ?_
  subst ho ho' hp
  obtain ⟨y, hy1, hy2⟩ : ∃ y : S1x256x1024.Idx, (rM ![c.val, 0, 0] h').view.emb x = (rectR ![c.val, 0, 0] h').emb y
      ∧ (pM ![s.val, 0, 0] h).view.emb x = (rectP ![s.val, 0, 0] h).emb y := ⟨_, rfl, rfl⟩
  show pC V c ((pM ![s.val, 0, 0] h).view.emb x) = rsC V _ ((rM ![c.val, 0, 0] h').view.emb x)
  rw [hy1, hy2]
  have h0 : (y 0).val = 0 := by have := (y 0).isLt; simp at this; omega
  have e0 : ((rectR ![c.val, 0, 0] h').emb y : S4x256x1024.Idx) 0 = c := by apply Fin.ext; show c.val + 1 * (y 0).val = c.val; omega
  have e1 : ((rectR ![c.val, 0, 0] h').emb y : S4x256x1024.Idx) 1 = y 1 := by apply Fin.ext; show 0 + 1 * (y 1).val = (y 1).val; omega
  have e2 : ((rectR ![c.val, 0, 0] h').emb y : S4x256x1024.Idx) 2 = y 2 := by apply Fin.ext; show 0 + 1 * (y 2).val = (y 2).val; omega
  have p0 : ((rectP ![s.val, 0, 0] h).emb y : S3x256x1024.Idx) 0 = s := by apply Fin.ext; show s.val + 1 * (y 0).val = s.val; omega
  have p1 : ((rectP ![s.val, 0, 0] h).emb y : S3x256x1024.Idx) 1 = y 1 := by apply Fin.ext; show 0 + 1 * (y 1).val = (y 1).val; omega
  have p2 : ((rectP ![s.val, 0, 0] h).emb y : S3x256x1024.Idx) 2 = y 2 := by apply Fin.ext; show 0 + 1 * (y 2).val = (y 2).val; omega
  unfold pC rsC
  rw [e0, e1, e2, p0, p1, p2, stepOf_nxt]
  rfl

theorem rs_copy (c : Dev nD) (s : Fin 3) {α : Type} {d : Dev nD} (hd : d = nxt c s.castSucc) {o o' : Fin 3 → Nat} (ho : o = ![s.val, 0, 0]) (ho' : o' = ![c.val, 0, 0])
    {h h'} {sS sR : DmaSem sig} (hS : SemLoc.dma sS = sl (.rsS s)) (hR : SemLoc.dma sR = sl (.rsR c)) {hsc hsrc hdst hsem}
    {k : PUnit → Prog (TpuEff nD τ sig (Elt F) Λ₀ .tc) α} {Q : α → sProp 𝕄} {l : List Due} :
    Env V K ⊢ iprop(OW c (.R s :: l) -∗ rsSlot (nxt c s.castSucc) c -∗ RsPre c s -∗ pPt c s (pC V c)
      -∗ (OW c l -∗ at0 c (.rsS s) -∗ cred (tallyAt (cell c (.rsS s)) () NR) -∗ WP c (k ⟨⟩) Q)
      -∗ WP c (.op (.enqueueDma (pM o h) (.remote (Dev.tc d) (rM o' h') (.dma sS) hsc) (.dma sR) hsrc hdst hsem) k) Q) := by
  unfold OW rsSlot RsPre
  rw [← hd]
  iintro #HE ⟨%W, HO⟩ ⟨⟨%fd, Hdst⟩, #Hr2⟩ ⟨Hat, Ht2, Ht1, #Hr1⟩ Hsh Hk
  have hN : (rM o' h').view.amount (.dma sR) = NR := amount_rM o' h' sR
  have hne : c ≠ d := by rw [hd]; exact (nxt_ne c s).symm
  have hpay₁ : ((pM o h).view.loc (c : Thread nD τ) ↦[(pM o h).view.set]{fullShare} (pC V c)) ⊢ (Rd V).payload ((c : Thread nD τ), .dma sS) 0 0 := by
    rw [hS, payload_eq, pM_set s ho h]
    exact BI.Entails.refl _
  have hpay₂ : ((rM o' h').view.loc (d : Thread nD τ) ↦[(rM o' h').view.set]{fullShare} ((rM o' h').view.write (Elt F) fd ((pM o h).view.read (Elt F) (pC V c)) Finset.univ))
      ⊢ (Rd V).payload ((d : Thread nD τ), .dma sR) 0 0 := by
    rw [hR, payload_eq]; exact rs_land V c s ho ho' h h' hd fd
  have hd₁ : (0 : Fin 4) ∈ (Rd V).duties ((c : Thread nD τ), .dma sS) 0 := by rw [hS]; exact mem_dut V rfl
  have hd₂ : (0 : Fin 4) ∈ (Rd V).duties ((d : Thread nD τ), .dma sR) 0 := by rw [hR]; exact mem_dut V (dut_rsR hne)
  have hk₁ : (Rd V).amount ((c : Thread nD τ), .dma sS) 0 0 = NR := by rw [hS]; exact amount_eq V c _ 0
  have hk₂ : (Rd V).amount ((d : Thread nD τ), .dma sR) 0 0 = NR := by rw [hR]; exact amount_eq V d _ 0
  have hO : Ow c (.R s :: l) = Ow c l + tallyAt ((d : Thread nD τ), .dma sR) () NR := by rw [hR, hd]; exact Ow_R c s l
  iapply (Rounds.wp_send_pointsTo Variants.none ER (Rd V) (c : Thread nD τ) none (c' := (d : Thread nD τ)) (src := pM o h) (dst := rM o' h')
      (sS := .dma sS) (sem := .dma sR) (q := fullShare) (fs := pC V c)
      (κ₁ := K (cell c (.rsS s))) (κ₂ := K (cell d (.rsR c))) (r₁ := 0) (r₂ := 0) (d₁ := 0) (d₂ := 0) (fd := fd)
      hd₁ hd₂ () () NR hN hk₁ hk₂ (Ow c l) hO (W := W) hpay₁ hpay₂) $$ [HO Hdst Ht2 Ht1 Hsh]
  · rw [hS, hR, pM_set s ho h, rM_set c ho' h']
    isplitr; · iapply (Env_inv V K c (.rsS s)); iexact HE
    isplitr; · iapply (Env_inv V K d (.rsR c)); iexact HE
    isplitl [Hsh]; · iexact Hsh
    isplitl [Hdst]; · iexact Hdst
    isplitl [HO]; · iexact HO
    isplitl [Ht1]; · iexact Ht1
    isplitr; · iexact Hr1
    isplitl [Ht2]; · iexact Ht2
    iexact Hr2
  rw [hS]
  iintro ⟨Hc, HO⟩
  iapply Hk $$ [HO] Hat Hc
  iexists W; iexact HO

/-- The own slab, done from place `n` on. -/
def RsOwn (c : Dev nD) (n : Nat) : sProp 𝕄 := iprop(∃ f, ⌜c.val < n → ∀ i ∈ rsSet c, f i = rsC V c i⌝ ∗ rsPt c c f)

theorem rs_own (c j : Fin 4) {n : Nat} (hn : n = j.val) {α : Type} {C : BitVec 1} (hC : C = 1#1 ↔ j = c) {o : Fin 3 → Nat} (ho : o = ![j.val, 0, 0]) {h} {hl} {hst} {hmk} {hs}
    {w : S1x256x1024.Idx → Elt F .bf16} (hw : w = shapeCast S1x256x1024 (accB V c 3) hs)
    {kk : Prog (TpuEff nD τ sig (Elt F) Λ₀ .tc) α} {Q : α → sProp 𝕄} :
    RsOwn V c n ⊢ iprop((RsOwn V c (n + 1) -∗ WP c kk Q)
      -∗ WP c (dite (C = 1#1) (fun _ => Prog.lift (.load (Memref.whole cc0_scratch3) (rectR o h).toLoadRect hl) >>= fun _ =>
          Prog.lift (.store (Memref.whole cc0_scratch3) (rectR o h) w Finset.univ hst hmk) >>= fun _ => kk) (fun _ => kk)) Q) := by
  subst hn
  unfold RsOwn
  by_cases hp : j = c
  · rw [dif_pos (hC.mpr hp)]
    subst hp hw
    iintro ⟨%f, %hf, Hf⟩ Hk
    iapply (wp_load_rect Variants.none (j : Thread nD τ) none Set.univ (r := rectR o h) (S := (rsSet j : Finset S4x256x1024.Idx)) (m := Memref.whole cc0_scratch3)
      (Finset.subset_of_eq (r_access j ho h))) $$ Hf
    iintro Hf
    iapply (wp_store Variants.none (j : Thread nD τ) none Set.univ (r := rectR o h) (S := (rsSet j : Finset S4x256x1024.Idx)) (m := Memref.whole cc0_scratch3)
      (Finset.subset_of_eq (r_access j ho h))) $$ Hf
    iintro Hf
    iapply Hk
    iexists _
    isplitr
    rotate_left
    · iexact Hf
    ipureintro
    exact fun _ => r_store V j ho h f hs
  · rw [dif_neg (fun h => hp (hC.mp h))]
    iintro ⟨%f, %hf, Hf⟩ Hk
    iapply Hk
    iexists f
    isplitr
    · ipureintro
      intro hlt
      exact hf (lt_of_le_of_ne (Nat.le_of_lt_succ hlt) (fun e => hp (Fin.ext e.symm)))
    iexact Hf

def RsRecv (c : Dev nD) (j : Fin 4) : sProp 𝕄 :=
  iprop(at0 c (.rsR j) ∗ if j = c then iprop(emp) else cred (tallyAt (cell c (.rsR j)) () NR))
def RsGot (c : Dev nD) (j : Fin 4) : sProp 𝕄 :=
  if j = c then at0 c (.rsR j) else iprop(at1 c (.rsR j) ∗ rsPt c j (rsC V c))
theorem RsRecv_ne {c j : Dev nD} (h : j ≠ c) : RsRecv (F := F) c j = iprop(at0 c (.rsR j) ∗ cred (tallyAt (cell c (.rsR j)) () NR)) := by
  unfold RsRecv; rw [if_neg h]
theorem RsRecv_self {c j : Dev nD} (h : j = c) : RsRecv (F := F) c j = iprop(at0 c (.rsR j) ∗ emp) := by
  unfold RsRecv; rw [if_pos h]

def RsS (c : Dev nD) (l : List Due) (todo done : List (Fin 4)) : sProp 𝕄 :=
  iprop(OW c l ∗ sepL (RsRecv c) todo ∗ sepL (RsGot V c) done)

theorem rs_recv (c : Dev nD) (j : Fin 4) {α : Type} {C : BitVec 1} (hC : C = 1#1 ↔ j ≠ c) {o o' : Fin 3 → Nat}
    {so : Fin 1 → Nat} (hso : so = ![j.val]) {hi hi'} {hsi : ∀ a, so a + S1.size a ≤ S4.size a}
    {hw : (rM o' hi').view.WordExact} {hw' : (rM o hi).view.WordExact} {l : List Due} (hl : ∀ d ∈ l, 2 < levD d)
    {kk : Prog (TpuEff nD τ sig (Elt F) Λ₀ .tc) α} {Q : α → sProp 𝕄} {todo done : List (Fin 4)} :
    Env V K ⊢ iprop(RsS V c l (j :: todo) done -∗ (RsS V c l todo (done ++ [j]) -∗ WP c kk Q)
      -∗ WP c (dite (C = 1#1) (fun _ => Prog.lift (.waitDma2 ((cc0_scratch7.slice (Rect.unit (s := S4) so S1.size hsi)).squeeze S_ squeezes_S1_S_).sem
          (rM o' hi') (rM o hi) hw hw') >>= fun _ => kk) (fun _ => kk)) Q) := by
  unfold RsS
  rw [sepL_cons]
  by_cases hp : j = c
  · rw [dif_neg (fun h => hC.mp h hp), RsRecv_self hp]
    iintro #HE ⟨HO, ⟨⟨Hat, -⟩, Ht⟩, Hd⟩ Hk
    iapply Hk
    isplitl [HO]; · iexact HO
    isplitl [Ht]; · iexact Ht
    iapply (sepL_snoc (RsGot V c) j done)
    isplitl [Hd]; · iexact Hd
    iapply (Entails.of_eq (show at0 c (.rsR j) = RsGot V c j from (if_pos hp).symm))
    iexact Hat
  · have h1 : C = 1#1 := hC.mpr hp
    subst hso
    rw [dif_pos h1, RsRecv_ne hp]
    iintro #HE ⟨HO, ⟨⟨Hat, Hc⟩, Ht⟩, Hd⟩ Hk
    iapply (wait_dma V K c (.rsR j) (dut_rsR hp) (l := l) hl (sem_rsR j _) (credit_rM o hi) rfl) $$ HE HO Hc Hat
    iintro HO Hat Hp
    iapply Hk
    isplitl [HO]; · iexact HO
    isplitl [Ht]; · iexact Ht
    iapply (sepL_snoc (RsGot V c) j done)
    isplitl [Hd]; · iexact Hd
    iapply (Entails.of_eq (show iprop(at1 c (.rsR j) ∗ rsPt c j (rsC V c)) = RsGot V c j from (if_neg hp).symm))
    isplitl [Hat]; · iexact Hat
    iapply (pay_rsR V c j); iexact Hp

/-! ## The own quarters of what is gathered -/

def AgOwn (c : Dev nD) (q : Fin 4) (n : Nat) : sProp 𝕄 := iprop(∃ f, ⌜c.val < n → ∀ i ∈ agSet c q, f i = agC V i⌝ ∗ agPt c c q fullShare f)

theorem ag_own (c j q : Fin 4) {n : Nat} (hn : n = j.val) {α : Type} {C : BitVec 1} (hC : C = 1#1 ↔ j = c) {o : Fin 4 → Nat} (ho : o = ![j.val, q.val, 0, 0]) {h} {hl} {hst} {hmk} {hs}
    {w : S1x1x64x1024.Idx → Elt F .bf16} (hw : w = shapeCast S1x1x64x1024 (redB V c q) hs)
    {kk : Prog (TpuEff nD τ sig (Elt F) Λ₀ .tc) α} {Q : α → sProp 𝕄} :
    AgOwn V c q n ⊢ iprop((AgOwn V c q (n + 1) -∗ WP c kk Q)
      -∗ WP c (dite (C = 1#1) (fun _ => Prog.lift (.load (Memref.whole cc0_scratch4) (rectA o h).toLoadRect hl) >>= fun _ =>
          Prog.lift (.store (Memref.whole cc0_scratch4) (rectA o h) w Finset.univ hst hmk) >>= fun _ => kk) (fun _ => kk)) Q) := by
  subst hn
  unfold AgOwn
  by_cases hp : j = c
  · rw [dif_pos (hC.mpr hp)]
    subst hp hw
    iintro ⟨%f, %hf, Hf⟩ Hk
    iapply (wp_load_rect Variants.none (j : Thread nD τ) none Set.univ (r := rectA o h) (S := (agSet j q : Finset S4x4x64x1024.Idx)) (m := Memref.whole cc0_scratch4)
      (Finset.subset_of_eq (a_access j q ho h))) $$ Hf
    iintro Hf
    iapply (wp_store Variants.none (j : Thread nD τ) none Set.univ (r := rectA o h) (S := (agSet j q : Finset S4x4x64x1024.Idx)) (m := Memref.whole cc0_scratch4)
      (Finset.subset_of_eq (a_access j q ho h))) $$ Hf
    iintro Hf
    iapply Hk
    iexists _
    isplitr
    rotate_left
    · iexact Hf
    ipureintro
    exact fun _ => a_store V j q ho h f hs
  · rw [dif_neg (fun h => hp (hC.mp h))]
    iintro ⟨%f, %hf, Hf⟩ Hk
    iapply Hk
    iexists f
    isplitr
    · ipureintro
      intro hlt
      exact hf (lt_of_le_of_ne (Nat.le_of_lt_succ hlt) (fun e => hp (Fin.ext e.symm)))
    iexact Hf

/-- The quarter finished: four shares of it. -/
theorem ag_split (c : Dev nD) (q : Fin 4) {n : Nat} (hn : n = 4) : AgOwn V c q n ⊢ iprop(agPt c c q (shr 0) (agC V) ∗ agPt c c q (shr 1) (agC V) ∗ agPt c c q (shr 2) (agC V) ∗ agPt c c q (shr 3) (agC V)) := by
  subst hn
  unfold AgOwn
  iintro ⟨%f, %hf, Hf⟩
  ihave Hf := (Entails.of_eq (show agPt c c q fullShare f = agPt c c q fullShare (agC V) from pointsTo_congr (hf c.isLt))) $$ Hf
  ihave Hf := (pointsTo_share (PosShare.mem_left_op_right fullShare)).mp $$ Hf
  icases Hf with ⟨H1, H2⟩
  ihave H1 := (pointsTo_share (PosShare.mem_left_op_right fullShare.left)).mp $$ H1
  ihave H2 := (pointsTo_share (PosShare.mem_left_op_right fullShare.right)).mp $$ H2
  icases H1 with ⟨H0, H1⟩
  icases H2 with ⟨H2, H3⟩
  isplitl [H0]; · iexact H0
  isplitl [H1]; · iexact H1
  isplitl [H2]; · iexact H2
  iexact H3

/-! ## The own chunk of the result -/

theorem OutOK_own {c j : Fin 4} {S : List (Fin 4 × Fin 4)} {n : Nat} {f f' : S1024x1024.Idx → Elt F .f32} (hf : OutOK V c S n f) (hj : j = c)
    (hin : ∀ q i, InQ j q i → f' i = outQ V c j q (ix2' ⟨(i 0).val % 64, Nat.mod_lt _ (by decide)⟩ (i 1)))
    (hout : ∀ i, (∀ q, ¬ InQ j q i) → f' i = f i) (m : Nat) : OutOK V c S m f' := by
  subst hj
  refine ⟨fun x hx hc i hi => ?_, fun _ q i hi => ?_⟩
  · rw [hout i (fun q hq => hc (InQ_inj hi hq).1)]; exact hf.1 x hx hc i hi
  · rw [hin q i hi]; symm
    refine outC_apply V j hi _ ?_ rfl
    show (i 0).val = 256 * j.val + 64 * q.val + (i 0).val % 64
    have := hi.1; have := hi.2; omega

theorem outC_in (c j q : Fin 4) {i : S1024x1024.Idx} (hi : InQ j q i) :
    outC V c i = outQ V c j q (ix2' ⟨(i 0).val % 64, Nat.mod_lt _ (by decide)⟩ (i 1)) := by
  refine outC_apply V c hi _ ?_ rfl
  show (i 0).val = 256 * j.val + 64 * q.val + (i 0).val % 64
  have := hi.1; have := hi.2; omega

theorem own_out (c j : Fin 4) {n : Nat} (hn : n = j.val) {α : Type} {C : BitVec 1} (hC : C = 1#1 ↔ j = c) {S : List (Fin 4 × Fin 4)}
    {o0 o1 o2 o3 : Fin 2 → Nat} (h0 : o0 = ![256 * j.val + 64 * (0 : Fin 4).val, 0]) (h1 : o1 = ![256 * j.val + 64 * (1 : Fin 4).val, 0])
    (h2 : o2 = ![256 * j.val + 64 * (2 : Fin 4).val, 0]) (h3 : o3 = ![256 * j.val + 64 * (3 : Fin 4).val, 0])
    {i0 i1 i2 i3} {l0 l1 l2 l3 s0 s1 s2 s3 m0 m1 m2 m3} {w0 w1 w2 w3 : S64x1024.Idx → Elt F .f32}
    (e0 : w0 = redV V c 0) (e1 : w1 = redV V c 1) (e2 : w2 = redV V c 2) (e3 : w3 = redV V c 3)
    {kk : Prog (TpuEff nD τ sig (Elt F) Λ₀ .tc) α} {Q : α → sProp 𝕄} :
    OutS V c S n ⊢ iprop((OutS V c S (n + 1) -∗ WP c kk Q)
      -∗ WP c (dite (C = 1#1) (fun _ =>
          Prog.lift (.load (Memref.whole cc0_stg3_0) (rectO o0 i0).toLoadRect l0) >>= fun _ =>
          Prog.lift (.store (Memref.whole cc0_stg3_0) (rectO o0 i0) w0 Finset.univ s0 m0) >>= fun _ =>
          Prog.lift (.load (Memref.whole cc0_stg3_0) (rectO o1 i1).toLoadRect l1) >>= fun _ =>
          Prog.lift (.store (Memref.whole cc0_stg3_0) (rectO o1 i1) w1 Finset.univ s1 m1) >>= fun _ =>
          Prog.lift (.load (Memref.whole cc0_stg3_0) (rectO o2 i2).toLoadRect l2) >>= fun _ =>
          Prog.lift (.store (Memref.whole cc0_stg3_0) (rectO o2 i2) w2 Finset.univ s2 m2) >>= fun _ =>
          Prog.lift (.load (Memref.whole cc0_stg3_0) (rectO o3 i3).toLoadRect l3) >>= fun _ =>
          Prog.lift (.store (Memref.whole cc0_stg3_0) (rectO o3 i3) w3 Finset.univ s3 m3) >>= fun _ => kk) (fun _ => kk)) Q) := by
  subst hn
  unfold OutS
  by_cases hp : j = c
  · rw [dif_pos (hC.mpr hp)]
    have q0 : w0 = outQ V c j 0 := by rw [e0, hp]; exact (outQ_self V c 0).symm
    have q1 : w1 = outQ V c j 1 := by rw [e1, hp]; exact (outQ_self V c 1).symm
    have q2 : w2 = outQ V c j 2 := by rw [e2, hp]; exact (outQ_self V c 2).symm
    have q3 : w3 = outQ V c j 3 := by rw [e3, hp]; exact (outQ_self V c 3).symm
    iintro ⟨%f, %hf, Hf⟩ Hk
    iapply (o_touch c i0) $$ Hf; iintro Hf
    iapply (o_put c i0) $$ Hf; iintro Hf
    iapply (o_touch c i1) $$ Hf; iintro Hf
    iapply (o_put c i1) $$ Hf; iintro Hf
    iapply (o_touch c i2) $$ Hf; iintro Hf
    iapply (o_put c i2) $$ Hf; iintro Hf
    iapply (o_touch c i3) $$ Hf; iintro Hf
    iapply (o_put c i3) $$ Hf; iintro Hf
    iapply Hk
    iexists _
    isplitr
    rotate_left
    · iexact Hf
    ipureintro
    refine OutOK_own V hf hp (fun q i hi => ?_) (fun i hn => ?_) _
    · rw [← outC_in V c j q hi]
      match q with
      | 3 => exact o_store_mem V c j 3 h3 i3 _ q3 hi
      | 2 => rw [o_store_not j 3 h3 i3 _ (fun h => absurd (InQ_inj hi h).2 (by decide))]; exact o_store_mem V c j 2 h2 i2 _ q2 hi
      | 1 =>
        rw [o_store_not j 3 h3 i3 _ (fun h => absurd (InQ_inj hi h).2 (by decide)), o_store_not j 2 h2 i2 _ (fun h => absurd (InQ_inj hi h).2 (by decide))]
        exact o_store_mem V c j 1 h1 i1 _ q1 hi
      | 0 =>
        rw [o_store_not j 3 h3 i3 _ (fun h => absurd (InQ_inj hi h).2 (by decide)), o_store_not j 2 h2 i2 _ (fun h => absurd (InQ_inj hi h).2 (by decide)),
          o_store_not j 1 h1 i1 _ (fun h => absurd (InQ_inj hi h).2 (by decide))]
        exact o_store_mem V c j 0 h0 i0 _ q0 hi
    · rw [o_store_not j 3 h3 i3 _ (hn 3), o_store_not j 2 h2 i2 _ (hn 2), o_store_not j 1 h1 i1 _ (hn 1), o_store_not j 0 h0 i0 _ (hn 0)]
  · rw [dif_neg (fun h => hp (hC.mp h))]
    iintro ⟨%f, %hf, Hf⟩ Hk
    iapply Hk
    iexists f
    isplitr
    · ipureintro
      exact ⟨hf.1, fun hlt => hf.2 (lt_of_le_of_ne (Nat.le_of_lt_succ hlt) (fun e => hp (Fin.ext e.symm)))⟩
    iexact Hf

end Cert.Proof.K
-- ==== Proof.Attn.lean ====
/-
  The parts of the body that only read: the attention block, step by step.
-/
module

public import proofs.«01_k».proof.Proof.Steps2

@[expose] public section
noncomputable section
namespace Cert.Proof.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
local notation "𝕄" => MT nD τ sig Unit (Elt F) ℕ UU ℕ

variable (V : (c : Dev nD) → Valuation τ sig (Elt F)) (K : GSem nD τ sig → ℕ)

theorem WP_ret (c : Dev nD) {α : Type} {a : α} {Q : α → sProp 𝕄} : Q a ⊢ WP c (.ret a) Q := by
  unfold WP; rw [wp_ret]; exact fupd_intro
theorem WP_bind (c : Dev nD) {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := by
  unfold WP; rw [wp_bind]

/-- A window of x. -/
def xR (c : Dev nD) (o : Fin 2 → Nat) (h : ∀ a, o a + S256x1024.size a ≤ S1024x1024.size a) : Vec F S256x1024 .f32 :=
  (Memref.whole main_v1).view.readAt (Elt F) (Rect.unit (s := S1024x1024) o S256x1024.size h).toLoadRect (V c main_v1)

abbrev xB (c : Dev nD) : sProp 𝕄 := (Memref.whole cc0_stg0_0).view.loc (c : Thread nD τ) ↦{fullShare} (V c main_v1 : S1024x1024.Idx → Elt F .f32)
abbrev kB (c : Dev nD) : sProp 𝕄 := (Memref.whole cc0_stg1_0).view.loc (c : Thread nD τ) ↦{fullShare} (V c main_v3 : S8x1024x128.Idx → Elt F .f32)
abbrev vB (c : Dev nD) : sProp 𝕄 := (Memref.whole cc0_stg2_0).view.loc (c : Thread nD τ) ↦{fullShare} (V c main_v5 : S8x1024x128.Idx → Elt F .f32)
abbrev wqB (c : Dev nD) : sProp 𝕄 := (Memref.whole cc0_scratch0).view.loc (c : Thread nD τ) ↦{fullShare} wqC V c
abbrev woB (c : Dev nD) : sProp 𝕄 := (Memref.whole cc0_scratch1).view.loc (c : Thread nD τ) ↦{fullShare} woC V c

/-- The operands of the attention block. -/
def Att (c : Dev nD) : sProp 𝕄 := iprop(xB V c ∗ kB V c ∗ vB V c ∗ wqB V c)

theorem att_x (c : Dev nD) {o : Fin 2 → Nat} (h : ∀ a, o a + S256x1024.size a ≤ S1024x1024.size a) {hl} {α : Type}
    {kc : _ → Prog (TpuEff nD τ sig (Elt F) Λ₀ .tc) α} {Q : α → sProp 𝕄} :
    Att V c ⊢ iprop((Att V c -∗ WP c (kc (xR V c o h)) Q)
      -∗ WP c (.op (.load (Memref.whole cc0_stg0_0) (Rect.unit (s := S1024x1024) o S256x1024.size h).toLoadRect hl) kc) Q) := by
  unfold Att
  iintro ⟨H, H'⟩ Hk
  iapply (wp_load Variants.none (c : Thread nD τ) none Set.univ (m := Memref.whole cc0_stg0_0) (r := (Rect.unit (s := S1024x1024) o S256x1024.size h).toLoadRect)
    (S := (Finset.univ : Finset S1024x1024.Idx)) (Finset.subset_univ _)) $$ H
  iintro H
  iapply Hk
  isplitl [H]; · iexact H
  iexact H'
theorem att_k (c : Dev nD) {o : Fin 3 → Nat} (h : ∀ a, o a + S1x512x128.size a ≤ S8x1024x128.size a) {hl} {α : Type}
    {kc : _ → Prog (TpuEff nD τ sig (Elt F) Λ₀ .tc) α} {Q : α → sProp 𝕄} :
    Att V c ⊢ iprop((Att V c -∗ WP c (kc (kvL (V c main_v3) o h)) Q)
      -∗ WP c (.op (.load (Memref.whole cc0_stg1_0) (Rect.unit (s := S8x1024x128) o S1x512x128.size h).toLoadRect hl) kc) Q) := by
  unfold Att
  iintro ⟨H0, H, H'⟩ Hk
  iapply (wp_load Variants.none (c : Thread nD τ) none Set.univ (m := Memref.whole cc0_stg1_0) (r := (Rect.unit (s := S8x1024x128) o S1x512x128.size h).toLoadRect)
    (S := (Finset.univ : Finset S8x1024x128.Idx)) (Finset.subset_univ _)) $$ H
  iintro H
  iapply Hk
  isplitl [H0]; · iexact H0
  isplitl [H]; · iexact H
  iexact H'
theorem att_v (c : Dev nD) {o : Fin 3 → Nat} (h : ∀ a, o a + S1x512x128.size a ≤ S8x1024x128.size a) {hl} {α : Type}
    {kc : _ → Prog (TpuEff nD τ sig (Elt F) Λ₀ .tc) α} {Q : α → sProp 𝕄} :
    Att V c ⊢ iprop((Att V c -∗ WP c (kc (kvL (V c main_v5) o h)) Q)
      -∗ WP c (.op (.load (Memref.whole cc0_stg2_0) (Rect.unit (s := S8x1024x128) o S1x512x128.size h).toLoadRect hl) kc) Q) := by
  unfold Att
  iintro ⟨H0, H1, H, H'⟩ Hk
  iapply (wp_load Variants.none (c : Thread nD τ) none Set.univ (m := Memref.whole cc0_stg2_0) (r := (Rect.unit (s := S8x1024x128) o S1x512x128.size h).toLoadRect)
    (S := (Finset.univ : Finset S8x1024x128.Idx)) (Finset.subset_univ _)) $$ H
  iintro H
  iapply Hk
  isplitl [H0]; · iexact H0
  isplitl [H1]; · iexact H1
  isplitl [H]; · iexact H
  iexact H'
theorem att_wq (c : Dev nD) {h : ∀ a, (![0, 0] : Fin 2 → Nat) a + S1024x1024.size a ≤ S1024x1024.size a} {hl} {α : Type}
    {kc : _ → Prog (TpuEff nD τ sig (Elt F) Λ₀ .tc) α} {Q : α → sProp 𝕄} :
    Att V c ⊢ iprop((Att V c -∗ WP c (kc (allL (wqC V c))) Q)
      -∗ WP c (.op (.load (Memref.whole cc0_scratch0) (Rect.unit (s := S1024x1024) ![0, 0] S1024x1024.size h).toLoadRect hl) kc) Q) := by
  unfold Att
  iintro ⟨H0, H1, H2, H⟩ Hk
  iapply (wp_load Variants.none (c : Thread nD τ) none Set.univ (m := Memref.whole cc0_scratch0) (r := (Rect.unit (s := S1024x1024) ![0, 0] S1024x1024.size h).toLoadRect)
    (S := (Finset.univ : Finset S1024x1024.Idx)) (Finset.subset_univ _)) $$ H
  iintro H
  iapply Hk
  isplitl [H0]; · iexact H0
  isplitl [H1]; · iexact H1
  isplitl [H2]; · iexact H2
  iexact H
theorem att_wo (c : Dev nD) {h : ∀ a, (![0, 0] : Fin 2 → Nat) a + S1024x1024.size a ≤ S1024x1024.size a} {hl} {α : Type}
    {kc : _ → Prog (TpuEff nD τ sig (Elt F) Λ₀ .tc) α} {Q : α → sProp 𝕄} :
    woB V c ⊢ iprop((woB V c -∗ WP c (kc (allL (woC V c))) Q)
      -∗ WP c (.op (.load (Memref.whole cc0_scratch1) (Rect.unit (s := S1024x1024) ![0, 0] S1024x1024.size h).toLoadRect hl) kc) Q) :=
  wp_load Variants.none (c : Thread nD τ) none Set.univ (m := Memref.whole cc0_scratch1) (r := (Rect.unit (s := S1024x1024) ![0, 0] S1024x1024.size h).toLoadRect)
    (S := (Finset.univ : Finset S1024x1024.Idx)) (Finset.subset_univ _)

theorem part2 (c : Dev nD) {v28 : BitVec 32} {c4_i32_14 : BitVec 32} {v29 : BitVec 1} {α : Type} {kk : _ → Prog (TpuEff nD τ sig (Elt F) Λ₀ .tc) α} {Q : α → sProp 𝕄} :
    Att V c ⊢ iprop((Att V c -∗ WP c (kk ⟨(Scalar.select (Scalar.andi (Scalar.xori (Scalar.cmpi .slt (Scalar.remsi v28 (Scalar.select v29 1#32 c4_i32_14)) 0#32) (Scalar.cmpi .slt (Scalar.select v29 1#32 c4_i32_14) 0#32)) (Scalar.cmpi .ne (Scalar.remsi v28 (Scalar.select v29 1#32 c4_i32_14)) 0#32)) (Scalar.addi (Scalar.remsi v28 (Scalar.select v29 1#32 c4_i32_14)) (Scalar.select v29 1#32 c4_i32_14)) (Scalar.remsi v28 (Scalar.select v29 1#32 c4_i32_14))), (Scalar.minsi 512#32 (Scalar.maxsi 0#32 (Scalar.subi (Scalar.muli (Scalar.select (Scalar.andi (Scalar.xori (Scalar.cmpi .slt (Scalar.remsi v28 (Scalar.select v29 1#32 c4_i32_14)) 0#32) (Scalar.cmpi .slt (Scalar.select v29 1#32 c4_i32_14) 0#32)) (Scalar.cmpi .ne (Scalar.remsi v28 (Scalar.select v29 1#32 c4_i32_14)) 0#32)) (Scalar.addi (Scalar.remsi v28 (Scalar.select v29 1#32 c4_i32_14)) (Scalar.select v29 1#32 c4_i32_14)) (Scalar.remsi v28 (Scalar.select v29 1#32 c4_i32_14))) 256#32) 128#32))), k0_pay1 (xR V c (k0_off3 c 0#32) (k0_off3_inb c 0)) (allL (wqC V c)), k0_pay2 v28 c4_i32_14 v29, k0_pay3 v28 c4_i32_14 v29 (xR V c (k0_off3 c 0#32) (k0_off3_inb c 0)) (allL (wqC V c)) (kvL (V c main_v3) (k0_off4 c 0#32) (k0_off4_inb c 0)), k0_pay4 v28 c4_i32_14 v29 (xR V c (k0_off3 c 0#32) (k0_off3_inb c 0)) (allL (wqC V c)) (kvL (V c main_v3) (k0_off4 c 0#32) (k0_off4_inb c 0))⟩) Q)
      -∗ WP c (k0_part2 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v28 c4_i32_14 v29 >>= kk) Q) := by
  rw [k0_part2_eq_skeleton]
  unfold k0_part2_skel
  iintro HA Hk
  iapply (WP_bind c)
  iapply (att_x V c (k0_off3_inb c 0)) $$ HA; iintro HA
  iapply (att_wq V c) $$ HA; iintro HA
  iapply (att_k V c (k0_off4_inb c 0)) $$ HA; iintro HA
  iapply (WP_ret c)
  iapply Hk; iexact HA

theorem part3 (c : Dev nD) {v42 : BitVec 32} {v47 : FVec F S256x1024 .f32} {v57 : IVec S256x512 1} {v67 : FVec F S256x512 .f32} {v69 : FVec F S256x1 .f32} {α : Type} {kk : _ → Prog (TpuEff nD τ sig (Elt F) Λ₀ .tc) α} {Q : α → sProp 𝕄} :
    Att V c ⊢ iprop((Att V c -∗ WP c (kk ⟨k0_pay5 v67 v69 (kvL (V c main_v5) (k0_off4 c 0#32) (k0_off4_inb c 0)), k0_pay6 v47 v57 (kvL (V c main_v3) (k0_off5 c 0#32) (k0_off5_inb c 0)) (kvL (V c main_v5) (k0_off5 c 0#32) (k0_off5_inb c 0)), k0_pay7 v47 v57 (kvL (V c main_v3) (k0_off6 c 0#32) (k0_off6_inb c 0)), k0_pay8 v47 v57 (kvL (V c main_v3) (k0_off6 c 0#32) (k0_off6_inb c 0))⟩) Q)
      -∗ WP c (k0_part3 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v42 v47 v57 v67 v69 >>= kk) Q) := by
  rw [k0_part3_eq_skeleton]
  unfold k0_part3_skel
  iintro HA Hk
  iapply (WP_bind c)
  iapply (att_v V c (k0_off4_inb c 0)) $$ HA; iintro HA
  iapply (att_k V c (k0_off5_inb c 0)) $$ HA; iintro HA
  iapply (att_v V c (k0_off5_inb c 0)) $$ HA; iintro HA
  iapply (att_k V c (k0_off6_inb c 0)) $$ HA; iintro HA
  iapply (WP_ret c)
  iapply Hk; iexact HA

theorem part4 (c : Dev nD) {v42 : BitVec 32} {v47 : FVec F S256x1024 .f32} {v57 : IVec S256x512 1} {v107 : FVec F S256x512 .f32} {v109 : FVec F S256x1 .f32} {α : Type} {kk : _ → Prog (TpuEff nD τ sig (Elt F) Λ₀ .tc) α} {Q : α → sProp 𝕄} :
    Att V c ⊢ iprop((Att V c -∗ WP c (kk ⟨k0_pay9 v107 v109 (kvL (V c main_v5) (k0_off6 c 0#32) (k0_off6_inb c 0)), k0_pay10 v47 v57 (kvL (V c main_v3) (k0_off7 c 0#32) (k0_off7_inb c 0)) (kvL (V c main_v5) (k0_off7 c 0#32) (k0_off7_inb c 0)), k0_pay11 v47 v57 (kvL (V c main_v3) (k0_off8 c 0#32) (k0_off8_inb c 0)), k0_pay12 v47 v57 (kvL (V c main_v3) (k0_off8 c 0#32) (k0_off8_inb c 0))⟩) Q)
      -∗ WP c (k0_part4 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v42 v47 v57 v107 v109 >>= kk) Q) := by
  rw [k0_part4_eq_skeleton]
  unfold k0_part4_skel
  iintro HA Hk
  iapply (WP_bind c)
  iapply (att_v V c (k0_off6_inb c 0)) $$ HA; iintro HA
  iapply (att_k V c (k0_off7_inb c 0)) $$ HA; iintro HA
  iapply (att_v V c (k0_off7_inb c 0)) $$ HA; iintro HA
  iapply (att_k V c (k0_off8_inb c 0)) $$ HA; iintro HA
  iapply (WP_ret c)
  iapply Hk; iexact HA

theorem part5 (c : Dev nD) {v42 : BitVec 32} {v47 : FVec F S256x1024 .f32} {v57 : IVec S256x512 1} {v147 : FVec F S256x512 .f32} {v149 : FVec F S256x1 .f32} {α : Type} {kk : _ → Prog (TpuEff nD τ sig (Elt F) Λ₀ .tc) α} {Q : α → sProp 𝕄} :
    Att V c ⊢ iprop((Att V c -∗ WP c (kk ⟨k0_pay13 v147 v149 (kvL (V c main_v5) (k0_off8 c 0#32) (k0_off8_inb c 0)), k0_pay14 v47 v57 (kvL (V c main_v3) (k0_off9 c 0#32) (k0_off9_inb c 0)) (kvL (V c main_v5) (k0_off9 c 0#32) (k0_off9_inb c 0)), k0_pay15 v47 v57 (kvL (V c main_v3) (k0_off10 c 0#32) (k0_off10_inb c 0)), k0_pay16 v47 v57 (kvL (V c main_v3) (k0_off10 c 0#32) (k0_off10_inb c 0))⟩) Q)
      -∗ WP c (k0_part5 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v42 v47 v57 v147 v149 >>= kk) Q) := by
  rw [k0_part5_eq_skeleton]
  unfold k0_part5_skel
  iintro HA Hk
  iapply (WP_bind c)
  iapply (att_v V c (k0_off8_inb c 0)) $$ HA; iintro HA
  iapply (att_k V c (k0_off9_inb c 0)) $$ HA; iintro HA
  iapply (att_v V c (k0_off9_inb c 0)) $$ HA; iintro HA
  iapply (att_k V c (k0_off10_inb c 0)) $$ HA; iintro HA
  iapply (WP_ret c)
  iapply Hk; iexact HA

theorem part8 (c : Dev nD) {v250 : BitVec 32} {v253 : BitVec 32} {v258 : FVec F S256x1024 .f32} {α : Type} {kk : _ → Prog (TpuEff nD τ sig (Elt F) Λ₀ .tc) α} {Q : α → sProp 𝕄} :
    Att V c ⊢ iprop((Att V c -∗ WP c (kk ⟨k0_pay20 v250 v253, k0_pay21 v250 v253 v258 (kvL (V c main_v3) (k0_off4 c 1#32) (k0_off4_inb c 1)) (kvL (V c main_v5) (k0_off4 c 1#32) (k0_off4_inb c 1)), k0_pay22 v250 v253 v258 (kvL (V c main_v3) (k0_off5 c 1#32) (k0_off5_inb c 1)), k0_pay23 v250 v253 v258 (kvL (V c main_v3) (k0_off5 c 1#32) (k0_off5_inb c 1))⟩) Q)
      -∗ WP c (k0_part8 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v250 v253 v258 >>= kk) Q) := by
  rw [k0_part8_eq_skeleton]
  unfold k0_part8_skel
  iintro HA Hk
  iapply (WP_bind c)
  iapply (att_k V c (k0_off4_inb c 1)) $$ HA; iintro HA
  iapply (att_v V c (k0_off4_inb c 1)) $$ HA; iintro HA
  iapply (att_k V c (k0_off5_inb c 1)) $$ HA; iintro HA
  iapply (WP_ret c)
  iapply Hk; iexact HA

theorem part9 (c : Dev nD) {v253 : BitVec 32} {v258 : FVec F S256x1024 .f32} {v268 : IVec S256x512 1} {v298 : FVec F S256x512 .f32} {v300 : FVec F S256x1 .f32} {α : Type} {kk : _ → Prog (TpuEff nD τ sig (Elt F) Λ₀ .tc) α} {Q : α → sProp 𝕄} :
    Att V c ⊢ iprop((Att V c -∗ WP c (kk ⟨k0_pay24 v298 v300 (kvL (V c main_v5) (k0_off5 c 1#32) (k0_off5_inb c 1)), k0_pay25 v258 v268 (kvL (V c main_v3) (k0_off6 c 1#32) (k0_off6_inb c 1)) (kvL (V c main_v5) (k0_off6 c 1#32) (k0_off6_inb c 1)), k0_pay26 v258 v268 (kvL (V c main_v3) (k0_off7 c 1#32) (k0_off7_inb c 1)), k0_pay27 v258 v268 (kvL (V c main_v3) (k0_off7 c 1#32) (k0_off7_inb c 1))⟩) Q)
      -∗ WP c (k0_part9 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v253 v258 v268 v298 v300 >>= kk) Q) := by
  rw [k0_part9_eq_skeleton]
  unfold k0_part9_skel
  iintro HA Hk
  iapply (WP_bind c)
  iapply (att_v V c (k0_off5_inb c 1)) $$ HA; iintro HA
  iapply (att_k V c (k0_off6_inb c 1)) $$ HA; iintro HA
  iapply (att_v V c (k0_off6_inb c 1)) $$ HA; iintro HA
  iapply (att_k V c (k0_off7_inb c 1)) $$ HA; iintro HA
  iapply (WP_ret c)
  iapply Hk; iexact HA

theorem part10 (c : Dev nD) {v253 : BitVec 32} {v258 : FVec F S256x1024 .f32} {v268 : IVec S256x512 1} {v338 : FVec F S256x512 .f32} {v340 : FVec F S256x1 .f32} {α : Type} {kk : _ → Prog (TpuEff nD τ sig (Elt F) Λ₀ .tc) α} {Q : α → sProp 𝕄} :
    Att V c ⊢ iprop((Att V c -∗ WP c (kk ⟨k0_pay28 v338 v340 (kvL (V c main_v5) (k0_off7 c 1#32) (k0_off7_inb c 1)), k0_pay29 v258 v268 (kvL (V c main_v3) (k0_off8 c 1#32) (k0_off8_inb c 1)) (kvL (V c main_v5) (k0_off8 c 1#32) (k0_off8_inb c 1)), k0_pay30 v258 v268 (kvL (V c main_v3) (k0_off9 c 1#32) (k0_off9_inb c 1)), k0_pay31 v258 v268 (kvL (V c main_v3) (k0_off9 c 1#32) (k0_off9_inb c 1))⟩) Q)
      -∗ WP c (k0_part10 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v253 v258 v268 v338 v340 >>= kk) Q) := by
  rw [k0_part10_eq_skeleton]
  unfold k0_part10_skel
  iintro HA Hk
  iapply (WP_bind c)
  iapply (att_v V c (k0_off7_inb c 1)) $$ HA; iintro HA
  iapply (att_k V c (k0_off8_inb c 1)) $$ HA; iintro HA
  iapply (att_v V c (k0_off8_inb c 1)) $$ HA; iintro HA
  iapply (att_k V c (k0_off9_inb c 1)) $$ HA; iintro HA
  iapply (WP_ret c)
  iapply Hk; iexact HA

theorem part11 (c : Dev nD) {v253 : BitVec 32} {v258 : FVec F S256x1024 .f32} {v268 : IVec S256x512 1} {v378 : FVec F S256x512 .f32} {v380 : FVec F S256x1 .f32} {α : Type} {kk : _ → Prog (TpuEff nD τ sig (Elt F) Λ₀ .tc) α} {Q : α → sProp 𝕄} :
    Att V c ⊢ iprop((Att V c -∗ WP c (kk ⟨k0_pay32 v378 v380 (kvL (V c main_v5) (k0_off9 c 1#32) (k0_off9_inb c 1)), k0_pay33 v258 v268 (kvL (V c main_v3) (k0_off10 c 1#32) (k0_off10_inb c 1)) (kvL (V c main_v5) (k0_off10 c 1#32) (k0_off10_inb c 1)), k0_pay34 v258 v268 (kvL (V c main_v3) (k0_off11 c 1#32) (k0_off11_inb c 1)), k0_pay35 v258 v268 (kvL (V c main_v3) (k0_off11 c 1#32) (k0_off11_inb c 1))⟩) Q)
      -∗ WP c (k0_part11 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v253 v258 v268 v378 v380 >>= kk) Q) := by
  rw [k0_part11_eq_skeleton]
  unfold k0_part11_skel
  iintro HA Hk
  iapply (WP_bind c)
  iapply (att_v V c (k0_off9_inb c 1)) $$ HA; iintro HA
  iapply (att_k V c (k0_off10_inb c 1)) $$ HA; iintro HA
  iapply (att_v V c (k0_off10_inb c 1)) $$ HA; iintro HA
  iapply (att_k V c (k0_off11_inb c 1)) $$ HA; iintro HA
  iapply (WP_ret c)
  iapply Hk; iexact HA

theorem part13 (c : Dev nD) {v449 : BitVec 32} {v450 : BitVec 32} {v451 : BitVec 1} {v452 : BitVec 1} {v453 : BitVec 1} {α : Type} {kk : _ → Prog (TpuEff nD τ sig (Elt F) Λ₀ .tc) α} {Q : α → sProp 𝕄} :
    Att V c ⊢ iprop((Att V c -∗ WP c (kk ⟨(Scalar.select (Scalar.andi (Scalar.xori v452 v453) v451) (Scalar.addi v450 v449) v450), (Scalar.minsi 512#32 (Scalar.maxsi 0#32 (Scalar.subi (Scalar.muli (Scalar.select (Scalar.andi (Scalar.xori v452 v453) v451) (Scalar.addi v450 v449) v450) 256#32) 128#32))), k0_pay37 (xR V c (k0_off3 c 2#32) (k0_off3_inb c 2)) (allL (wqC V c)), k0_pay38 v449 v450 v451 v452 v453, k0_pay40 v449 v450 v451 v452 v453 (xR V c (k0_off3 c 2#32) (k0_off3_inb c 2)) (allL (wqC V c)) (kvL (V c main_v3) (k0_off4 c 2#32) (k0_off4_inb c 2)) (kvL (V c main_v5) (k0_off4 c 2#32) (k0_off4_inb c 2)), k0_pay41 v449 v450 v451 v452 v453 (xR V c (k0_off3 c 2#32) (k0_off3_inb c 2)) (allL (wqC V c)) (kvL (V c main_v3) (k0_off4 c 2#32) (k0_off4_inb c 2))⟩) Q)
      -∗ WP c (k0_part13 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v449 v450 v451 v452 v453 >>= kk) Q) := by
  rw [k0_part13_eq_skeleton]
  unfold k0_part13_skel
  iintro HA Hk
  iapply (WP_bind c)
  iapply (att_x V c (k0_off3_inb c 2)) $$ HA; iintro HA
  iapply (att_wq V c) $$ HA; iintro HA
  iapply (att_k V c (k0_off4_inb c 2)) $$ HA; iintro HA
  iapply (att_v V c (k0_off4_inb c 2)) $$ HA; iintro HA
  iapply (WP_ret c)
  iapply Hk; iexact HA

theorem part14 (c : Dev nD) {v461 : BitVec 32} {v466 : FVec F S256x1024 .f32} {v476 : IVec S256x512 1} {v492 : FVec F S256x128 .f32} {v494 : FVec F S256x1 .f32} {α : Type} {kk : _ → Prog (TpuEff nD τ sig (Elt F) Λ₀ .tc) α} {Q : α → sProp 𝕄} :
    Att V c ⊢ iprop((Att V c -∗ WP c (kk ⟨k0_pay42 v492 v494, k0_pay43 v466 v476 (kvL (V c main_v3) (k0_off5 c 2#32) (k0_off5_inb c 2)) (kvL (V c main_v5) (k0_off5 c 2#32) (k0_off5_inb c 2)), k0_pay45 v466 v476 (kvL (V c main_v3) (k0_off6 c 2#32) (k0_off6_inb c 2)) (kvL (V c main_v5) (k0_off6 c 2#32) (k0_off6_inb c 2)), k0_pay46 v466 v476 (kvL (V c main_v3) (k0_off6 c 2#32) (k0_off6_inb c 2))⟩) Q)
      -∗ WP c (k0_part14 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v461 v466 v476 v492 v494 >>= kk) Q) := by
  rw [k0_part14_eq_skeleton]
  unfold k0_part14_skel
  iintro HA Hk
  iapply (WP_bind c)
  iapply (att_k V c (k0_off5_inb c 2)) $$ HA; iintro HA
  iapply (att_v V c (k0_off5_inb c 2)) $$ HA; iintro HA
  iapply (att_k V c (k0_off6_inb c 2)) $$ HA; iintro HA
  iapply (att_v V c (k0_off6_inb c 2)) $$ HA; iintro HA
  iapply (WP_ret c)
  iapply Hk; iexact HA

theorem part15 (c : Dev nD) {v461 : BitVec 32} {v466 : FVec F S256x1024 .f32} {v476 : IVec S256x512 1} {v532 : FVec F S256x128 .f32} {v534 : FVec F S256x1 .f32} {α : Type} {kk : _ → Prog (TpuEff nD τ sig (Elt F) Λ₀ .tc) α} {Q : α → sProp 𝕄} :
    Att V c ⊢ iprop((Att V c -∗ WP c (kk ⟨k0_pay47 v532 v534, k0_pay48 v466 v476 (kvL (V c main_v3) (k0_off7 c 2#32) (k0_off7_inb c 2)) (kvL (V c main_v5) (k0_off7 c 2#32) (k0_off7_inb c 2)), k0_pay50 v466 v476 (kvL (V c main_v3) (k0_off8 c 2#32) (k0_off8_inb c 2)) (kvL (V c main_v5) (k0_off8 c 2#32) (k0_off8_inb c 2)), k0_pay51 v466 v476 (kvL (V c main_v3) (k0_off8 c 2#32) (k0_off8_inb c 2))⟩) Q)
      -∗ WP c (k0_part15 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v461 v466 v476 v532 v534 >>= kk) Q) := by
  rw [k0_part15_eq_skeleton]
  unfold k0_part15_skel
  iintro HA Hk
  iapply (WP_bind c)
  iapply (att_k V c (k0_off7_inb c 2)) $$ HA; iintro HA
  iapply (att_v V c (k0_off7_inb c 2)) $$ HA; iintro HA
  iapply (att_k V c (k0_off8_inb c 2)) $$ HA; iintro HA
  iapply (att_v V c (k0_off8_inb c 2)) $$ HA; iintro HA
  iapply (WP_ret c)
  iapply Hk; iexact HA

theorem part16 (c : Dev nD) {v461 : BitVec 32} {v466 : FVec F S256x1024 .f32} {v476 : IVec S256x512 1} {v572 : FVec F S256x128 .f32} {v574 : FVec F S256x1 .f32} {α : Type} {kk : _ → Prog (TpuEff nD τ sig (Elt F) Λ₀ .tc) α} {Q : α → sProp 𝕄} :
    Att V c ⊢ iprop((Att V c -∗ WP c (kk ⟨k0_pay52 v572 v574, k0_pay53 v466 v476 (kvL (V c main_v3) (k0_off9 c 2#32) (k0_off9_inb c 2)) (kvL (V c main_v5) (k0_off9 c 2#32) (k0_off9_inb c 2)), k0_pay55 v466 v476 (kvL (V c main_v3) (k0_off10 c 2#32) (k0_off10_inb c 2)) (kvL (V c main_v5) (k0_off10 c 2#32) (k0_off10_inb c 2)), k0_pay56 v466 v476 (kvL (V c main_v3) (k0_off10 c 2#32) (k0_off10_inb c 2))⟩) Q)
      -∗ WP c (k0_part16 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v461 v466 v476 v572 v574 >>= kk) Q) := by
  rw [k0_part16_eq_skeleton]
  unfold k0_part16_skel
  iintro HA Hk
  iapply (WP_bind c)
  iapply (att_k V c (k0_off9_inb c 2)) $$ HA; iintro HA
  iapply (att_v V c (k0_off9_inb c 2)) $$ HA; iintro HA
  iapply (att_k V c (k0_off10_inb c 2)) $$ HA; iintro HA
  iapply (att_v V c (k0_off10_inb c 2)) $$ HA; iintro HA
  iapply (WP_ret c)
  iapply Hk; iexact HA

theorem part19 (c : Dev nD) {v669 : BitVec 32} {v674 : FVec F S256x1024 .f32} {v684 : IVec S256x512 1} {v685 : FVec F S256x128 .f32} {v688 : FVec F S512x128 .f32} {cst_355 : FVec F S256x512 .f32} {α : Type} {kk : _ → Prog (TpuEff nD τ sig (Elt F) Λ₀ .tc) α} {Q : α → sProp 𝕄} :
    Att V c ⊢ iprop((Att V c -∗ WP c (kk ⟨k0_pay62 v684 v685 v688 cst_355 (kvL (V c main_v5) (k0_off4 c 3#32) (k0_off4_inb c 3)), k0_pay63 v674 v684 (kvL (V c main_v3) (k0_off5 c 3#32) (k0_off5_inb c 3)) (kvL (V c main_v5) (k0_off5 c 3#32) (k0_off5_inb c 3)), k0_pay64 v674, k0_pay65 (kvL (V c main_v3) (k0_off6 c 3#32) (k0_off6_inb c 3)), (constant S256x512 .f32 0x00000000#32)⟩) Q)
      -∗ WP c (k0_part19 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v669 v674 v684 v685 v688 cst_355 >>= kk) Q) := by
  rw [k0_part19_eq_skeleton]
  unfold k0_part19_skel
  iintro HA Hk
  iapply (WP_bind c)
  iapply (att_v V c (k0_off4_inb c 3)) $$ HA; iintro HA
  iapply (att_k V c (k0_off5_inb c 3)) $$ HA; iintro HA
  iapply (att_v V c (k0_off5_inb c 3)) $$ HA; iintro HA
  iapply (att_k V c (k0_off6_inb c 3)) $$ HA; iintro HA
  iapply (WP_ret c)
  iapply Hk; iexact HA

theorem part20 (c : Dev nD) {v669 : BitVec 32} {v674 : FVec F S256x1024 .f32} {v684 : IVec S256x512 1} {v725 : FVec F S256x128 .f32} {v728 : FVec F S512x128 .f32} {cst_375 : FVec F S256x512 .f32} {α : Type} {kk : _ → Prog (TpuEff nD τ sig (Elt F) Λ₀ .tc) α} {Q : α → sProp 𝕄} :
    Att V c ⊢ iprop((Att V c -∗ WP c (kk ⟨k0_pay66 v684 v725 v728 cst_375 (kvL (V c main_v5) (k0_off6 c 3#32) (k0_off6_inb c 3)), k0_pay67 v674 v684 (kvL (V c main_v3) (k0_off7 c 3#32) (k0_off7_inb c 3)) (kvL (V c main_v5) (k0_off7 c 3#32) (k0_off7_inb c 3)), k0_pay68 v674, k0_pay69 (kvL (V c main_v3) (k0_off8 c 3#32) (k0_off8_inb c 3)), (constant S256x512 .f32 0x00000000#32)⟩) Q)
      -∗ WP c (k0_part20 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v669 v674 v684 v725 v728 cst_375 >>= kk) Q) := by
  rw [k0_part20_eq_skeleton]
  unfold k0_part20_skel
  iintro HA Hk
  iapply (WP_bind c)
  iapply (att_v V c (k0_off6_inb c 3)) $$ HA; iintro HA
  iapply (att_k V c (k0_off7_inb c 3)) $$ HA; iintro HA
  iapply (att_v V c (k0_off7_inb c 3)) $$ HA; iintro HA
  iapply (att_k V c (k0_off8_inb c 3)) $$ HA; iintro HA
  iapply (WP_ret c)
  iapply Hk; iexact HA

theorem part21 (c : Dev nD) {v669 : BitVec 32} {v674 : FVec F S256x1024 .f32} {v684 : IVec S256x512 1} {v765 : FVec F S256x128 .f32} {v768 : FVec F S512x128 .f32} {cst_395 : FVec F S256x512 .f32} {α : Type} {kk : _ → Prog (TpuEff nD τ sig (Elt F) Λ₀ .tc) α} {Q : α → sProp 𝕄} :
    Att V c ⊢ iprop((Att V c -∗ WP c (kk ⟨k0_pay70 v684 v765 v768 cst_395 (kvL (V c main_v5) (k0_off8 c 3#32) (k0_off8_inb c 3)), k0_pay71 v674 v684 (kvL (V c main_v3) (k0_off9 c 3#32) (k0_off9_inb c 3)) (kvL (V c main_v5) (k0_off9 c 3#32) (k0_off9_inb c 3)), k0_pay72 v674, k0_pay73 (kvL (V c main_v3) (k0_off10 c 3#32) (k0_off10_inb c 3)), (constant S256x512 .f32 0x00000000#32)⟩) Q)
      -∗ WP c (k0_part21 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v669 v674 v684 v765 v768 cst_395 >>= kk) Q) := by
  rw [k0_part21_eq_skeleton]
  unfold k0_part21_skel
  iintro HA Hk
  iapply (WP_bind c)
  iapply (att_v V c (k0_off8_inb c 3)) $$ HA; iintro HA
  iapply (att_k V c (k0_off9_inb c 3)) $$ HA; iintro HA
  iapply (att_v V c (k0_off9_inb c 3)) $$ HA; iintro HA
  iapply (att_k V c (k0_off10_inb c 3)) $$ HA; iintro HA
  iapply (WP_ret c)
  iapply Hk; iexact HA

theorem part22 (c : Dev nD) {v669 : BitVec 32} {v674 : FVec F S256x1024 .f32} {v684 : IVec S256x512 1} {v704 : FVec F S256x128 .f32} {v724 : FVec F S256x128 .f32} {v744 : FVec F S256x128 .f32} {v764 : FVec F S256x128 .f32} {v784 : FVec F S256x128 .f32} {v804 : FVec F S256x128 .f32} {v805 : FVec F S256x128 .f32} {v808 : FVec F S512x128 .f32} {cst_415 : FVec F S256x512 .f32} {α : Type} {kk : _ → Prog (TpuEff nD τ sig (Elt F) Λ₀ .tc) α} {Q : α → sProp 𝕄} :
    Att V c ⊢ iprop(woB V c -∗ (Att V c -∗ woB V c -∗ WP c (kk ⟨k0_pay74 v674 v684 v704 v724 v744 v764 v784 v804 v805 v808 cst_415 (kvL (V c main_v5) (k0_off10 c 3#32) (k0_off10_inb c 3)) (kvL (V c main_v3) (k0_off11 c 3#32) (k0_off11_inb c 3)) (kvL (V c main_v5) (k0_off11 c 3#32) (k0_off11_inb c 3)) (allL (woC V c)), 0#32⟩) Q)
      -∗ WP c (k0_part22 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v669 v674 v684 v704 v724 v744 v764 v784 v804 v805 v808 cst_415 >>= kk) Q) := by
  rw [k0_part22_eq_skeleton]
  unfold k0_part22_skel
  iintro HA HO Hk
  iapply (WP_bind c)
  iapply (att_v V c (k0_off10_inb c 3)) $$ HA; iintro HA
  iapply (att_k V c (k0_off11_inb c 3)) $$ HA; iintro HA
  iapply (att_v V c (k0_off11_inb c 3)) $$ HA; iintro HA
  iapply (att_wo V c) $$ HO; iintro HO
  iapply (WP_ret c)
  iapply Hk $$ HA; iexact HO

end Cert.Proof.K
-- ==== Proof.Mixed.lean ====
/-
  The parts of the body that both read and send.
-/
module

public import proofs.«01_k».proof.Proof.Attn

@[expose] public section
noncomputable section
namespace Cert.Proof.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
local notation "𝕄" => MT nD τ sig Unit (Elt F) ℕ UU ℕ

variable (V : (c : Dev nD) → Valuation τ sig (Elt F)) (K : GSem nD τ sig → ℕ)

theorem off12_eq : ∀ c : Dev nD, k0_off12 c = ![c.val] := by decide
theorem off13_eq : ∀ c : Dev nD, k0_off13 c = ![c.val, 0, 0] := by decide
theorem sem_rsR' : ∀ c : Dev nD, SemLoc.dma ((cc0_scratch7.slice (Rect.unit (s := S4) (k0_off12 c) S1.size (k0_off12_inb c))).squeeze S_ squeezes_S1_S_).sem = sl (.rsR c) := by decide
theorem dev5_eq : ∀ c : Dev nD, (⟨k0_dev5 c, k0_dev5_lt c⟩ : Dev nD) = nxt c (0 : Fin 3).castSucc := by decide
theorem dev6_eq : ∀ c : Dev nD, (⟨k0_dev6 c, k0_dev6_lt c⟩ : Dev nD) = nxt c (1 : Fin 3).castSucc := by decide
theorem dev7_eq : ∀ c : Dev nD, (⟨k0_dev7 c, k0_dev7_lt c⟩ : Dev nD) = nxt c (2 : Fin 3).castSucc := by decide

/-- Partial output `s`, before it is written. -/
def PIn (c : Dev nD) (s : Fin 3) : sProp 𝕄 := iprop(∃ f, pPt c s f)

theorem p_put (c : Dev nD) (s : Fin 3) {o : Fin 3 → Nat} (ho : o = ![s.val, 0, 0]) {h} {hl} {hst} {hmk} {hs}
    {w : S1x256x1024.Idx → Elt F .bf16} (hw : w = shapeCast S1x256x1024 (accB V c s.castSucc) hs) {α : Type}
    {kk : Prog (TpuEff nD τ sig (Elt F) Λ₀ .tc) α} {Q : α → sProp 𝕄} :
    PIn c s ⊢ iprop((pPt c s (pC V c) -∗ WP c kk Q)
      -∗ WP c (Prog.lift (.load (Memref.whole cc0_scratch2) (rectP o h).toLoadRect hl) >>= fun _ =>
          Prog.lift (.store (Memref.whole cc0_scratch2) (rectP o h) w Finset.univ hst hmk) >>= fun _ => kk) Q) := by
  unfold PIn
  subst hw
  iintro ⟨%f, Hf⟩ Hk
  iapply (wp_load_rect Variants.none (c : Thread nD τ) none Set.univ (r := rectP o h) (S := (pSet s : Finset S3x256x1024.Idx)) (m := Memref.whole cc0_scratch2)
    (Finset.subset_of_eq (p_access s ho h))) $$ Hf
  iintro Hf
  iapply (wp_store Variants.none (c : Thread nD τ) none Set.univ (r := rectP o h) (S := (pSet s : Finset S3x256x1024.Idx)) (m := Memref.whole cc0_scratch2)
    (Finset.subset_of_eq (p_access s ho h))) $$ Hf
  iintro Hf
  ihave Hf := (Entails.of_eq (pointsTo_congr (p_store V c s ho h f hs))) $$ Hf
  iapply Hk
  iexact Hf

/-- The right to send partial output `s`, with the slab it lands in. -/
def RsSend (c : Dev nD) (s : Fin 3) : sProp 𝕄 := iprop(rsSlot (nxt c s.castSucc) c ∗ RsPre c s)
/-- While it is under way. -/
def RsFly (c : Dev nD) (s : Fin 3) : sProp 𝕄 := iprop(at0 c (.rsS s) ∗ cred (tallyAt (cell c (.rsS s)) () NR))

theorem rs_send (c : Dev nD) (s : Fin 3) {α : Type} {d : Dev nD} (hd : d = nxt c s.castSucc) {o o' : Fin 3 → Nat} (ho : o = ![s.val, 0, 0]) (ho' : o' = ![c.val, 0, 0])
    {h h'} {sS sR : DmaSem sig} (hS : SemLoc.dma sS = sl (.rsS s)) (hR : SemLoc.dma sR = sl (.rsR c)) {hsc hsrc hdst hsem}
    {k : PUnit → Prog (TpuEff nD τ sig (Elt F) Λ₀ .tc) α} {Q : α → sProp 𝕄} {l : List Due} :
    Env V K ⊢ iprop(OW c (.R s :: l) -∗ RsSend c s -∗ pPt c s (pC V c)
      -∗ (OW c l -∗ RsFly c s -∗ WP c (k ⟨⟩) Q)
      -∗ WP c (.op (.enqueueDma (pM o h) (.remote (Dev.tc d) (rM o' h') (.dma sS) hsc) (.dma sR) hsrc hdst hsem) k) Q) := by
  unfold RsSend RsFly
  iintro #HE HO ⟨Hsl, Hpre⟩ Hp Hk
  iapply (rs_copy V K c s hd ho ho' hS hR) $$ HE HO Hsl Hpre Hp
  iintro HO Hat Hc
  iapply Hk $$ HO
  isplitl [Hat]; · iexact Hat
  iexact Hc

theorem part7 (c : Dev nD) {v2 : BitVec 32} {v38 : BitVec 32} {v224 : FVec F S256x1024 .bf16} (hw : (k0_pay18 v224) = shapeCast S1x256x1024 (accB V c (0 : Fin 3).castSucc) shapeCasts_S256x1024_S1x256x1024) {l : List Due} {α : Type} {kk : _ → Prog (TpuEff nD τ sig (Elt F) Λ₀ .tc) α} {Q : α → sProp 𝕄} :
    Env V K ⊢ iprop(Att V c -∗ PIn c 0 -∗ OW c (.R 0 :: l) -∗ RsSend c 0 -∗ (Att V c -∗ OW c l -∗ RsFly c 0 -∗ WP c (kk ⟨(Scalar.select (Scalar.andi (Scalar.xori (Scalar.cmpi .slt (Scalar.remsi (Scalar.addi (Scalar.addi v2 1#32) 1#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.addi (Scalar.addi v2 1#32) 1#32) (Scalar.select (Scalar.cmpi .eq 4#32 0#32) 1#32 4#32)) 0#32)) (Scalar.addi (Scalar.remsi (Scalar.addi (Scalar.addi v2 1#32) 1#32) (Scalar.select (Scalar.cmpi .eq 4#32 0#32) 1#32 4#32)) (Scalar.select (Scalar.cmpi .eq 4#32 0#32) 1#32 4#32)) (Scalar.remsi (Scalar.addi (Scalar.addi v2 1#32) 1#32) (Scalar.select (Scalar.cmpi .eq 4#32 0#32) 1#32 4#32))), (Scalar.muli (Scalar.select (Scalar.andi (Scalar.xori (Scalar.cmpi .slt (Scalar.remsi (Scalar.addi (Scalar.addi v2 1#32) 1#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.addi (Scalar.addi v2 1#32) 1#32) (Scalar.select (Scalar.cmpi .eq 4#32 0#32) 1#32 4#32)) 0#32)) (Scalar.addi (Scalar.remsi (Scalar.addi (Scalar.addi v2 1#32) 1#32) (Scalar.select (Scalar.cmpi .eq 4#32 0#32) 1#32 4#32)) (Scalar.select (Scalar.cmpi .eq 4#32 0#32) 1#32 4#32)) (Scalar.remsi (Scalar.addi (Scalar.addi v2 1#32) 1#32) (Scalar.select (Scalar.cmpi .eq 4#32 0#32) 1#32 4#32))) 256#32), (Scalar.minsi 512#32 (Scalar.maxsi 0#32 (Scalar.subi (Scalar.muli (Scalar.select (Scalar.andi (Scalar.xori (Scalar.cmpi .slt (Scalar.remsi (Scalar.addi (Scalar.addi v2 1#32) 1#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.addi (Scalar.addi v2 1#32) 1#32) (Scalar.select (Scalar.cmpi .eq 4#32 0#32) 1#32 4#32)) 0#32)) (Scalar.addi (Scalar.remsi (Scalar.addi (Scalar.addi v2 1#32) 1#32) (Scalar.select (Scalar.cmpi .eq 4#32 0#32) 1#32 4#32)) (Scalar.select (Scalar.cmpi .eq 4#32 0#32) 1#32 4#32)) (Scalar.remsi (Scalar.addi (Scalar.addi v2 1#32) 1#32) (Scalar.select (Scalar.cmpi .eq 4#32 0#32) 1#32 4#32))) 256#32) 128#32))), k0_pay19 (xR V c (k0_off3 c 1#32) (k0_off3_inb c 1)) (allL (wqC V c))⟩) Q)
      -∗ WP c (k0_part7 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v2 v38 v224 >>= kk) Q) := by
  rw [k0_part7_eq_skeleton]
  unfold k0_part7_skel
  iintro #HE HA Hp Hw Hs Hk
  iapply (WP_bind c)
  iapply (p_put V c 0 rfl hw) $$ Hp; iintro Hp
  iapply (rs_send V K c 0 (dev5_eq c) rfl (off13_eq c) (sem_rsS 0 _) (sem_rsR' c)) $$ HE Hw Hs Hp; iintro Hw Hf
  iapply (att_x V c (k0_off3_inb c 1)) $$ HA; iintro HA
  iapply (att_wq V c) $$ HA; iintro HA
  iapply (WP_ret c)
  iapply Hk $$ HA Hw; iexact Hf

theorem part12 (c : Dev nD) {v2 : BitVec 32} {v249 : BitVec 32} {v253 : BitVec 32} {v288 : FVec F S256x128 .f32} {v308 : FVec F S256x128 .f32} {v328 : FVec F S256x128 .f32} {v348 : FVec F S256x128 .f32} {v368 : FVec F S256x128 .f32} {v388 : FVec F S256x128 .f32} {v408 : FVec F S256x128 .f32} {v418 : FVec F S256x512 .f32} {v420 : FVec F S256x1 .f32} (hw : (k0_pay36 v288 v308 v328 v348 v368 v388 v408 v418 v420 (kvL (V c main_v5) (k0_off11 c 1#32) (k0_off11_inb c 1)) (allL (woC V c))) = shapeCast S1x256x1024 (accB V c (1 : Fin 3).castSucc) shapeCasts_S256x1024_S1x256x1024) {l : List Due} {α : Type} {kk : _ → Prog (TpuEff nD τ sig (Elt F) Λ₀ .tc) α} {Q : α → sProp 𝕄} :
    Env V K ⊢ iprop(Att V c -∗ woB V c -∗ PIn c 1 -∗ OW c (.R 1 :: l) -∗ RsSend c 1 -∗ (Att V c -∗ woB V c -∗ OW c l -∗ RsFly c 1 -∗ WP c (kk ⟨(Scalar.select (Scalar.cmpi .eq 4#32 0#32) 1#32 4#32), (Scalar.remsi (Scalar.addi (Scalar.addi v2 1#32) 2#32) (Scalar.select (Scalar.cmpi .eq 4#32 0#32) 1#32 4#32)), (Scalar.cmpi .ne (Scalar.remsi (Scalar.addi (Scalar.addi v2 1#32) 2#32) (Scalar.select (Scalar.cmpi .eq 4#32 0#32) 1#32 4#32)) 0#32), (Scalar.cmpi .slt (Scalar.remsi (Scalar.addi (Scalar.addi v2 1#32) 2#32) (Scalar.select (Scalar.cmpi .eq 4#32 0#32) 1#32 4#32)) 0#32), (Scalar.cmpi .slt (Scalar.select (Scalar.cmpi .eq 4#32 0#32) 1#32 4#32) 0#32)⟩) Q)
      -∗ WP c (k0_part12 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v2 v249 v253 v288 v308 v328 v348 v368 v388 v408 v418 v420 >>= kk) Q) := by
  rw [k0_part12_eq_skeleton]
  unfold k0_part12_skel
  iintro #HE HA HO Hp Hw Hs Hk
  iapply (WP_bind c)
  iapply (att_v V c (k0_off11_inb c 1)) $$ HA; iintro HA
  iapply (att_wo V c) $$ HO; iintro HO
  iapply (p_put V c 1 rfl hw) $$ Hp; iintro Hp
  iapply (rs_send V K c 1 (dev6_eq c) rfl (off13_eq c) (sem_rsS 1 _) (sem_rsR' c)) $$ HE Hw Hs Hp; iintro Hw Hf
  iapply (WP_ret c)
  iapply Hk $$ HA HO Hw; iexact Hf

theorem part17 (c : Dev nD) {v457 : BitVec 32} {v461 : BitVec 32} {v466 : FVec F S256x1024 .f32} {v476 : IVec S256x512 1} {v496 : FVec F S256x128 .f32} {v516 : FVec F S256x128 .f32} {v536 : FVec F S256x128 .f32} {v556 : FVec F S256x128 .f32} {v576 : FVec F S256x128 .f32} {v596 : FVec F S256x128 .f32} {v612 : FVec F S256x128 .f32} {v614 : FVec F S256x1 .f32} (hw : (k0_pay57 v466 v476 v496 v516 v536 v556 v576 v596 v612 v614 (kvL (V c main_v3) (k0_off11 c 2#32) (k0_off11_inb c 2)) (kvL (V c main_v5) (k0_off11 c 2#32) (k0_off11_inb c 2)) (allL (woC V c))) = shapeCast S1x256x1024 (accB V c (2 : Fin 3).castSucc) shapeCasts_S256x1024_S1x256x1024) {α : Type} {kk : _ → Prog (TpuEff nD τ sig (Elt F) Λ₀ .tc) α} {Q : α → sProp 𝕄} :
    Env V K ⊢ iprop(Att V c -∗ woB V c -∗ PIn c 2 -∗ (Att V c -∗ woB V c -∗ pPt c 2 (pC V c) -∗ WP c (kk ⟨⟩) Q)
      -∗ WP c (k0_part17 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v457 v461 v466 v476 v496 v516 v536 v556 v576 v596 v612 v614 >>= kk) Q) := by
  rw [k0_part17_eq_skeleton]
  unfold k0_part17_skel
  iintro #HE HA HO Hp Hk
  iapply (WP_bind c)
  iapply (att_k V c (k0_off11_inb c 2)) $$ HA; iintro HA
  iapply (att_v V c (k0_off11_inb c 2)) $$ HA; iintro HA
  iapply (att_wo V c) $$ HO; iintro HO
  iapply (p_put V c 2 rfl hw) $$ Hp; iintro Hp
  iapply (WP_ret c)
  iapply Hk $$ HA HO; iexact Hp

theorem part18 (c : Dev nD) {v2 : BitVec 32} {l : List Due} {α : Type} {kk : _ → Prog (TpuEff nD τ sig (Elt F) Λ₀ .tc) α} {Q : α → sProp 𝕄} :
    Env V K ⊢ iprop(Att V c -∗ pPt c 2 (pC V c) -∗ OW c (.R 2 :: l) -∗ RsSend c 2 -∗ (Att V c -∗ OW c l -∗ RsFly c 2 -∗ WP c (kk ⟨(Scalar.minsi 512#32 (Scalar.maxsi 0#32 (Scalar.subi (Scalar.muli (Scalar.select (Scalar.andi (Scalar.xori (Scalar.cmpi .slt (Scalar.remsi (Scalar.addi (Scalar.addi v2 1#32) 3#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.addi (Scalar.addi v2 1#32) 3#32) (Scalar.select (Scalar.cmpi .eq 4#32 0#32) 1#32 4#32)) 0#32)) (Scalar.addi (Scalar.remsi (Scalar.addi (Scalar.addi v2 1#32) 3#32) (Scalar.select (Scalar.cmpi .eq 4#32 0#32) 1#32 4#32)) (Scalar.select (Scalar.cmpi .eq 4#32 0#32) 1#32 4#32)) (Scalar.remsi (Scalar.addi (Scalar.addi v2 1#32) 3#32) (Scalar.select (Scalar.cmpi .eq 4#32 0#32) 1#32 4#32))) 256#32) 128#32))), k0_pay58 (xR V c (k0_off3 c 3#32) (k0_off3_inb c 3)) (allL (wqC V c)), k0_pay59 v2, k0_pay60 (xR V c (k0_off3 c 3#32) (k0_off3_inb c 3)) (allL (wqC V c)), k0_pay61 (kvL (V c main_v3) (k0_off4 c 3#32) (k0_off4_inb c 3)), (constant S256x512 .f32 0x00000000#32)⟩) Q)
      -∗ WP c (k0_part18 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v2 >>= kk) Q) := by
  rw [k0_part18_eq_skeleton]
  unfold k0_part18_skel
  iintro #HE HA Hp Hw Hs Hk
  iapply (WP_bind c)
  iapply (rs_send V K c 2 (dev7_eq c) rfl (off13_eq c) (sem_rsS 2 _) (sem_rsR' c)) $$ HE Hw Hs Hp; iintro Hw Hf
  iapply (att_x V c (k0_off3_inb c 3)) $$ HA; iintro HA
  iapply (att_wq V c) $$ HA; iintro HA
  iapply (att_k V c (k0_off4_inb c 3)) $$ HA; iintro HA
  iapply (WP_ret c)
  iapply Hk $$ HA Hw; iexact Hf

/-- Wo's rows on their way. -/
def WoFly (c : Dev nD) : sProp 𝕄 := iprop(at0 c (.ld 1) ∗ cred (tallyAt (cell c (.ld 1)) () N0))
/-- The rows themselves, back. -/
abbrev woSrc (c : Dev nD) : sProp 𝕄 := (woM c).view.loc (c : Thread nD τ) ↦[(woM c).view.set]{fullShare} V c main_arg4
abbrev wqSrc (c : Dev nD) : sProp 𝕄 := (wqM c).view.loc (c : Thread nD τ) ↦[(wqM c).view.set]{fullShare} V c main_arg1
/-- To wait at the barrier. -/
def BarW (c : Dev nD) : sProp 𝕄 := iprop(at0 c .bar ∗ cred (tallyAt (cell c .bar) () 3))

theorem part6 (c : Dev nD) {v42 : BitVec 32} {v47 : FVec F S256x1024 .f32} {v57 : IVec S256x512 1} {v77 : FVec F S256x128 .f32} {v97 : FVec F S256x128 .f32} {v117 : FVec F S256x128 .f32} {v137 : FVec F S256x128 .f32} {v157 : FVec F S256x128 .f32} {v177 : FVec F S256x128 .f32} {v187 : FVec F S256x512 .f32} {v189 : FVec F S256x1 .f32} {l : List Due} (hl : ∀ d ∈ l, 1 < levD d) {α : Type} {kk : _ → Prog (TpuEff nD τ sig (Elt F) Λ₀ .tc) α} {Q : α → sProp 𝕄} :
    Env V K ⊢ iprop(Att V c -∗ OW c l -∗ WoFly c -∗ BarW c -∗ (Att V c -∗ woB V c -∗ woSrc V c -∗ at1 c (.ld 1) -∗ OW c l -∗ at1 c .bar -∗ bigSep (Finset.univ.erase c) (fun d => iprop(rsSlot d c ∗ agSlots d c)) -∗ WP c (kk (k0_pay17 v47 v57 v77 v97 v117 v137 v157 v177 v187 v189 (kvL (V c main_v5) (k0_off10 c 0#32) (k0_off10_inb c 0)) (kvL (V c main_v3) (k0_off11 c 0#32) (k0_off11_inb c 0)) (kvL (V c main_v5) (k0_off11 c 0#32) (k0_off11_inb c 0)) (allL (woC V c)))) Q)
      -∗ WP c (k0_part6 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c (SemArray.scalar (sig.barrier 0 rfl) : Sems sig S_) v42 v47 v57 v77 v97 v117 v137 v157 v177 v187 v189 >>= kk) Q) := by
  rw [k0_part6_eq_skeleton]
  unfold k0_part6_skel WoFly BarW
  iintro #HE HA Hw ⟨Hat, Hc⟩ ⟨HatB, HcB⟩ Hk
  iapply (WP_bind c)
  iapply (att_v V c (k0_off10_inb c 0)) $$ HA; iintro HA
  iapply (att_k V c (k0_off11_inb c 0)) $$ HA; iintro HA
  iapply (att_v V c (k0_off11_inb c 0)) $$ HA; iintro HA
  iapply (wait_dma V K c (.ld 1) rfl (l := l) (fun d hd => Nat.lt_trans Nat.zero_lt_one (hl d hd)) (sem_ld 1 _) credit_1 rfl) $$ HE Hw Hc Hat
  iintro Hw Hat Hpay
  ihave Hpay := (pay_ld1 V c) $$ Hpay
  ihave Hpay := (show woPay V c ⊢ iprop(woB V c ∗ woSrc V c) from BI.Entails.refl _) $$ Hpay
  icases Hpay with ⟨HO, Hsrc⟩
  iapply (att_wo V c) $$ HO; iintro HO
  iapply (bar_wait V K c hl) $$ HE Hw HcB HatB
  iintro Hw HatB Hsl
  iapply (WP_ret c)
  iapply Hk $$ HA HO Hsrc Hat Hw HatB; iexact Hsl

end Cert.Proof.K
-- ==== Proof.Comm.lean ====
/-
  The parts of the body that talk: the reduction, the gather, the result.
-/
module

public import proofs.«01_k».proof.Proof.Mixed

@[expose] public section
noncomputable section
namespace Cert.Proof.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
local notation "𝕄" => MT nD τ sig Unit (Elt F) ℕ UU ℕ

variable (V : (c : Dev nD) → Valuation τ sig (Elt F)) (K : GSem nD τ sig → ℕ)

theorem cond17_iff : ∀ c : Fin 4, k0_cond17 c = 1#1 ↔ (0 : Fin 4) ≠ c := by decide
theorem off14_eq : ∀ c : Fin 4, k0_off14 c = ![c.val, (0 : Fin 4).val] := by decide
theorem off15_eq : ∀ c : Fin 4, k0_off15 c = ![c.val, (0 : Fin 4).val, 0, 0] := by decide
theorem cond18_iff : ∀ c : Fin 4, k0_cond18 c = 1#1 ↔ (1 : Fin 4) ≠ c := by decide
theorem off16_eq : ∀ c : Fin 4, k0_off16 c = ![c.val, (0 : Fin 4).val] := by decide
theorem off17_eq : ∀ c : Fin 4, k0_off17 c = ![c.val, (0 : Fin 4).val, 0, 0] := by decide
theorem cond19_iff : ∀ c : Fin 4, k0_cond19 c = 1#1 ↔ (2 : Fin 4) ≠ c := by decide
theorem off18_eq : ∀ c : Fin 4, k0_off18 c = ![c.val, (0 : Fin 4).val] := by decide
theorem off19_eq : ∀ c : Fin 4, k0_off19 c = ![c.val, (0 : Fin 4).val, 0, 0] := by decide
theorem cond20_iff : ∀ c : Fin 4, k0_cond20 c = 1#1 ↔ (3 : Fin 4) ≠ c := by decide
theorem off20_eq : ∀ c : Fin 4, k0_off20 c = ![c.val, (0 : Fin 4).val] := by decide
theorem off21_eq : ∀ c : Fin 4, k0_off21 c = ![c.val, (0 : Fin 4).val, 0, 0] := by decide
theorem cond25_iff : ∀ c : Fin 4, k0_cond25 c = 1#1 ↔ (0 : Fin 4) ≠ c := by decide
theorem off22_eq : ∀ c : Fin 4, k0_off22 c = ![c.val, (1 : Fin 4).val] := by decide
theorem off23_eq : ∀ c : Fin 4, k0_off23 c = ![c.val, (1 : Fin 4).val, 0, 0] := by decide
theorem cond26_iff : ∀ c : Fin 4, k0_cond26 c = 1#1 ↔ (1 : Fin 4) ≠ c := by decide
theorem off24_eq : ∀ c : Fin 4, k0_off24 c = ![c.val, (1 : Fin 4).val] := by decide
theorem off25_eq : ∀ c : Fin 4, k0_off25 c = ![c.val, (1 : Fin 4).val, 0, 0] := by decide
theorem cond27_iff : ∀ c : Fin 4, k0_cond27 c = 1#1 ↔ (2 : Fin 4) ≠ c := by decide
theorem off26_eq : ∀ c : Fin 4, k0_off26 c = ![c.val, (1 : Fin 4).val] := by decide
theorem off27_eq : ∀ c : Fin 4, k0_off27 c = ![c.val, (1 : Fin 4).val, 0, 0] := by decide
theorem cond28_iff : ∀ c : Fin 4, k0_cond28 c = 1#1 ↔ (3 : Fin 4) ≠ c := by decide
theorem off28_eq : ∀ c : Fin 4, k0_off28 c = ![c.val, (1 : Fin 4).val] := by decide
theorem off29_eq : ∀ c : Fin 4, k0_off29 c = ![c.val, (1 : Fin 4).val, 0, 0] := by decide
theorem cond33_iff : ∀ c : Fin 4, k0_cond33 c = 1#1 ↔ (0 : Fin 4) ≠ c := by decide
theorem off30_eq : ∀ c : Fin 4, k0_off30 c = ![c.val, (2 : Fin 4).val] := by decide
theorem off31_eq : ∀ c : Fin 4, k0_off31 c = ![c.val, (2 : Fin 4).val, 0, 0] := by decide
theorem cond34_iff : ∀ c : Fin 4, k0_cond34 c = 1#1 ↔ (1 : Fin 4) ≠ c := by decide
theorem off32_eq : ∀ c : Fin 4, k0_off32 c = ![c.val, (2 : Fin 4).val] := by decide
theorem off33_eq : ∀ c : Fin 4, k0_off33 c = ![c.val, (2 : Fin 4).val, 0, 0] := by decide
theorem cond35_iff : ∀ c : Fin 4, k0_cond35 c = 1#1 ↔ (2 : Fin 4) ≠ c := by decide
theorem off34_eq : ∀ c : Fin 4, k0_off34 c = ![c.val, (2 : Fin 4).val] := by decide
theorem off35_eq : ∀ c : Fin 4, k0_off35 c = ![c.val, (2 : Fin 4).val, 0, 0] := by decide
theorem cond36_iff : ∀ c : Fin 4, k0_cond36 c = 1#1 ↔ (3 : Fin 4) ≠ c := by decide
theorem off36_eq : ∀ c : Fin 4, k0_off36 c = ![c.val, (2 : Fin 4).val] := by decide
theorem off37_eq : ∀ c : Fin 4, k0_off37 c = ![c.val, (2 : Fin 4).val, 0, 0] := by decide
theorem cond41_iff : ∀ c : Fin 4, k0_cond41 c = 1#1 ↔ (0 : Fin 4) ≠ c := by decide
theorem off38_eq : ∀ c : Fin 4, k0_off38 c = ![c.val, (3 : Fin 4).val] := by decide
theorem off39_eq : ∀ c : Fin 4, k0_off39 c = ![c.val, (3 : Fin 4).val, 0, 0] := by decide
theorem cond42_iff : ∀ c : Fin 4, k0_cond42 c = 1#1 ↔ (1 : Fin 4) ≠ c := by decide
theorem off40_eq : ∀ c : Fin 4, k0_off40 c = ![c.val, (3 : Fin 4).val] := by decide
theorem off41_eq : ∀ c : Fin 4, k0_off41 c = ![c.val, (3 : Fin 4).val, 0, 0] := by decide
theorem cond43_iff : ∀ c : Fin 4, k0_cond43 c = 1#1 ↔ (2 : Fin 4) ≠ c := by decide
theorem off42_eq : ∀ c : Fin 4, k0_off42 c = ![c.val, (3 : Fin 4).val] := by decide
theorem off43_eq : ∀ c : Fin 4, k0_off43 c = ![c.val, (3 : Fin 4).val, 0, 0] := by decide
theorem cond44_iff : ∀ c : Fin 4, k0_cond44 c = 1#1 ↔ (3 : Fin 4) ≠ c := by decide
theorem off44_eq : ∀ c : Fin 4, k0_off44 c = ![c.val, (3 : Fin 4).val] := by decide
theorem off45_eq : ∀ c : Fin 4, k0_off45 c = ![c.val, (3 : Fin 4).val, 0, 0] := by decide

/-- All that was reduced into the device. -/
abbrev RsAll (c : Dev nD) : sProp 𝕄 := (Memref.whole cc0_scratch3).view.loc (c : Thread nD τ) ↦{fullShare} rsC V c

theorem rs_ld (c : Dev nD) {o : Fin 3 → Nat} (h : ∀ a, o a + S1x64x1024.size a ≤ S4x256x1024.size a) {hl} {α : Type}
    {kc : _ → Prog (TpuEff nD τ sig (Elt F) Λ₀ .tc) α} {Q : α → sProp 𝕄} :
    RsAll V c ⊢ iprop((RsAll V c -∗ WP c (kc (rsL V c o h)) Q)
      -∗ WP c (.op (.load (Memref.whole cc0_scratch3) (Rect.unit (s := S4x256x1024) o S1x64x1024.size h).toLoadRect hl) kc) Q) :=
  wp_load Variants.none (c : Thread nD τ) none Set.univ (m := Memref.whole cc0_scratch3) (r := (Rect.unit (s := S4x256x1024) o S1x64x1024.size h).toLoadRect)
    (S := (Finset.univ : Finset S4x256x1024.Idx)) (Finset.subset_univ _)

/-- A share of the own quarter `q`. -/
abbrev agSh (c : Dev nD) (q p : Fin 4) : sProp 𝕄 := agPt c c q (shr p) (agC V)

theorem AgS_done (c : Dev nD) (done : List (Fin 4 × Dev nD)) : AgS V c [] [] done ⊢ iprop(OW c [] ∗ sepL (AgWait V c) done) := by
  unfold AgS
  iintro ⟨HO, -, Hd⟩
  isplitl [HO]; · iexact HO
  iexact Hd
theorem RsS_done (c : Dev nD) (l : List Due) (done : List (Fin 4)) : RsS V c l [] done ⊢ iprop(OW c l ∗ sepL (RsGot V c) done) := by
  unfold RsS
  iintro ⟨HO, -, Hd⟩
  isplitl [HO]; · iexact HO
  iexact Hd

/-- Where the device stands at its arrivals of the reduction. -/
def RsAts (c : Dev nD) : sProp 𝕄 := sepL (fun j : Fin 4 => if j = c then at0 c (.rsR j) else at1 c (.rsR j)) [0, 1, 2, 3]

theorem rs_whole (c : Dev nD) : iprop(rsPt c 0 (rsC V c) ∗ rsPt c 1 (rsC V c) ∗ rsPt c 2 (rsC V c) ∗ rsPt c 3 (rsC V c)) ⊢ RsAll V c := by
  have hd : ∀ a ∈ (Finset.univ : Finset (Fin 4)), ∀ b ∈ (Finset.univ : Finset (Fin 4)), a ≠ b → Disjoint (rsSet a) (rsSet b) :=
    fun a _ b _ hab => Finset.disjoint_left.mpr fun i hi hj => hab (Fin.ext ((mem_rsSet.mp hi).symm.trans (mem_rsSet.mp hj)))
  have hu : (Finset.univ : Finset (Fin 4)).biUnion rsSet = Finset.univ :=
    Finset.eq_univ_iff_forall.mpr fun i => Finset.mem_biUnion.mpr ⟨(i 0 : Fin 4), Finset.mem_univ _, mem_rsSet.mpr rfl⟩
  have h := pointsTo_biUnion (Name := ℕ) (Lvl := ℕ) (U := UU) (Ix := Unit) (ℓ := (Memref.whole cc0_scratch3).view.loc (c : Thread nD τ)) (q := fullShare) (f := rsC V c) (Finset.univ : Finset (Fin 4)) rsSet hd
  rw [hu] at h
  refine BI.Entails.trans ?_ (Entails.of_eq h.symm)
  rw [bigSep_univ_eq_bigSepL [0, 1, 2, 3] (by decide) (by decide)]
  exact BI.Entails.refl _

theorem rs_join (c : Dev nD) : iprop(RsOwn V c 4 ∗ sepL (RsGot V c) [0, 1, 2, 3]) ⊢ iprop(RsAll V c ∗ RsAts c) := by
  have hown : RsOwn V c 4 ⊢ rsPt c c (rsC V c) := by
    unfold RsOwn
    iintro ⟨%f, %hf, Hf⟩
    iapply (Entails.of_eq (show rsPt c c f = rsPt c c (rsC V c) from pointsTo_congr (hf c.isLt))) $$ Hf
  refine (show _ ⊢ iprop(rsPt c c (rsC V c) ∗ RsGot V c 0 ∗ RsGot V c 1 ∗ RsGot V c 2 ∗ RsGot V c 3) from ?_).trans ?_
  · rw [show sepL (RsGot V c) [0, 1, 2, 3] = iprop(RsGot V c 0 ∗ RsGot V c 1 ∗ RsGot V c 2 ∗ RsGot V c 3 ∗ emp) from rfl]
    iintro ⟨Ho, H0, H1, H2, H3, -⟩
    ihave Ho := hown $$ Ho
    isplitl [Ho]; · iexact Ho
    isplitl [H0]; · iexact H0
    isplitl [H1]; · iexact H1
    isplitl [H2]; · iexact H2
    iexact H3
  refine BI.Entails.trans (Q := iprop((rsPt c 0 (rsC V c) ∗ rsPt c 1 (rsC V c) ∗ rsPt c 2 (rsC V c) ∗ rsPt c 3 (rsC V c)) ∗ RsAts c)) ?_ ?_
  · match c with
    | 0 =>
      refine (show iprop(rsPt 0 0 (rsC V 0) ∗ at0 0 (.rsR 0) ∗ (at1 0 (.rsR 1) ∗ rsPt 0 1 (rsC V 0)) ∗ (at1 0 (.rsR 2) ∗ rsPt 0 2 (rsC V 0)) ∗ (at1 0 (.rsR 3) ∗ rsPt 0 3 (rsC V 0)))
        ⊢ iprop((rsPt 0 0 (rsC V 0) ∗ rsPt 0 1 (rsC V 0) ∗ rsPt 0 2 (rsC V 0) ∗ rsPt 0 3 (rsC V 0)) ∗ at0 0 (.rsR 0) ∗ at1 0 (.rsR 1) ∗ at1 0 (.rsR 2) ∗ at1 0 (.rsR 3) ∗ emp) from ?_)
      iintro ⟨Hp0, Ha0, ⟨Ha1, Hp1⟩, ⟨Ha2, Hp2⟩, ⟨Ha3, Hp3⟩⟩
      isplitl [Hp0 Hp1 Hp2 Hp3]
      · isplitl [Hp0]; · iexact Hp0
        isplitl [Hp1]; · iexact Hp1
        isplitl [Hp2]; · iexact Hp2
        iexact Hp3
      isplitl [Ha0]; · iexact Ha0
      isplitl [Ha1]; · iexact Ha1
      isplitl [Ha2]; · iexact Ha2
      isplitl [Ha3]; · iexact Ha3
      iempintro
    | 1 =>
      refine (show iprop(rsPt 1 1 (rsC V 1) ∗ (at1 1 (.rsR 0) ∗ rsPt 1 0 (rsC V 1)) ∗ at0 1 (.rsR 1) ∗ (at1 1 (.rsR 2) ∗ rsPt 1 2 (rsC V 1)) ∗ (at1 1 (.rsR 3) ∗ rsPt 1 3 (rsC V 1)))
        ⊢ iprop((rsPt 1 0 (rsC V 1) ∗ rsPt 1 1 (rsC V 1) ∗ rsPt 1 2 (rsC V 1) ∗ rsPt 1 3 (rsC V 1)) ∗ at1 1 (.rsR 0) ∗ at0 1 (.rsR 1) ∗ at1 1 (.rsR 2) ∗ at1 1 (.rsR 3) ∗ emp) from ?_)
      iintro ⟨Hp1, ⟨Ha0, Hp0⟩, Ha1, ⟨Ha2, Hp2⟩, ⟨Ha3, Hp3⟩⟩
      isplitl [Hp0 Hp1 Hp2 Hp3]
      · isplitl [Hp0]; · iexact Hp0
        isplitl [Hp1]; · iexact Hp1
        isplitl [Hp2]; · iexact Hp2
        iexact Hp3
      isplitl [Ha0]; · iexact Ha0
      isplitl [Ha1]; · iexact Ha1
      isplitl [Ha2]; · iexact Ha2
      isplitl [Ha3]; · iexact Ha3
      iempintro
    | 2 =>
      refine (show iprop(rsPt 2 2 (rsC V 2) ∗ (at1 2 (.rsR 0) ∗ rsPt 2 0 (rsC V 2)) ∗ (at1 2 (.rsR 1) ∗ rsPt 2 1 (rsC V 2)) ∗ at0 2 (.rsR 2) ∗ (at1 2 (.rsR 3) ∗ rsPt 2 3 (rsC V 2)))
        ⊢ iprop((rsPt 2 0 (rsC V 2) ∗ rsPt 2 1 (rsC V 2) ∗ rsPt 2 2 (rsC V 2) ∗ rsPt 2 3 (rsC V 2)) ∗ at1 2 (.rsR 0) ∗ at1 2 (.rsR 1) ∗ at0 2 (.rsR 2) ∗ at1 2 (.rsR 3) ∗ emp) from ?_)
      iintro ⟨Hp2, ⟨Ha0, Hp0⟩, ⟨Ha1, Hp1⟩, Ha2, ⟨Ha3, Hp3⟩⟩
      isplitl [Hp0 Hp1 Hp2 Hp3]
      · isplitl [Hp0]; · iexact Hp0
        isplitl [Hp1]; · iexact Hp1
        isplitl [Hp2]; · iexact Hp2
        iexact Hp3
      isplitl [Ha0]; · iexact Ha0
      isplitl [Ha1]; · iexact Ha1
      isplitl [Ha2]; · iexact Ha2
      isplitl [Ha3]; · iexact Ha3
      iempintro
    | 3 =>
      refine (show iprop(rsPt 3 3 (rsC V 3) ∗ (at1 3 (.rsR 0) ∗ rsPt 3 0 (rsC V 3)) ∗ (at1 3 (.rsR 1) ∗ rsPt 3 1 (rsC V 3)) ∗ (at1 3 (.rsR 2) ∗ rsPt 3 2 (rsC V 3)) ∗ at0 3 (.rsR 3))
        ⊢ iprop((rsPt 3 0 (rsC V 3) ∗ rsPt 3 1 (rsC V 3) ∗ rsPt 3 2 (rsC V 3) ∗ rsPt 3 3 (rsC V 3)) ∗ at1 3 (.rsR 0) ∗ at1 3 (.rsR 1) ∗ at1 3 (.rsR 2) ∗ at0 3 (.rsR 3) ∗ emp) from ?_)
      iintro ⟨Hp3, ⟨Ha0, Hp0⟩, ⟨Ha1, Hp1⟩, ⟨Ha2, Hp2⟩, Ha3⟩
      isplitl [Hp0 Hp1 Hp2 Hp3]
      · isplitl [Hp0]; · iexact Hp0
        isplitl [Hp1]; · iexact Hp1
        isplitl [Hp2]; · iexact Hp2
        iexact Hp3
      isplitl [Ha0]; · iexact Ha0
      isplitl [Ha1]; · iexact Ha1
      isplitl [Ha2]; · iexact Ha2
      isplitl [Ha3]; · iexact Ha3
      iempintro
  · refine (show iprop((rsPt c 0 (rsC V c) ∗ rsPt c 1 (rsC V c) ∗ rsPt c 2 (rsC V c) ∗ rsPt c 3 (rsC V c)) ∗ RsAts c) ⊢ iprop(RsAll V c ∗ RsAts c) from ?_)
    iintro ⟨H, Ha⟩
    ihave H := (rs_whole V c) $$ H
    isplitl [H]; · iexact H
    iexact Ha

/-- Wait for a copy of the reduction to have been sent. -/
def RsBack (c : Dev nD) (s : Fin 3) : sProp 𝕄 := iprop(at1 c (.rsS s) ∗ pPt c s (pC V c))

theorem rs_sent (c : Dev nD) (s : Fin 3) {α : Type} {o o' : Fin 3 → Nat}
    {so : Fin 1 → Nat} (hso : so = ![s.val]) {hi hi'} {hsi : ∀ a, so a + S1.size a ≤ S3.size a}
    {hw : (pM o hi).view.WordExact} {hw' : (pM o' hi').view.WordExact}
    {k : PUnit → Prog (TpuEff nD τ sig (Elt F) Λ₀ .tc) α} {Q : α → sProp 𝕄} :
    Env V K ⊢ iprop(OW c [] -∗ RsFly c s -∗ (OW c [] -∗ RsBack V c s -∗ WP c (k ⟨⟩) Q)
      -∗ WP c (.op (.waitDma2 ((cc0_scratch6.slice (Rect.unit (s := S3) so S1.size hsi)).squeeze S_ squeezes_S1_S_).sem
          (pM o hi) (pM o' hi') hw hw') k) Q) := by
  unfold RsFly RsBack
  subst hso
  iintro #HE HO ⟨Hat, Hc⟩ Hk
  iapply (wait_dma V K c (.rsS s) rfl (l := []) (by intro d hd; cases hd) (sem_rsS s _) (credit_pM o' hi') rfl) $$ HE HO Hc Hat
  iintro HO Hat Hp
  ihave Hp := (pay_rsS V c s) $$ Hp
  iapply Hk $$ HO
  isplitl [Hat]; · iexact Hat
  iexact Hp

theorem ArS_start (c : Dev nD) (t : List (Fin 4 × Fin 4)) : OW c [] ⊢ iprop(sepL (AgRecv c) t -∗ OutS V c [] 0 -∗ ArS V c t []) := by
  unfold ArS
  iintro HO Ht HU
  isplitl [HO]; · iexact HO
  isplitl [Ht]; · iexact Ht
  isplitr; · iempintro
  iexact HU
theorem ArS_end (c : Dev nD) (d : List (Fin 4 × Fin 4)) : ArS V c [] d ⊢ iprop(OW c [] ∗ sepL (AgGot V c) d ∗ OutS V c d 0) := by
  unfold ArS
  iintro ⟨HO, -, Hd, HU⟩
  isplitl [HO]; · iexact HO
  isplitl [Hd]; · iexact Hd
  iexact HU
theorem AwS_start (c : Dev nD) (t : List (Fin 4 × Dev nD)) : OW c [] ⊢ iprop(sepL (AgWait V c) t -∗ AwS V c t []) := by
  unfold AwS
  iintro HO Ht
  isplitl [HO]; · iexact HO
  isplitl [Ht]; · iexact Ht
  iempintro
/-- All quarters of all chunks, in the order in which they are waited for. -/
abbrev allQ : List (Fin 4 × Fin 4) := [(0, 0), (1, 0), (2, 0), (3, 0), (0, 1), (1, 1), (2, 1), (3, 1), (0, 2), (1, 2), (2, 2), (3, 2), (0, 3), (1, 3), (2, 3), (3, 3)]
theorem OutS_all (c : Dev nD) : OutS V c allQ 4 ⊢ outPt c (outC V c) := by
  unfold OutS
  iintro ⟨%f, %hf, Hf⟩
  have e : f = outC V c := OutOK_all V hf (by decide)
  subst e
  iexact Hf

theorem part23 (c : Dev nD) {v847 : FVec F S256x1024 .f32} (hv : v847 = accG V c 3) {l : List Due} (hl : ∀ d ∈ l, 2 < levD d) {α : Type} {kk : _ → Prog (TpuEff nD τ sig (Elt F) Λ₀ .tc) α} {Q : α → sProp 𝕄} :
    Env V K ⊢ iprop(RsOwn V c 0 -∗ RsS V c l [0, 1, 2, 3] []
      -∗ (RsAll V c -∗ RsAts c -∗ OW c l -∗ WP c (kk (k0_pay79 (rsL V c ![0, 0, 0] inb_S4x256x1024_S1x64x1024_0_0_0) (rsL V c ![1, 0, 0] inb_S4x256x1024_S1x64x1024_1_0_0))) Q)
      -∗ WP c (k0_part23 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 (meW c) v847 0#32 >>= kk) Q) := by
  have hw0 : k0_pay75 v847 = shapeCast S1x256x1024 (accB V c 3) shapeCasts_S256x1024_S1x256x1024 := by rw [hv]; rfl
  have hw1 : k0_pay76 v847 = shapeCast S1x256x1024 (accB V c 3) shapeCasts_S256x1024_S1x256x1024 := by rw [hv]; rfl
  have hw2 : k0_pay77 v847 = shapeCast S1x256x1024 (accB V c 3) shapeCasts_S256x1024_S1x256x1024 := by rw [hv]; rfl
  have hw3 : k0_pay78 v847 = shapeCast S1x256x1024 (accB V c 3) shapeCasts_S256x1024_S1x256x1024 := by rw [hv]; rfl
  rw [k0_part23_eq_skeleton]
  unfold k0_part23_skel
  iintro #HE Ho HR Hk
  iapply (WP_bind c)
  iapply (rs_own V c 0 (n := 0) rfl (guard_eq 0 c) rfl hw0) $$ Ho; iintro Ho
  iapply (rs_own V c 1 (n := 0 + 1) rfl (guard_eq 1 c) rfl hw1) $$ Ho; iintro Ho
  iapply (rs_own V c 2 (n := 0 + 1 + 1) rfl (guard_eq 2 c) rfl hw2) $$ Ho; iintro Ho
  iapply (rs_own V c 3 (n := 0 + 1 + 1 + 1) rfl (guard_eq 3 c) rfl hw3) $$ Ho; iintro Ho
  iapply (rs_recv V K c 0 (guard_ne 0 c) rfl hl) $$ HE HR; iintro HR
  iapply (rs_recv V K c 1 (guard_ne 1 c) rfl hl) $$ HE HR; iintro HR
  iapply (rs_recv V K c 2 (guard_ne 2 c) rfl hl) $$ HE HR; iintro HR
  iapply (rs_recv V K c 3 (guard_ne 3 c) rfl hl) $$ HE HR; iintro HR
  ihave HR := (RsS_done V c l _) $$ HR
  icases HR with ⟨HO, HR⟩
  ihave HL := (rs_join V c) $$ [Ho HR]
  · isplitl [Ho]; · iexact Ho
    iexact HR
  icases HL with ⟨HL, Hats⟩
  iapply (rs_ld V c inb_S4x256x1024_S1x64x1024_0_0_0) $$ HL; iintro HL
  iapply (rs_ld V c inb_S4x256x1024_S1x64x1024_1_0_0) $$ HL; iintro HL
  iapply (WP_ret c)
  iapply Hk $$ HL Hats; iexact HO

theorem part24 (c : Dev nD) {v878 : FVec F S64x1024 .f32} (hv : v878 = k0_pay79 (rsL V c ![0, 0, 0] inb_S4x256x1024_S1x64x1024_0_0_0) (rsL V c ![1, 0, 0] inb_S4x256x1024_S1x64x1024_1_0_0)) {l : List Due} {todo done : List (Fin 4 × Dev nD)} {α : Type} {kk : _ → Prog (TpuEff nD τ sig (Elt F) Λ₀ .tc) α} {Q : α → sProp 𝕄} :
    Env V K ⊢ iprop(RsAll V c -∗ AgS V c (.A 0 0 :: .A 0 1 :: .A 0 2 :: l) ((0, 0) :: (0, 1) :: (0, 2) :: todo) done -∗ AgOwn V c 0 0
      -∗ (RsAll V c -∗ AgS V c l todo (done ++ [(0, 0)] ++ [(0, 1)] ++ [(0, 2)]) -∗ agSh V c 0 3 -∗ WP c (kk ⟨k0_pay80 v878 (rsL V c ![2, 0, 0] inb_S4x256x1024_S1x64x1024_2_0_0) (rsL V c ![3, 0, 0] inb_S4x256x1024_S1x64x1024_3_0_0), (Scalar.extui (Scalar.cmpi .ne (meW c) 3#32                       )                            ), 0#32⟩) Q)
      -∗ WP c (k0_part24 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c (meW c) v878 >>= kk) Q) := by
  have hw0 : k0_pay81 v878 (rsL V c ![2, 0, 0] inb_S4x256x1024_S1x64x1024_2_0_0) (rsL V c ![3, 0, 0] inb_S4x256x1024_S1x64x1024_3_0_0) = shapeCast S1x1x64x1024 (redB V c 0) shapeCasts_S64x1024_S1x1x64x1024 := by rw [hv]; rfl
  have hw1 : k0_pay82 v878 (rsL V c ![2, 0, 0] inb_S4x256x1024_S1x64x1024_2_0_0) (rsL V c ![3, 0, 0] inb_S4x256x1024_S1x64x1024_3_0_0) = shapeCast S1x1x64x1024 (redB V c 0) shapeCasts_S64x1024_S1x1x64x1024 := by rw [hv]; rfl
  have hw2 : k0_pay83 v878 (rsL V c ![2, 0, 0] inb_S4x256x1024_S1x64x1024_2_0_0) (rsL V c ![3, 0, 0] inb_S4x256x1024_S1x64x1024_3_0_0) = shapeCast S1x1x64x1024 (redB V c 0) shapeCasts_S64x1024_S1x1x64x1024 := by rw [hv]; rfl
  have hw3 : k0_pay84 v878 (rsL V c ![2, 0, 0] inb_S4x256x1024_S1x64x1024_2_0_0) (rsL V c ![3, 0, 0] inb_S4x256x1024_S1x64x1024_3_0_0) = shapeCast S1x1x64x1024 (redB V c 0) shapeCasts_S64x1024_S1x1x64x1024 := by rw [hv]; rfl
  rw [k0_part24_eq_skeleton]
  unfold k0_part24_skel
  iintro #HE HL HS Hq Hk
  iapply (WP_bind c)
  iapply (rs_ld V c inb_S4x256x1024_S1x64x1024_2_0_0) $$ HL; iintro HL
  iapply (rs_ld V c inb_S4x256x1024_S1x64x1024_3_0_0) $$ HL; iintro HL
  iapply (ag_own V c 0 0 (n := 0) rfl (guard_eq 0 c) rfl hw0) $$ Hq; iintro Hq
  iapply (ag_own V c 1 0 (n := 0 + 1) rfl (guard_eq 1 c) rfl hw1) $$ Hq; iintro Hq
  iapply (ag_own V c 2 0 (n := 0 + 1 + 1) rfl (guard_eq 2 c) rfl hw2) $$ Hq; iintro Hq
  iapply (ag_own V c 3 0 (n := 0 + 1 + 1 + 1) rfl (guard_eq 3 c) rfl hw3) $$ Hq; iintro Hq
  ihave Hq := (ag_split V c 0 (n := 0 + 1 + 1 + 1 + 1) rfl) $$ Hq
  icases Hq with ⟨H00, H01, H02, H03⟩
  iapply (ag_send V K c 0 0 (cond17_iff c) (fun _ => rfl) (off15_eq c) rfl (off14_eq c)) $$ HE HS H00; iintro HS
  iapply (ag_send V K c 0 1 (cond18_iff c) (fun _ => rfl) (off17_eq c) rfl (off16_eq c)) $$ HE HS H01; iintro HS
  iapply (ag_send V K c 0 2 (cond19_iff c) (fun _ => rfl) (off19_eq c) rfl (off18_eq c)) $$ HE HS H02; iintro HS
  iapply (WP_ret c)
  iapply Hk $$ HL HS; iexact H03

theorem part25 (c : Dev nD) {l : List Due} {todo done : List (Fin 4 × Dev nD)} {α : Type} {kk : _ → Prog (TpuEff nD τ sig (Elt F) Λ₀ .tc) α} {Q : α → sProp 𝕄} :
    Env V K ⊢ iprop(RsAll V c -∗ AgS V c (.A 0 3 :: .A 1 0 :: l) ((0, 3) :: (1, 0) :: todo) done -∗ agSh V c 0 3 -∗ AgOwn V c 1 0
      -∗ (RsAll V c -∗ AgS V c l todo (done ++ [(0, 3)] ++ [(1, 0)]) -∗ agSh V c 1 1 -∗ agSh V c 1 2 -∗ agSh V c 1 3 -∗ WP c (kk ⟨k0_pay85 (rsL V c ![0, 64, 0] inb_S4x256x1024_S1x64x1024_0_64_0) (rsL V c ![1, 64, 0] inb_S4x256x1024_S1x64x1024_1_64_0) (rsL V c ![2, 64, 0] inb_S4x256x1024_S1x64x1024_2_64_0) (rsL V c ![3, 64, 0] inb_S4x256x1024_S1x64x1024_3_64_0), 1#32⟩) Q)
      -∗ WP c (k0_part25 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c (meW c) (Scalar.extui (Scalar.cmpi .ne (meW c) 3#32                       )                            ) 0#32 >>= kk) Q) := by
  have hw0 : k0_pay86 (rsL V c ![0, 64, 0] inb_S4x256x1024_S1x64x1024_0_64_0) (rsL V c ![1, 64, 0] inb_S4x256x1024_S1x64x1024_1_64_0) (rsL V c ![2, 64, 0] inb_S4x256x1024_S1x64x1024_2_64_0) (rsL V c ![3, 64, 0] inb_S4x256x1024_S1x64x1024_3_64_0) = shapeCast S1x1x64x1024 (redB V c 1) shapeCasts_S64x1024_S1x1x64x1024 := rfl
  have hw1 : k0_pay87 (rsL V c ![0, 64, 0] inb_S4x256x1024_S1x64x1024_0_64_0) (rsL V c ![1, 64, 0] inb_S4x256x1024_S1x64x1024_1_64_0) (rsL V c ![2, 64, 0] inb_S4x256x1024_S1x64x1024_2_64_0) (rsL V c ![3, 64, 0] inb_S4x256x1024_S1x64x1024_3_64_0) = shapeCast S1x1x64x1024 (redB V c 1) shapeCasts_S64x1024_S1x1x64x1024 := rfl
  have hw2 : k0_pay88 (rsL V c ![0, 64, 0] inb_S4x256x1024_S1x64x1024_0_64_0) (rsL V c ![1, 64, 0] inb_S4x256x1024_S1x64x1024_1_64_0) (rsL V c ![2, 64, 0] inb_S4x256x1024_S1x64x1024_2_64_0) (rsL V c ![3, 64, 0] inb_S4x256x1024_S1x64x1024_3_64_0) = shapeCast S1x1x64x1024 (redB V c 1) shapeCasts_S64x1024_S1x1x64x1024 := rfl
  have hw3 : k0_pay89 (rsL V c ![0, 64, 0] inb_S4x256x1024_S1x64x1024_0_64_0) (rsL V c ![1, 64, 0] inb_S4x256x1024_S1x64x1024_1_64_0) (rsL V c ![2, 64, 0] inb_S4x256x1024_S1x64x1024_2_64_0) (rsL V c ![3, 64, 0] inb_S4x256x1024_S1x64x1024_3_64_0) = shapeCast S1x1x64x1024 (redB V c 1) shapeCasts_S64x1024_S1x1x64x1024 := rfl
  rw [k0_part25_eq_skeleton]
  unfold k0_part25_skel
  iintro #HE HL HS H03 Hq Hk
  iapply (WP_bind c)
  iapply (ag_send V K c 0 3 (cond20_iff c) (fun _ => rfl) (off21_eq c) rfl (off20_eq c)) $$ HE HS H03; iintro HS
  iapply (rs_ld V c inb_S4x256x1024_S1x64x1024_0_64_0) $$ HL; iintro HL
  iapply (rs_ld V c inb_S4x256x1024_S1x64x1024_1_64_0) $$ HL; iintro HL
  iapply (rs_ld V c inb_S4x256x1024_S1x64x1024_2_64_0) $$ HL; iintro HL
  iapply (rs_ld V c inb_S4x256x1024_S1x64x1024_3_64_0) $$ HL; iintro HL
  iapply (ag_own V c 0 1 (n := 0) rfl (guard_eq 0 c) rfl hw0) $$ Hq; iintro Hq
  iapply (ag_own V c 1 1 (n := 0 + 1) rfl (guard_eq 1 c) rfl hw1) $$ Hq; iintro Hq
  iapply (ag_own V c 2 1 (n := 0 + 1 + 1) rfl (guard_eq 2 c) rfl hw2) $$ Hq; iintro Hq
  iapply (ag_own V c 3 1 (n := 0 + 1 + 1 + 1) rfl (guard_eq 3 c) rfl hw3) $$ Hq; iintro Hq
  ihave Hq := (ag_split V c 1 (n := 0 + 1 + 1 + 1 + 1) rfl) $$ Hq
  icases Hq with ⟨H10, H11, H12, H13⟩
  iapply (ag_send V K c 1 0 (cond25_iff c) (fun _ => rfl) (off23_eq c) rfl (off22_eq c)) $$ HE HS H10; iintro HS
  iapply (WP_ret c)
  iapply Hk $$ HL HS H11 H12; iexact H13

theorem part26 (c : Dev nD) {l : List Due} {todo done : List (Fin 4 × Dev nD)} {α : Type} {kk : _ → Prog (TpuEff nD τ sig (Elt F) Λ₀ .tc) α} {Q : α → sProp 𝕄} :
    Env V K ⊢ iprop(RsAll V c -∗ AgS V c (.A 1 1 :: .A 1 2 :: .A 1 3 :: l) ((1, 1) :: (1, 2) :: (1, 3) :: todo) done -∗ agSh V c 1 1 -∗ agSh V c 1 2 -∗ agSh V c 1 3 -∗ AgOwn V c 2 0
      -∗ (RsAll V c -∗ AgS V c l todo (done ++ [(1, 1)] ++ [(1, 2)] ++ [(1, 3)]) -∗ AgOwn V c 2 (0 + 1 + 1) -∗ WP c (kk ⟨k0_pay90 (rsL V c ![0, 128, 0] inb_S4x256x1024_S1x64x1024_0_128_0) (rsL V c ![1, 128, 0] inb_S4x256x1024_S1x64x1024_1_128_0) (rsL V c ![2, 128, 0] inb_S4x256x1024_S1x64x1024_2_128_0) (rsL V c ![3, 128, 0] inb_S4x256x1024_S1x64x1024_3_128_0), (Scalar.extui (Scalar.cmpi .eq (meW c) 2#32                       )                            ), 0#32⟩) Q)
      -∗ WP c (k0_part26 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c (meW c) 1#32 >>= kk) Q) := by
  have hw0 : k0_pay91 (rsL V c ![0, 128, 0] inb_S4x256x1024_S1x64x1024_0_128_0) (rsL V c ![1, 128, 0] inb_S4x256x1024_S1x64x1024_1_128_0) (rsL V c ![2, 128, 0] inb_S4x256x1024_S1x64x1024_2_128_0) (rsL V c ![3, 128, 0] inb_S4x256x1024_S1x64x1024_3_128_0) = shapeCast S1x1x64x1024 (redB V c 2) shapeCasts_S64x1024_S1x1x64x1024 := rfl
  have hw1 : k0_pay92 (rsL V c ![0, 128, 0] inb_S4x256x1024_S1x64x1024_0_128_0) (rsL V c ![1, 128, 0] inb_S4x256x1024_S1x64x1024_1_128_0) (rsL V c ![2, 128, 0] inb_S4x256x1024_S1x64x1024_2_128_0) (rsL V c ![3, 128, 0] inb_S4x256x1024_S1x64x1024_3_128_0) = shapeCast S1x1x64x1024 (redB V c 2) shapeCasts_S64x1024_S1x1x64x1024 := rfl
  rw [k0_part26_eq_skeleton]
  unfold k0_part26_skel
  iintro #HE HL HS H11 H12 H13 Hq Hk
  iapply (WP_bind c)
  iapply (ag_send V K c 1 1 (cond26_iff c) (fun _ => rfl) (off25_eq c) rfl (off24_eq c)) $$ HE HS H11; iintro HS
  iapply (ag_send V K c 1 2 (cond27_iff c) (fun _ => rfl) (off27_eq c) rfl (off26_eq c)) $$ HE HS H12; iintro HS
  iapply (ag_send V K c 1 3 (cond28_iff c) (fun _ => rfl) (off29_eq c) rfl (off28_eq c)) $$ HE HS H13; iintro HS
  iapply (rs_ld V c inb_S4x256x1024_S1x64x1024_0_128_0) $$ HL; iintro HL
  iapply (rs_ld V c inb_S4x256x1024_S1x64x1024_1_128_0) $$ HL; iintro HL
  iapply (rs_ld V c inb_S4x256x1024_S1x64x1024_2_128_0) $$ HL; iintro HL
  iapply (rs_ld V c inb_S4x256x1024_S1x64x1024_3_128_0) $$ HL; iintro HL
  iapply (ag_own V c 0 2 (n := 0) rfl (guard_eq 0 c) rfl hw0) $$ Hq; iintro Hq
  iapply (ag_own V c 1 2 (n := 0 + 1) rfl (guard_eq 1 c) rfl hw1) $$ Hq; iintro Hq
  iapply (WP_ret c)
  iapply Hk $$ HL HS; iexact Hq

theorem part27 (c : Dev nD) {v964 : FVec F S64x1024 .f32} (hv : v964 = redV V c 2) {l : List Due} {todo done : List (Fin 4 × Dev nD)} {α : Type} {kk : _ → Prog (TpuEff nD τ sig (Elt F) Λ₀ .tc) α} {Q : α → sProp 𝕄} :
    Env V K ⊢ iprop(RsAll V c -∗ AgS V c (.A 2 0 :: .A 2 1 :: .A 2 2 :: .A 2 3 :: l) ((2, 0) :: (2, 1) :: (2, 2) :: (2, 3) :: todo) done -∗ AgOwn V c 2 (0 + 1 + 1)
      -∗ (RsAll V c -∗ AgS V c l todo (done ++ [(2, 0)] ++ [(2, 1)] ++ [(2, 2)] ++ [(2, 3)]) -∗ WP c (kk ⟨k0_pay95 (rsL V c ![0, 192, 0] inb_S4x256x1024_S1x64x1024_0_192_0) (rsL V c ![1, 192, 0] inb_S4x256x1024_S1x64x1024_1_192_0) (rsL V c ![2, 192, 0] inb_S4x256x1024_S1x64x1024_2_192_0) (rsL V c ![3, 192, 0] inb_S4x256x1024_S1x64x1024_3_192_0), 0#32⟩) Q)
      -∗ WP c (k0_part27 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c (meW c) v964 (Scalar.extui (Scalar.cmpi .eq (meW c) 2#32                       )                            ) 0#32 >>= kk) Q) := by
  have hw2 : k0_pay93 v964 = shapeCast S1x1x64x1024 (redB V c 2) shapeCasts_S64x1024_S1x1x64x1024 := by rw [hv]; rfl
  have hw3 : k0_pay94 v964 = shapeCast S1x1x64x1024 (redB V c 2) shapeCasts_S64x1024_S1x1x64x1024 := by rw [hv]; rfl
  rw [k0_part27_eq_skeleton]
  unfold k0_part27_skel
  iintro #HE HL HS Hq Hk
  iapply (WP_bind c)
  iapply (ag_own V c 2 2 (n := 0 + 1 + 1) rfl (guard_eq 2 c) rfl hw2) $$ Hq; iintro Hq
  iapply (ag_own V c 3 2 (n := 0 + 1 + 1 + 1) rfl (guard_eq 3 c) rfl hw3) $$ Hq; iintro Hq
  ihave Hq := (ag_split V c 2 (n := 0 + 1 + 1 + 1 + 1) rfl) $$ Hq
  icases Hq with ⟨H20, H21, H22, H23⟩
  iapply (ag_send V K c 2 0 (cond33_iff c) (fun _ => rfl) (off31_eq c) rfl (off30_eq c)) $$ HE HS H20; iintro HS
  iapply (ag_send V K c 2 1 (cond34_iff c) (fun _ => rfl) (off33_eq c) rfl (off32_eq c)) $$ HE HS H21; iintro HS
  iapply (ag_send V K c 2 2 (cond35_iff c) (fun _ => rfl) (off35_eq c) rfl (off34_eq c)) $$ HE HS H22; iintro HS
  iapply (ag_send V K c 2 3 (cond36_iff c) (fun _ => rfl) (off37_eq c) rfl (off36_eq c)) $$ HE HS H23; iintro HS
  iapply (rs_ld V c inb_S4x256x1024_S1x64x1024_0_192_0) $$ HL; iintro HL
  iapply (rs_ld V c inb_S4x256x1024_S1x64x1024_1_192_0) $$ HL; iintro HL
  iapply (rs_ld V c inb_S4x256x1024_S1x64x1024_2_192_0) $$ HL; iintro HL
  iapply (rs_ld V c inb_S4x256x1024_S1x64x1024_3_192_0) $$ HL; iintro HL
  iapply (WP_ret c)
  iapply Hk $$ HL; iexact HS

theorem part28 (c : Dev nD) {v1003 : FVec F S64x1024 .f32} (hv : v1003 = redV V c 3) {done : List (Fin 4 × Dev nD)} {rt : List (Fin 4 × Fin 4)} {α : Type} {kk : _ → Prog (TpuEff nD τ sig (Elt F) Λ₀ .tc) α} {Q : α → sProp 𝕄} :
    Env V K ⊢ iprop(AgS V c [.A 3 0, .A 3 1, .A 3 2, .A 3 3] [(3, 0), (3, 1), (3, 2), (3, 3)] done -∗ AgOwn V c 3 0 -∗ sepL (AgRecv c) ((0, 0) :: (1, 0) :: rt) -∗ OutS V c [] 0
      -∗ (sepL (AgWait V c) (done ++ [(3, 0)] ++ [(3, 1)] ++ [(3, 2)] ++ [(3, 3)]) -∗ ArS V c rt ([] ++ [(0, 0)] ++ [(1, 0)]) -∗ WP c (kk 2#32) Q)
      -∗ WP c (k0_part28 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c (meW c) v1003 0#32 >>= kk) Q) := by
  have hw0 : k0_pay96 v1003 = shapeCast S1x1x64x1024 (redB V c 3) shapeCasts_S64x1024_S1x1x64x1024 := by rw [hv]; rfl
  have hw1 : k0_pay97 v1003 = shapeCast S1x1x64x1024 (redB V c 3) shapeCasts_S64x1024_S1x1x64x1024 := by rw [hv]; rfl
  have hw2 : k0_pay98 v1003 = shapeCast S1x1x64x1024 (redB V c 3) shapeCasts_S64x1024_S1x1x64x1024 := by rw [hv]; rfl
  have hw3 : k0_pay99 v1003 = shapeCast S1x1x64x1024 (redB V c 3) shapeCasts_S64x1024_S1x1x64x1024 := by rw [hv]; rfl
  rw [k0_part28_eq_skeleton]
  unfold k0_part28_skel
  iintro #HE HS Hq Ht HU Hk
  iapply (WP_bind c)
  iapply (ag_own V c 0 3 (n := 0) rfl (guard_eq 0 c) rfl hw0) $$ Hq; iintro Hq
  iapply (ag_own V c 1 3 (n := 0 + 1) rfl (guard_eq 1 c) rfl hw1) $$ Hq; iintro Hq
  iapply (ag_own V c 2 3 (n := 0 + 1 + 1) rfl (guard_eq 2 c) rfl hw2) $$ Hq; iintro Hq
  iapply (ag_own V c 3 3 (n := 0 + 1 + 1 + 1) rfl (guard_eq 3 c) rfl hw3) $$ Hq; iintro Hq
  ihave Hq := (ag_split V c 3 (n := 0 + 1 + 1 + 1 + 1) rfl) $$ Hq
  icases Hq with ⟨H30, H31, H32, H33⟩
  iapply (ag_send V K c 3 0 (cond41_iff c) (fun _ => rfl) (off39_eq c) rfl (off38_eq c)) $$ HE HS H30; iintro HS
  iapply (ag_send V K c 3 1 (cond42_iff c) (fun _ => rfl) (off41_eq c) rfl (off40_eq c)) $$ HE HS H31; iintro HS
  iapply (ag_send V K c 3 2 (cond43_iff c) (fun _ => rfl) (off43_eq c) rfl (off42_eq c)) $$ HE HS H32; iintro HS
  iapply (ag_send V K c 3 3 (cond44_iff c) (fun _ => rfl) (off45_eq c) rfl (off44_eq c)) $$ HE HS H33; iintro HS
  ihave HS := (AgS_done V c _) $$ HS
  icases HS with ⟨HO, HS⟩
  ihave HA := (ArS_start V c _) $$ HO Ht HU
  iapply (ag_recv V K c 0 0 (guard_ne 0 c) rfl rfl rfl) $$ HE HA; iintro HA
  iapply (ag_recv V K c 1 0 (guard_ne 1 c) rfl rfl rfl) $$ HE HA; iintro HA
  iapply (WP_ret c)
  iapply Hk $$ HS; iexact HA

theorem part29 (c : Dev nD) {todo done : List (Fin 4 × Fin 4)} {α : Type} {kk : _ → Prog (TpuEff nD τ sig (Elt F) Λ₀ .tc) α} {Q : α → sProp 𝕄} :
    Env V K ⊢ iprop(ArS V c ((2, 0) :: (3, 0) :: (0, 1) :: (1, 1) :: (2, 1) :: (3, 1) :: (0, 2) :: (1, 2) :: (2, 2) :: (3, 2) :: todo) done
      -∗ (ArS V c todo (done ++ [(2, 0)] ++ [(3, 0)] ++ [(0, 1)] ++ [(1, 1)] ++ [(2, 1)] ++ [(3, 1)] ++ [(0, 2)] ++ [(1, 2)] ++ [(2, 2)] ++ [(3, 2)]) -∗ WP c (kk 0#32) Q)
      -∗ WP c (k0_part29 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 (meW c) 2#32 >>= kk) Q) := by
  rw [k0_part29_eq_skeleton]
  unfold k0_part29_skel
  iintro #HE HA Hk
  iapply (WP_bind c)
  iapply (ag_recv V K c 2 0 (guard_ne 2 c) rfl rfl rfl) $$ HE HA; iintro HA
  iapply (ag_recv V K c 3 0 (guard_ne 3 c) rfl rfl rfl) $$ HE HA; iintro HA
  iapply (ag_recv V K c 0 1 (guard_ne 0 c) rfl rfl rfl) $$ HE HA; iintro HA
  iapply (ag_recv V K c 1 1 (guard_ne 1 c) rfl rfl rfl) $$ HE HA; iintro HA
  iapply (ag_recv V K c 2 1 (guard_ne 2 c) rfl rfl rfl) $$ HE HA; iintro HA
  iapply (ag_recv V K c 3 1 (guard_ne 3 c) rfl rfl rfl) $$ HE HA; iintro HA
  iapply (ag_recv V K c 0 2 (guard_ne 0 c) rfl rfl rfl) $$ HE HA; iintro HA
  iapply (ag_recv V K c 1 2 (guard_ne 1 c) rfl rfl rfl) $$ HE HA; iintro HA
  iapply (ag_recv V K c 2 2 (guard_ne 2 c) rfl rfl rfl) $$ HE HA; iintro HA
  iapply (ag_recv V K c 3 2 (guard_ne 3 c) rfl rfl rfl) $$ HE HA; iintro HA
  iapply (WP_ret c)
  iapply Hk; iexact HA

theorem part30 (c : Dev nD) {v886 : FVec F S64x1024 .f32} {v925 : FVec F S64x1024 .f32} {v964 : FVec F S64x1024 .f32} {v1003 : FVec F S64x1024 .f32} (e0 : v886 = redV V c 0) (e1 : v925 = redV V c 1) (e2 : v964 = redV V c 2) (e3 : v1003 = redV V c 3) {α : Type} {kk : _ → Prog (TpuEff nD τ sig (Elt F) Λ₀ .tc) α} {Q : α → sProp 𝕄} :
    Env V K ⊢ iprop(ArS V c [(0, 3), (1, 3), (2, 3), (3, 3)] [(0, 0), (1, 0), (2, 0), (3, 0), (0, 1), (1, 1), (2, 1), (3, 1), (0, 2), (1, 2), (2, 2), (3, 2)]
      -∗ (OW c [] -∗ sepL (AgGot V c) [(0, 0), (1, 0), (2, 0), (3, 0), (0, 1), (1, 1), (2, 1), (3, 1), (0, 2), (1, 2), (2, 2), (3, 2), (0, 3), (1, 3), (2, 3), (3, 3)] -∗ outPt c (outC V c) -∗ WP c (kk ⟨⟩) Q)
      -∗ WP c (k0_part30 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 (meW c) v886 v925 v964 v1003 0#32 >>= kk) Q) := by
  rw [k0_part30_eq_skeleton]
  unfold k0_part30_skel
  iintro #HE HA Hk
  iapply (WP_bind c)
  iapply (ag_recv V K c 0 3 (guard_ne 0 c) rfl rfl rfl) $$ HE HA; iintro HA
  iapply (ag_recv V K c 1 3 (guard_ne 1 c) rfl rfl rfl) $$ HE HA; iintro HA
  iapply (ag_recv V K c 2 3 (guard_ne 2 c) rfl rfl rfl) $$ HE HA; iintro HA
  iapply (ag_recv V K c 3 3 (guard_ne 3 c) rfl rfl rfl) $$ HE HA; iintro HA
  ihave HA := (ArS_end V c _) $$ HA
  icases HA with ⟨HO, Hd, HU⟩
  iapply (own_out V c 0 (n := 0) rfl (guard_eq 0 c) rfl rfl rfl rfl e0 e1 e2 e3) $$ HU; iintro HU
  iapply (own_out V c 1 (n := 0 + 1) rfl (guard_eq 1 c) rfl rfl rfl rfl e0 e1 e2 e3) $$ HU; iintro HU
  iapply (own_out V c 2 (n := 0 + 1 + 1) rfl (guard_eq 2 c) rfl rfl rfl rfl e0 e1 e2 e3) $$ HU; iintro HU
  iapply (own_out V c 3 (n := 0 + 1 + 1 + 1) rfl (guard_eq 3 c) rfl rfl rfl rfl e0 e1 e2 e3) $$ HU; iintro HU
  ihave HU := (Entails.of_eq (show OutS V c ([(0, 0), (1, 0), (2, 0), (3, 0), (0, 1), (1, 1), (2, 1), (3, 1), (0, 2), (1, 2), (2, 2), (3, 2)] ++ [(0, 3)] ++ [(1, 3)] ++ [(2, 3)] ++ [(3, 3)]) (0 + 1 + 1 + 1 + 1) = OutS V c allQ 4 from rfl)) $$ HU
  ihave HU := (OutS_all V c) $$ HU
  ihave Hd := (Entails.of_eq (show sepL (AgGot V c) ([(0, 0), (1, 0), (2, 0), (3, 0), (0, 1), (1, 1), (2, 1), (3, 1), (0, 2), (1, 2), (2, 2), (3, 2)] ++ [(0, 3)] ++ [(1, 3)] ++ [(2, 3)] ++ [(3, 3)]) = sepL (AgGot V c) allQ from rfl)) $$ Hd
  iapply (WP_ret c)
  iapply Hk $$ HO Hd; iexact HU

theorem part31 (c : Dev nD) {todo : List (Fin 4 × Dev nD)} {α : Type} {kk : _ → Prog (TpuEff nD τ sig (Elt F) Λ₀ .tc) α} {Q : α → sProp 𝕄} :
    Env V K ⊢ iprop(OW c [] -∗ RsFly c 0 -∗ RsFly c 1 -∗ RsFly c 2 -∗ sepL (AgWait V c) ((0, 0) :: (0, 1) :: (0, 2) :: todo)
      -∗ (RsBack V c 0 -∗ RsBack V c 1 -∗ RsBack V c 2 -∗ AwS V c todo ([] ++ [(0, 0)] ++ [(0, 1)] ++ [(0, 2)]) -∗ WP c (kk ⟨(Scalar.extui (Scalar.cmpi .ne (meW c) 3#32                      )                          ), 0#32⟩) Q)
      -∗ WP c (k0_part31 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 (meW c) >>= kk) Q) := by
  rw [k0_part31_eq_skeleton]
  unfold k0_part31_skel
  iintro #HE HO Hf0 Hf1 Hf2 Ht Hk
  iapply (WP_bind c)
  iapply (rs_sent V K c 0 rfl) $$ HE HO Hf0; iintro HO Hf0
  iapply (rs_sent V K c 1 rfl) $$ HE HO Hf1; iintro HO Hf1
  iapply (rs_sent V K c 2 rfl) $$ HE HO Hf2; iintro HO Hf2
  ihave HA := (AwS_start V c _) $$ HO Ht
  iapply (ag_sent V K c 0 0 (guard_ne 0 c) rfl) $$ HE HA; iintro HA
  iapply (ag_sent V K c 0 1 (guard_ne 1 c) rfl) $$ HE HA; iintro HA
  iapply (ag_sent V K c 0 2 (guard_ne 2 c) rfl) $$ HE HA; iintro HA
  iapply (WP_ret c)
  iapply Hk $$ Hf0 Hf1 Hf2; iexact HA

theorem part32 (c : Dev nD) {todo done : List (Fin 4 × Dev nD)} {α : Type} {kk : _ → Prog (TpuEff nD τ sig (Elt F) Λ₀ .tc) α} {Q : α → sProp 𝕄} :
    Env V K ⊢ iprop(AwS V c ((0, 3) :: (1, 0) :: (1, 1) :: (1, 2) :: (1, 3) :: (2, 0) :: (2, 1) :: (2, 2) :: (2, 3) :: (3, 0) :: todo) done
      -∗ (AwS V c todo (done ++ [(0, 3)] ++ [(1, 0)] ++ [(1, 1)] ++ [(1, 2)] ++ [(1, 3)] ++ [(2, 0)] ++ [(2, 1)] ++ [(2, 2)] ++ [(2, 3)] ++ [(3, 0)]) -∗ WP c (kk ⟨(Scalar.extui (Scalar.cmpi .ne (meW c) 1#32                      )                          ), 0#32⟩) Q)
      -∗ WP c (k0_part32 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 (meW c) (Scalar.extui (Scalar.cmpi .ne (meW c) 3#32                      )                          ) 0#32 >>= kk) Q) := by
  rw [k0_part32_eq_skeleton]
  unfold k0_part32_skel
  iintro #HE HA Hk
  iapply (WP_bind c)
  iapply (ag_sent V K c 0 3 (guard_ne 3 c) rfl) $$ HE HA; iintro HA
  iapply (ag_sent V K c 1 0 (guard_ne 0 c) rfl) $$ HE HA; iintro HA
  iapply (ag_sent V K c 1 1 (guard_ne 1 c) rfl) $$ HE HA; iintro HA
  iapply (ag_sent V K c 1 2 (guard_ne 2 c) rfl) $$ HE HA; iintro HA
  iapply (ag_sent V K c 1 3 (guard_ne 3 c) rfl) $$ HE HA; iintro HA
  iapply (ag_sent V K c 2 0 (guard_ne 0 c) rfl) $$ HE HA; iintro HA
  iapply (ag_sent V K c 2 1 (guard_ne 1 c) rfl) $$ HE HA; iintro HA
  iapply (ag_sent V K c 2 2 (guard_ne 2 c) rfl) $$ HE HA; iintro HA
  iapply (ag_sent V K c 2 3 (guard_ne 3 c) rfl) $$ HE HA; iintro HA
  iapply (ag_sent V K c 3 0 (guard_ne 0 c) rfl) $$ HE HA; iintro HA
  iapply (WP_ret c)
  iapply Hk; iexact HA

end Cert.Proof.K
-- ==== Proof.Start.lean ====
/-
  The first part of the body: the barrier's signals and the copies into the kernel's own buffers.
-/
module

public import proofs.«01_k».proof.Proof.Mixed

@[expose] public section
noncomputable section
namespace Cert.Proof.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
local notation "𝕄" => MT nD τ sig Unit (Elt F) ℕ UU ℕ

variable (V : (c : Dev nD) → Valuation τ sig (Elt F)) (K : GSem nD τ sig → ℕ)

theorem cond1_iff : ∀ c : Fin 4, k0_cond1 c = 1#1 ↔ (0 : Fin 4) ≠ c := by decide
theorem cond2_iff : ∀ c : Fin 4, k0_cond2 c = 1#1 ↔ (1 : Fin 4) ≠ c := by decide
theorem cond3_iff : ∀ c : Fin 4, k0_cond3 c = 1#1 ↔ (2 : Fin 4) ≠ c := by decide
theorem cond4_iff : ∀ c : Fin 4, k0_cond4 c = 1#1 ↔ (3 : Fin 4) ≠ c := by decide

/-- To copy into one of the kernel's own buffers. -/
def LdPre (c : Dev nD) (i : Fin 2) : sProp 𝕄 := iprop(dutyTok ER (cell c (.ld i)) 0 0 ∗ reached ER (cell c (.ld i)) 0)

theorem dev_id (c : Dev nD) {α : Type} {k : Dev nD → Prog (TpuEff nD τ sig (Elt F) Λ₀ .tc) α} {Q : α → sProp 𝕄} :
    WP c (k c) Q ⊢ WP c (.op .deviceId k) Q := by
  unfold WP; rw [wp_deviceId]

theorem pay0_of (c : Dev nD) (fd : Buf (Elt F) ((Memref.whole cc0_scratch0).view.loc (c : Thread nD τ))) :
    iprop(((Memref.whole cc0_scratch0).view.loc (c : Thread nD τ) ↦[(Memref.whole cc0_scratch0).view.set]{fullShare}
        ((Memref.whole cc0_scratch0).view.write (Elt F) fd ((wqM c).view.read (Elt F) (V c main_arg1)) Finset.univ))
      ∗ ((wqM c).view.loc (c : Thread nD τ) ↦[(wqM c).view.set]{fullShare} V c main_arg1)) ⊢ pay V c (.ld 0) 0 := by
  refine (show _ ⊢ wqPay V c from ?_)
  unfold wqPay
  rw [show (Memref.whole cc0_scratch0).view.set = (Finset.univ : Finset S1024x1024.Idx) from View.set_whole _,
    show (Memref.whole cc0_scratch0).view.write (Elt F) fd ((wqM c).view.read (Elt F) (V c main_arg1)) Finset.univ = wqC V c from View.write_whole_univ _ _ _]
theorem pay1_of (c : Dev nD) (fd : Buf (Elt F) ((Memref.whole cc0_scratch1).view.loc (c : Thread nD τ))) :
    iprop(((Memref.whole cc0_scratch1).view.loc (c : Thread nD τ) ↦[(Memref.whole cc0_scratch1).view.set]{fullShare}
        ((Memref.whole cc0_scratch1).view.write (Elt F) fd ((woM c).view.read (Elt F) (V c main_arg4)) Finset.univ))
      ∗ ((woM c).view.loc (c : Thread nD τ) ↦[(woM c).view.set]{fullShare} V c main_arg4)) ⊢ pay V c (.ld 1) 0 := by
  refine (show _ ⊢ woPay V c from ?_)
  unfold woPay
  rw [show (Memref.whole cc0_scratch1).view.set = (Finset.univ : Finset S1024x1024.Idx) from View.set_whole _,
    show (Memref.whole cc0_scratch1).view.write (Elt F) fd ((woM c).view.read (Elt F) (V c main_arg4)) Finset.univ = woC V c from View.write_whole_univ _ _ _]

theorem am0 {s : DmaSem sig} : (Memref.whole cc0_scratch0 : Memref sig .tc .vmem S1024x1024 .f32).view.amount (.dma s) = N0 := by unfold N0; rfl
theorem am1 {s : DmaSem sig} : (Memref.whole cc0_scratch1 : Memref sig .tc .vmem S1024x1024 .f32).view.amount (.dma s) = N0 := by unfold N0; rfl

theorem part1 (c : Dev nD) {l : List Due} (hl : ∀ d ∈ l, 0 < levD d) {α : Type} {kk : _ → Prog (TpuEff nD τ sig (Elt F) Λ₀ .tc) α} {Q : α → sProp 𝕄} :
    Env V K ⊢ iprop(OW c (.B 0 :: .B 1 :: .B 2 :: .B 3 :: l) -∗ SigR c 0 -∗ SigR c 1 -∗ SigR c 2 -∗ SigR c 3
      -∗ wqSrc V c -∗ (∃ f, (Memref.whole cc0_scratch0).view.loc (c : Thread nD τ) ↦{fullShare} f) -∗ LdPre c 0
      -∗ woSrc V c -∗ (∃ f, (Memref.whole cc0_scratch1).view.loc (c : Thread nD τ) ↦{fullShare} f) -∗ LdPre c 1 -∗ at0 c (.ld 0)
      -∗ (OW c l -∗ wqB V c -∗ wqSrc V c -∗ at1 c (.ld 0) -∗ cred (tallyAt (cell c (.ld 1)) () N0)
        -∗ WP c (kk ⟨c, meW c, (SemArray.scalar (sig.barrier 0 rfl) : Sems sig S_), Scalar.addi (Scalar.addi (meW c) 1#32) 0#32, 4#32, Scalar.cmpi .eq 4#32 0#32⟩) Q)
      -∗ WP c (k0_part1 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 >>= kk) Q) := by
  rw [k0_part1_eq_skeleton]
  unfold k0_part1_skel LdPre
  have e0 : (Memref.whole cc0_scratch0).view.set = (Finset.univ : Finset S1024x1024.Idx) := View.set_whole _
  have e1 : (Memref.whole cc0_scratch1).view.set = (Finset.univ : Finset S1024x1024.Idx) := View.set_whole _
  iintro #HE Hw H0 H1 H2 H3 Hs ⟨%f, Hb⟩ ⟨Ht, #Hr⟩ Hs' ⟨%f', Hb'⟩ ⟨Ht', #Hr'⟩ Hat Hk
  ihave Hb := (Entails.of_eq (show ((Memref.whole cc0_scratch0).view.loc (c : Thread nD τ) ↦{fullShare} f : sProp 𝕄)
    = ((Memref.whole cc0_scratch0).view.loc (c : Thread nD τ) ↦[(Memref.whole cc0_scratch0).view.set]{fullShare} f) by rw [e0])) $$ Hb
  ihave Hb' := (Entails.of_eq (show ((Memref.whole cc0_scratch1).view.loc (c : Thread nD τ) ↦{fullShare} f' : sProp 𝕄)
    = ((Memref.whole cc0_scratch1).view.loc (c : Thread nD τ) ↦[(Memref.whole cc0_scratch1).view.set]{fullShare} f') by rw [e1])) $$ Hb'
  iapply (WP_bind c)
  iapply (dev_id c)
  iapply (bar_signal V K c 0 (cond1_iff c) (fun _ => rfl)) $$ HE Hw H0; iintro Hw
  iapply (bar_signal V K c 1 (cond2_iff c) (fun _ => rfl)) $$ HE Hw H1; iintro Hw
  iapply (bar_signal V K c 2 (cond3_iff c) (fun _ => rfl)) $$ HE Hw H2; iintro Hw
  iapply (bar_signal V K c 3 (cond4_iff c) (fun _ => rfl)) $$ HE Hw H3; iintro Hw
  iapply (ld_copy V K c 0 (sem_ld 0 _) am0 (pay0_of V c f)) $$ HE Hs Hb Ht Hr; iintro Hc
  iapply (ld_copy V K c 1 (sem_ld 1 _) am1 (pay1_of V c f')) $$ HE Hs' Hb' Ht' Hr'; iintro Hc'
  iapply (wait_dma V K c (.ld 0) rfl (l := l) hl (sem_ld 0 _) credit_0 rfl) $$ HE Hw Hc Hat
  iintro Hw Hat Hpay
  ihave Hpay := (show pay V c (.ld 0) 0 ⊢ iprop(wqB V c ∗ wqSrc V c) from BI.Entails.refl _) $$ Hpay
  icases Hpay with ⟨HO, Hsrc⟩
  iapply (WP_ret c)
  iapply Hk $$ Hw HO Hsrc Hat; iexact Hc'

end Cert.Proof.K
-- ==== Proof.Slots.lean ====
/-
  What the other devices hand over at the barrier, slab by slab.
-/
module

public import proofs.«01_k».proof.Proof.Comm
public import proofs.«01_k».proof.Proof.Start

@[expose] public section
noncomputable section
namespace Cert.Proof.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
local notation "𝕄" => MT nD τ sig Unit (Elt F) ℕ UU ℕ

variable (V : (c : Dev nD) → Valuation τ sig (Elt F)) (K : GSem nD τ sig → ℕ)

/-! ## What the others hand over at the barrier -/

/-- All copies of the gather, in the order in which they are sent: quarter, device. -/
abbrev allS : List (Fin 4 × Dev nD) := [(0, 0), (0, 1), (0, 2), (0, 3), (1, 0), (1, 1), (1, 2), (1, 3), (2, 0), (2, 1), (2, 2), (2, 3), (3, 0), (3, 1), (3, 2), (3, 3)]

/-- The slab for quarter `x.1` on device `x.2`, if that is another device. -/
def AgTo (c : Dev nD) (x : Fin 4 × Dev nD) : sProp 𝕄 := if x.2 = c then iprop(emp) else agSlot x.2 c x.1
/-- To copy a quarter of the own chunk, but for the slab it lands in. -/
def AgPre (c : Dev nD) (x : Fin 4 × Dev nD) : sProp 𝕄 :=
  iprop(at0 c (.agS x.2 x.1) ∗ if x.2 = c then iprop(emp) else
    iprop(dutyTok ER (cell x.2 (.agR c x.1)) 0 0 ∗ dutyTok ER (cell c (.agS x.2 x.1)) 0 0 ∗ reached ER (cell c (.agS x.2 x.1)) 0))

theorem AgSend_intro (c : Dev nD) (x : Fin 4 × Dev nD) : iprop(AgTo (F := F) c x ∗ AgPre c x) ⊢ AgSend c x := by
  unfold AgTo AgPre AgSend
  by_cases h : x.2 = c
  · simp only [if_pos h]
    iintro ⟨-, H⟩; iexact H
  · simp only [if_neg h]
    iintro ⟨Hs, Ha, Ht, Ht', Hr⟩
    isplitl [Ha]; · iexact Ha
    isplitl [Hs]; · iexact Hs
    isplitl [Ht]; · iexact Ht
    isplitl [Ht'] <;> iassumption

theorem sepL_zip {α : Type} (Φ Ψ Θ : α → sProp 𝕄) (h : ∀ a, iprop(Φ a ∗ Ψ a) ⊢ Θ a) : ∀ l : List α, iprop(sepL Φ l ∗ sepL Ψ l) ⊢ sepL Θ l
  | [] => by
    show iprop(emp ∗ emp) ⊢ iprop(emp)
    iintro ⟨-, -⟩; iempintro
  | a :: l => by
    rw [sepL_cons, sepL_cons, sepL_cons]
    iintro ⟨⟨Ha, Hl⟩, Hb, Hm⟩
    isplitl [Ha Hb]
    · iapply (h a); isplitl [Ha] <;> iassumption
    · iapply (sepL_zip Φ Ψ Θ h l); isplitl [Hl] <;> iassumption

theorem agTo_four (c p : Dev nD) : (if p = c then iprop(emp) else agSlots p c : sProp 𝕄)
    ⊢ iprop(AgTo (F := F) c (0, p) ∗ AgTo c (1, p) ∗ AgTo c (2, p) ∗ AgTo c (3, p)) := by
  unfold AgTo agSlots
  by_cases h : p = c
  · simp only [if_pos h]
    iintro -
    isplitr; · iempintro
    isplitr; · iempintro
    isplitr; · iempintro
    iempintro
  · simp only [if_neg h]
    exact BI.Entails.refl _

theorem agTo_all (c : Dev nD) : bigSep (Finset.univ.erase c) (fun p => (agSlots p c : sProp 𝕄)) ⊢ sepL (AgTo c) allS := by
  have e : bigSep (Finset.univ.erase c) (fun p => (agSlots p c : sProp 𝕄)) = bigSep Finset.univ (fun p => if p = c then iprop(emp) else agSlots p c) := by
    rw [bigSep_univ_at (fun p => if p = c then iprop(emp) else agSlots p c) c, if_pos rfl]
    rw [show (iprop(emp ∗ bigSep (Finset.univ.erase c) fun p => if p = c then iprop(emp) else agSlots p c) : sProp 𝕄) = bigSep (Finset.univ.erase c) fun p => if p = c then iprop(emp) else agSlots p c from BI.equiv_iff.mp emp_sep]
    exact bigSep_congr fun p hp => (if_neg (Finset.ne_of_mem_erase hp)).symm
  rw [e, bigSep_univ_eq_bigSepL [0, 1, 2, 3] (by decide) (by decide)]
  refine (show iprop((if (0 : Dev nD) = c then iprop(emp) else agSlots 0 c) ∗ (if (1 : Dev nD) = c then iprop(emp) else agSlots 1 c)
    ∗ (if (2 : Dev nD) = c then iprop(emp) else agSlots 2 c) ∗ (if (3 : Dev nD) = c then iprop(emp) else agSlots 3 c)) ⊢ sepL (AgTo c) allS from ?_)
  rw [show sepL (AgTo (F := F) c) allS = iprop(AgTo c (0, 0) ∗ AgTo c (0, 1) ∗ AgTo c (0, 2) ∗ AgTo c (0, 3) ∗ AgTo c (1, 0) ∗ AgTo c (1, 1) ∗ AgTo c (1, 2) ∗ AgTo c (1, 3) ∗ AgTo c (2, 0) ∗ AgTo c (2, 1) ∗ AgTo c (2, 2) ∗ AgTo c (2, 3) ∗ AgTo c (3, 0) ∗ AgTo c (3, 1) ∗ AgTo c (3, 2) ∗ AgTo c (3, 3) ∗ emp) from rfl]
  iintro ⟨H0, H1, H2, H3⟩
  ihave H0 := (agTo_four c 0) $$ H0
  icases H0 with ⟨A00, A10, A20, A30⟩
  ihave H1 := (agTo_four c 1) $$ H1
  icases H1 with ⟨A01, A11, A21, A31⟩
  ihave H2 := (agTo_four c 2) $$ H2
  icases H2 with ⟨A02, A12, A22, A32⟩
  ihave H3 := (agTo_four c 3) $$ H3
  icases H3 with ⟨A03, A13, A23, A33⟩
  isplitl [A00]; · iexact A00
  isplitl [A01]; · iexact A01
  isplitl [A02]; · iexact A02
  isplitl [A03]; · iexact A03
  isplitl [A10]; · iexact A10
  isplitl [A11]; · iexact A11
  isplitl [A12]; · iexact A12
  isplitl [A13]; · iexact A13
  isplitl [A20]; · iexact A20
  isplitl [A21]; · iexact A21
  isplitl [A22]; · iexact A22
  isplitl [A23]; · iexact A23
  isplitl [A30]; · iexact A30
  isplitl [A31]; · iexact A31
  isplitl [A32]; · iexact A32
  isplitl [A33]; · iexact A33
  iempintro

theorem others : ∀ c : Dev nD, (Finset.univ.erase c : Finset (Dev nD)) = {nxt c 0, nxt c 1, nxt c 2} := by decide
theorem nxt_01 : ∀ c : Dev nD, nxt c 0 ∉ ({nxt c 1, nxt c 2} : Finset (Dev nD)) := by decide
theorem nxt_12 : ∀ c : Dev nD, nxt c 1 ∉ ({nxt c 2} : Finset (Dev nD)) := by decide

theorem slots (c : Dev nD) : bigSep (Finset.univ.erase c) (fun d => iprop(rsSlot d c ∗ agSlots d c : sProp 𝕄))
    ⊢ iprop(rsSlot (nxt c 0) c ∗ rsSlot (nxt c 1) c ∗ rsSlot (nxt c 2) c ∗ sepL (AgTo c) allS) := by
  iintro H
  ihave H := (Entails.of_eq (bigSep_sep' (Finset.univ.erase c) (fun d => (rsSlot d c : sProp 𝕄)) (fun d => agSlots d c))) $$ H
  icases H with ⟨Hr, Ha⟩
  ihave Ha := (agTo_all c) $$ Ha
  ihave Hr := (Entails.of_eq (show bigSep (Finset.univ.erase c) (fun d => (rsSlot d c : sProp 𝕄)) = iprop(rsSlot (nxt c 0) c ∗ rsSlot (nxt c 1) c ∗ rsSlot (nxt c 2) c) by
    rw [others c, bigSep_insert (nxt_01 c), bigSep_insert (nxt_12 c), bigSep_singleton]; rfl)) $$ Hr
  icases Hr with ⟨H0, H1, H2⟩
  isplitl [H0]; · iexact H0
  isplitl [H1]; · iexact H1
  isplitl [H2]; · iexact H2
  iexact Ha

end Cert.Proof.K
-- ==== Proof.Body.lean ====
/-
  The body on one device, part after part.
-/
module

public import proofs.«01_k».proof.Proof.Slots

@[expose] public section
noncomputable section
namespace Cert.Proof.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
local notation "𝕄" => MT nD τ sig Unit (Elt F) ℕ UU ℕ

variable (V : (c : Dev nD) → Valuation τ sig (Elt F)) (K : GSem nD τ sig → ℕ)

/-- What is owed from the gather on. -/
abbrev dueA : List Due := [.A 0 0, .A 0 1, .A 0 2, .A 0 3, .A 1 0, .A 1 1, .A 1 2, .A 1 3, .A 2 0, .A 2 1, .A 2 2, .A 2 3, .A 3 0, .A 3 1, .A 3 2, .A 3 3]
theorem due0 : ∀ d ∈ (.R 0 :: .R 1 :: .R 2 :: dueA), 0 < levD d := fun d _ => by cases d <;> exact Nat.succ_pos _
theorem due1 : ∀ d ∈ (.R 0 :: .R 1 :: .R 2 :: dueA), 1 < levD d := by
  intro d hd; simp only [List.mem_cons, List.not_mem_nil, or_false] at hd; rcases hd with rfl | rfl | rfl | rfl | rfl | rfl | rfl | rfl | rfl | rfl | rfl | rfl | rfl | rfl | rfl | rfl | rfl | rfl | rfl <;> decide
theorem due2 : ∀ d ∈ dueA, 2 < levD d := by
  intro d hd; simp only [List.mem_cons, List.not_mem_nil, or_false] at hd; rcases hd with rfl | rfl | rfl | rfl | rfl | rfl | rfl | rfl | rfl | rfl | rfl | rfl | rfl | rfl | rfl | rfl <;> decide

theorem RsS_start (c : Dev nD) (l : List Due) (t : List (Fin 4)) : OW c l ⊢ iprop(sepL (RsRecv c) t -∗ RsS V c l t []) := by
  unfold RsS
  iintro HO Ht
  isplitl [HO]; · iexact HO
  isplitl [Ht]; · iexact Ht
  iempintro
theorem AgS_start (c : Dev nD) (l : List Due) (t : List (Fin 4 × Dev nD)) : OW c l ⊢ iprop(sepL (AgSend c) t -∗ AgS V c l t []) := by
  unfold AgS
  iintro HO Ht
  isplitl [HO]; · iexact HO
  isplitl [Ht]; · iexact Ht
  iempintro
theorem AwS_end (c : Dev nD) (d : List (Fin 4 × Dev nD)) : AwS V c [] d ⊢ iprop(OW c [] ∗ sepL (AgDone V c) d) := by
  unfold AwS
  iintro ⟨HO, -, Hd⟩
  isplitl [HO] <;> iassumption
theorem WP_pure (c : Dev nD) {Q : PUnit → sProp 𝕄} : Q ⟨⟩ ⊢ WP c (pure ⟨⟩) Q := by
  iintro H
  iapply (WP_ret c (a := ⟨⟩)) $$ H

/-- What the body starts from. -/
def BodyPre (c : Dev nD) : sProp 𝕄 :=
  iprop(OW c dues ∗ SigR c 0 ∗ SigR c 1 ∗ SigR c 2 ∗ SigR c 3
    ∗ wqSrc V c ∗ (∃ f, (Memref.whole cc0_scratch0).view.loc (c : Thread nD τ) ↦{fullShare} f) ∗ LdPre c 0
    ∗ woSrc V c ∗ (∃ f, (Memref.whole cc0_scratch1).view.loc (c : Thread nD τ) ↦{fullShare} f) ∗ LdPre c 1 ∗ at0 c (.ld 0) ∗ at0 c (.ld 1)
    ∗ (xB V c ∗ kB V c ∗ vB V c) ∗ BarW c ∗ PIn c 0 ∗ PIn c 1 ∗ PIn c 2 ∗ RsPre c 0 ∗ RsPre c 1 ∗ RsPre c 2
    ∗ sepL (AgPre c) allS ∗ RsOwn V c 0 ∗ sepL (RsRecv c) [0, 1, 2, 3] ∗ sepL (AgRecv c) allQ
    ∗ AgOwn V c 0 0 ∗ AgOwn V c 1 0 ∗ AgOwn V c 2 0 ∗ AgOwn V c 3 0 ∗ OutS V c [] 0)

/-- What it leaves. -/
def BodyPost (c : Dev nD) : sProp 𝕄 :=
  iprop(OW c [] ∗ Att V c ∗ woB V c ∗ wqSrc V c ∗ woSrc V c ∗ at1 c (.ld 0) ∗ at1 c (.ld 1) ∗ at1 c .bar ∗ RsAll V c ∗ RsAts c
    ∗ RsBack V c 0 ∗ RsBack V c 1 ∗ RsBack V c 2 ∗ sepL (AgDone V c) allS ∗ sepL (AgGot V c) allQ ∗ outPt c (outC V c))

set_option maxHeartbeats 4000000 in
set_option maxRecDepth 65536 in
theorem body (c : Dev nD) {Q : PUnit → sProp 𝕄} :
    Env V K ⊢ iprop(BodyPre V c -∗ (BodyPost V c -∗ Q ⟨⟩)
      -∗ WP c (cc0_body (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) Q) := by
  rw [cc0_body_eq_skeleton]
  unfold cc0_body_skel BodyPre
  iintro #HE ⟨HO, G0, G1, G2, G3, Hq, Hb, L0, Hq', Hb', L1, T0, T1, Hx, HB, P0, P1, P2, R0, R1, R2, HAp, Hown, HRr, HAr, O0, O1, O2, O3, HU⟩ Hk
  ihave HO := (Entails.of_eq (show OW c dues = (OW c (.B 0 :: .B 1 :: .B 2 :: .B 3 :: .R 0 :: .R 1 :: .R 2 :: dueA) : sProp 𝕄) from rfl)) $$ HO
  iapply (part1 V K c due0) $$ HE HO G0 G1 G2 G3 Hq Hb L0 Hq' Hb' L1 T0
  iintro HO Hwq Hq T0 Hc1
  icases Hx with ⟨Hx1, Hx2, Hx3⟩
  ihave HA := (show iprop(xB V c ∗ kB V c ∗ vB V c ∗ wqB V c) ⊢ Att V c from BI.Entails.refl _) $$ [Hx1 Hx2 Hx3 Hwq]
  · isplitl [Hx1]; · iexact Hx1
    isplitl [Hx2]; · iexact Hx2
    isplitl [Hx3]; · iexact Hx3
    iexact Hwq
  iapply (part2 V c) $$ HA; iintro HA
  iapply (part3 V c) $$ HA; iintro HA
  iapply (part4 V c) $$ HA; iintro HA
  iapply (part5 V c) $$ HA; iintro HA
  ihave HW := (show iprop(at0 c (.ld 1) ∗ cred (tallyAt (cell c (.ld 1)) () N0)) ⊢ WoFly (F := F) c from BI.Entails.refl _) $$ [T1 Hc1]
  · isplitl [T1] <;> iassumption
  iapply (part6 V K c due1) $$ HE HA HO HW HB
  iintro HA Hwo Hq' T1 HO TB Hsl
  ihave Hsl := (slots c) $$ Hsl
  icases Hsl with ⟨S0, S1, S2, Hsl⟩
  ihave R0 := (show iprop(rsSlot (nxt c 0) c ∗ RsPre c 0) ⊢ RsSend (F := F) c 0 from BI.Entails.refl _) $$ [S0 R0]
  · isplitl [S0] <;> iassumption
  ihave R1 := (show iprop(rsSlot (nxt c 1) c ∗ RsPre c 1) ⊢ RsSend (F := F) c 1 from BI.Entails.refl _) $$ [S1 R1]
  · isplitl [S1] <;> iassumption
  ihave R2 := (show iprop(rsSlot (nxt c 2) c ∗ RsPre c 2) ⊢ RsSend (F := F) c 2 from BI.Entails.refl _) $$ [S2 R2]
  · isplitl [S2] <;> iassumption
  iapply (part7 V K c (l := .R 1 :: .R 2 :: dueA) rfl) $$ HE HA P0 HO R0; iintro HA HO R0
  iapply (part8 V c) $$ HA; iintro HA
  iapply (part9 V c) $$ HA; iintro HA
  iapply (part10 V c) $$ HA; iintro HA
  iapply (part11 V c) $$ HA; iintro HA
  iapply (part12 V K c (l := .R 2 :: dueA) rfl) $$ HE HA Hwo P1 HO R1; iintro HA Hwo HO R1
  iapply (part13 V c) $$ HA; iintro HA
  iapply (part14 V c) $$ HA; iintro HA
  iapply (part15 V c) $$ HA; iintro HA
  iapply (part16 V c) $$ HA; iintro HA
  iapply (part17 V K c rfl) $$ HE HA Hwo P2; iintro HA Hwo P2
  iapply (part18 V K c (l := dueA)) $$ HE HA P2 HO R2; iintro HA HO R2
  iapply (part19 V c) $$ HA; iintro HA
  iapply (part20 V c) $$ HA; iintro HA
  iapply (part21 V c) $$ HA; iintro HA
  iapply (part22 V c) $$ HA Hwo; iintro HA Hwo
  ihave HS := (RsS_start V c dueA [0, 1, 2, 3]) $$ HO HRr
  iapply (part23 V K c rfl due2) $$ HE Hown HS; iintro HR Hats HO
  ihave HAs := (sepL_zip (AgTo c) (AgPre c) (AgSend c) (AgSend_intro c) allS) $$ [Hsl HAp]
  · isplitl [Hsl] <;> iassumption
  ihave HS := (AgS_start V c dueA allS) $$ HO HAs
  iapply (part24 V K c rfl (l := [.A 0 3, .A 1 0, .A 1 1, .A 1 2, .A 1 3, .A 2 0, .A 2 1, .A 2 2, .A 2 3, .A 3 0, .A 3 1, .A 3 2, .A 3 3]) (todo := [(0, 3), (1, 0), (1, 1), (1, 2), (1, 3), (2, 0), (2, 1), (2, 2), (2, 3), (3, 0), (3, 1), (3, 2), (3, 3)]) (done := [])) $$ HE HR HS O0; iintro HR HS Z03
  ihave HS := (Entails.of_eq (show AgS V c [.A 0 3, .A 1 0, .A 1 1, .A 1 2, .A 1 3, .A 2 0, .A 2 1, .A 2 2, .A 2 3, .A 3 0, .A 3 1, .A 3 2, .A 3 3] [(0, 3), (1, 0), (1, 1), (1, 2), (1, 3), (2, 0), (2, 1), (2, 2), (2, 3), (3, 0), (3, 1), (3, 2), (3, 3)] ([] ++ [(0, 0)] ++ [(0, 1)] ++ [(0, 2)]) = AgS V c [.A 0 3, .A 1 0, .A 1 1, .A 1 2, .A 1 3, .A 2 0, .A 2 1, .A 2 2, .A 2 3, .A 3 0, .A 3 1, .A 3 2, .A 3 3] [(0, 3), (1, 0), (1, 1), (1, 2), (1, 3), (2, 0), (2, 1), (2, 2), (2, 3), (3, 0), (3, 1), (3, 2), (3, 3)] [(0, 0), (0, 1), (0, 2)] from rfl)) $$ HS
  iapply (part25 V K c (l := [.A 1 1, .A 1 2, .A 1 3, .A 2 0, .A 2 1, .A 2 2, .A 2 3, .A 3 0, .A 3 1, .A 3 2, .A 3 3]) (todo := [(1, 1), (1, 2), (1, 3), (2, 0), (2, 1), (2, 2), (2, 3), (3, 0), (3, 1), (3, 2), (3, 3)]) (done := [(0, 0), (0, 1), (0, 2)])) $$ HE HR HS Z03 O1; iintro HR HS Z11 Z12 Z13
  ihave HS := (Entails.of_eq (show AgS V c [.A 1 1, .A 1 2, .A 1 3, .A 2 0, .A 2 1, .A 2 2, .A 2 3, .A 3 0, .A 3 1, .A 3 2, .A 3 3] [(1, 1), (1, 2), (1, 3), (2, 0), (2, 1), (2, 2), (2, 3), (3, 0), (3, 1), (3, 2), (3, 3)] ([(0, 0), (0, 1), (0, 2)] ++ [(0, 3)] ++ [(1, 0)]) = AgS V c [.A 1 1, .A 1 2, .A 1 3, .A 2 0, .A 2 1, .A 2 2, .A 2 3, .A 3 0, .A 3 1, .A 3 2, .A 3 3] [(1, 1), (1, 2), (1, 3), (2, 0), (2, 1), (2, 2), (2, 3), (3, 0), (3, 1), (3, 2), (3, 3)] [(0, 0), (0, 1), (0, 2), (0, 3), (1, 0)] from rfl)) $$ HS
  iapply (part26 V K c (l := [.A 2 0, .A 2 1, .A 2 2, .A 2 3, .A 3 0, .A 3 1, .A 3 2, .A 3 3]) (todo := [(2, 0), (2, 1), (2, 2), (2, 3), (3, 0), (3, 1), (3, 2), (3, 3)]) (done := [(0, 0), (0, 1), (0, 2), (0, 3), (1, 0)])) $$ HE HR HS Z11 Z12 Z13 O2; iintro HR HS O2
  ihave HS := (Entails.of_eq (show AgS V c [.A 2 0, .A 2 1, .A 2 2, .A 2 3, .A 3 0, .A 3 1, .A 3 2, .A 3 3] [(2, 0), (2, 1), (2, 2), (2, 3), (3, 0), (3, 1), (3, 2), (3, 3)] ([(0, 0), (0, 1), (0, 2), (0, 3), (1, 0)] ++ [(1, 1)] ++ [(1, 2)] ++ [(1, 3)]) = AgS V c [.A 2 0, .A 2 1, .A 2 2, .A 2 3, .A 3 0, .A 3 1, .A 3 2, .A 3 3] [(2, 0), (2, 1), (2, 2), (2, 3), (3, 0), (3, 1), (3, 2), (3, 3)] [(0, 0), (0, 1), (0, 2), (0, 3), (1, 0), (1, 1), (1, 2), (1, 3)] from rfl)) $$ HS
  iapply (part27 V K c rfl (l := [.A 3 0, .A 3 1, .A 3 2, .A 3 3]) (todo := [(3, 0), (3, 1), (3, 2), (3, 3)]) (done := [(0, 0), (0, 1), (0, 2), (0, 3), (1, 0), (1, 1), (1, 2), (1, 3)])) $$ HE HR HS O2; iintro HR HS
  ihave HS := (Entails.of_eq (show AgS V c [.A 3 0, .A 3 1, .A 3 2, .A 3 3] [(3, 0), (3, 1), (3, 2), (3, 3)] ([(0, 0), (0, 1), (0, 2), (0, 3), (1, 0), (1, 1), (1, 2), (1, 3)] ++ [(2, 0)] ++ [(2, 1)] ++ [(2, 2)] ++ [(2, 3)]) = AgS V c [.A 3 0, .A 3 1, .A 3 2, .A 3 3] [(3, 0), (3, 1), (3, 2), (3, 3)] [(0, 0), (0, 1), (0, 2), (0, 3), (1, 0), (1, 1), (1, 2), (1, 3), (2, 0), (2, 1), (2, 2), (2, 3)] from rfl)) $$ HS
  iapply (part28 V K c rfl (done := [(0, 0), (0, 1), (0, 2), (0, 3), (1, 0), (1, 1), (1, 2), (1, 3), (2, 0), (2, 1), (2, 2), (2, 3)]) (rt := [(2, 0), (3, 0), (0, 1), (1, 1), (2, 1), (3, 1), (0, 2), (1, 2), (2, 2), (3, 2), (0, 3), (1, 3), (2, 3), (3, 3)])) $$ HE HS O3 HAr HU; iintro HW HA1
  ihave HW := (Entails.of_eq (show sepL (AgWait V c) ([(0, 0), (0, 1), (0, 2), (0, 3), (1, 0), (1, 1), (1, 2), (1, 3), (2, 0), (2, 1), (2, 2), (2, 3)] ++ [(3, 0)] ++ [(3, 1)] ++ [(3, 2)] ++ [(3, 3)]) = sepL (AgWait V c) [(0, 0), (0, 1), (0, 2), (0, 3), (1, 0), (1, 1), (1, 2), (1, 3), (2, 0), (2, 1), (2, 2), (2, 3), (3, 0), (3, 1), (3, 2), (3, 3)] from rfl)) $$ HW
  ihave HA1 := (Entails.of_eq (show ArS V c [(2, 0), (3, 0), (0, 1), (1, 1), (2, 1), (3, 1), (0, 2), (1, 2), (2, 2), (3, 2), (0, 3), (1, 3), (2, 3), (3, 3)] ([] ++ [(0, 0)] ++ [(1, 0)]) = ArS V c [(2, 0), (3, 0), (0, 1), (1, 1), (2, 1), (3, 1), (0, 2), (1, 2), (2, 2), (3, 2), (0, 3), (1, 3), (2, 3), (3, 3)] [(0, 0), (1, 0)] from rfl)) $$ HA1
  iapply (part29 V K c (todo := [(0, 3), (1, 3), (2, 3), (3, 3)]) (done := [(0, 0), (1, 0)])) $$ HE HA1; iintro HA1
  ihave HA1 := (Entails.of_eq (show ArS V c [(0, 3), (1, 3), (2, 3), (3, 3)] ([(0, 0), (1, 0)] ++ [(2, 0)] ++ [(3, 0)] ++ [(0, 1)] ++ [(1, 1)] ++ [(2, 1)] ++ [(3, 1)] ++ [(0, 2)] ++ [(1, 2)] ++ [(2, 2)] ++ [(3, 2)]) = ArS V c [(0, 3), (1, 3), (2, 3), (3, 3)] [(0, 0), (1, 0), (2, 0), (3, 0), (0, 1), (1, 1), (2, 1), (3, 1), (0, 2), (1, 2), (2, 2), (3, 2)] from rfl)) $$ HA1
  iapply (part30 V K c rfl rfl rfl rfl) $$ HE HA1; iintro HO HG HU
  iapply (part31 V K c (todo := [(0, 3), (1, 0), (1, 1), (1, 2), (1, 3), (2, 0), (2, 1), (2, 2), (2, 3), (3, 0), (3, 1), (3, 2), (3, 3)])) $$ HE HO R0 R1 R2 HW; iintro R0 R1 R2 HA2
  ihave HA2 := (Entails.of_eq (show AwS V c [(0, 3), (1, 0), (1, 1), (1, 2), (1, 3), (2, 0), (2, 1), (2, 2), (2, 3), (3, 0), (3, 1), (3, 2), (3, 3)] ([] ++ [(0, 0)] ++ [(0, 1)] ++ [(0, 2)]) = AwS V c [(0, 3), (1, 0), (1, 1), (1, 2), (1, 3), (2, 0), (2, 1), (2, 2), (2, 3), (3, 0), (3, 1), (3, 2), (3, 3)] [(0, 0), (0, 1), (0, 2)] from rfl)) $$ HA2
  iapply (part32 V K c (todo := [(3, 1), (3, 2), (3, 3)]) (done := [(0, 0), (0, 1), (0, 2)])) $$ HE HA2; iintro HA2
  ihave HA2 := (Entails.of_eq (show AwS V c [(3, 1), (3, 2), (3, 3)] ([(0, 0), (0, 1), (0, 2)] ++ [(0, 3)] ++ [(1, 0)] ++ [(1, 1)] ++ [(1, 2)] ++ [(1, 3)] ++ [(2, 0)] ++ [(2, 1)] ++ [(2, 2)] ++ [(2, 3)] ++ [(3, 0)]) = AwS V c [(3, 1), (3, 2), (3, 3)] [(0, 0), (0, 1), (0, 2), (0, 3), (1, 0), (1, 1), (1, 2), (1, 3), (2, 0), (2, 1), (2, 2), (2, 3), (3, 0)] from rfl)) $$ HA2
  iapply (ag_sent V K c 3 1 (guard_ne 1 c) rfl) $$ HE HA2; iintro HA2
  iapply (ag_sent V K c 3 2 (guard_ne 2 c) rfl) $$ HE HA2; iintro HA2
  iapply (ag_sent V K c 3 3 (guard_ne 3 c) rfl) $$ HE HA2; iintro HA2
  ihave HA2 := (Entails.of_eq (show AwS V c [] ([(0, 0), (0, 1), (0, 2), (0, 3), (1, 0), (1, 1), (1, 2), (1, 3), (2, 0), (2, 1), (2, 2), (2, 3), (3, 0)] ++ [(3, 1)] ++ [(3, 2)] ++ [(3, 3)]) = AwS V c [] [(0, 0), (0, 1), (0, 2), (0, 3), (1, 0), (1, 1), (1, 2), (1, 3), (2, 0), (2, 1), (2, 2), (2, 3), (3, 0), (3, 1), (3, 2), (3, 3)] from rfl)) $$ HA2
  ihave HA2 := (AwS_end V c allS) $$ HA2
  icases HA2 with ⟨HO, HD⟩
  iapply (WP_pure c)
  iapply Hk
  unfold BodyPost
  isplitl [HO]; · iexact HO
  isplitl [HA]; · iexact HA
  isplitl [Hwo]; · iexact Hwo
  isplitl [Hq]; · iexact Hq
  isplitl [Hq']; · iexact Hq'
  isplitl [T0]; · iexact T0
  isplitl [T1]; · iexact T1
  isplitl [TB]; · iexact TB
  isplitl [HR]; · iexact HR
  isplitl [Hats]; · iexact Hats
  isplitl [R0]; · iexact R0
  isplitl [R1]; · iexact R1
  isplitl [R2]; · iexact R2
  isplitl [HD]; · iexact HD
  isplitl [HG]; · iexact HG
  iexact HU

end Cert.Proof.K
-- ==== Proof.Cells.lean ====
/-
  The semaphore cells as a whole: which of them are the kernel's own, how they are opened when the region is entered and closed when the
  body is done, and who holds the right to pay which of them.
-/
module

public import proofs.«01_k».proof.Proof.Body
public import Idealize.ShloMosaic.Harness.Basic

@[expose] public section
noncomputable section
namespace Cert.Proof.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
local notation "𝕄" => MT nD τ sig Unit (Elt F) ℕ UU ℕ

variable (V : (c : Dev nD) → Valuation τ sig (Elt F)) (K : GSem nD τ sig → ℕ)

/-! ## Lists and families -/

theorem sepL_of_bigSepL {α : Type} (Φ : α → sProp 𝕄) : ∀ l : List α, bigSepL l Φ = sepL Φ l
  | [] => rfl
  | [a] => (BI.equiv_iff.mp BI.sep_emp).symm
  | a :: b :: l => by rw [bigSepL_cons_cons, sepL_of_bigSepL Φ (b :: l)]; rfl
theorem uL {α : Type} [Fintype α] [DecidableEq α] (l : List α) (h : Finset.univ = l.toFinset) (hl : l.Nodup) (Φ : α → sProp 𝕄) :
    bigSep Finset.univ Φ = sepL Φ l := (bigSep_univ_eq_bigSepL l h hl Φ).trans (sepL_of_bigSepL Φ l)
theorem sepL_append {α : Type} (Φ : α → sProp 𝕄) (m : List α) : ∀ l : List α, sepL Φ (l ++ m) = iprop(sepL Φ l ∗ sepL Φ m)
  | [] => (BI.equiv_iff.mp BI.emp_sep).symm
  | a :: l => by
    show iprop(Φ a ∗ sepL Φ (l ++ m)) = iprop((Φ a ∗ sepL Φ l) ∗ sepL Φ m)
    rw [sepL_append Φ m l]
    exact (BI.equiv_iff.mp ⟨BI.sep_assoc, BI.sep_assoc'⟩).symm
theorem sepL_map {α β : Type} (Φ : β → sProp 𝕄) (f : α → β) : ∀ l : List α, sepL Φ (l.map f) = sepL (fun a => Φ (f a)) l
  | [] => rfl
  | a :: l => congrArg (fun X => iprop(Φ (f a) ∗ X)) (sepL_map Φ f l)

theorem drop (P : sProp 𝕄) : P ⊢ iprop(emp) := by iintro -; iempintro

/-- The cells of a kernel's own. -/
abbrev ownK : List Kd :=
  [0, 1].map .ld ++ ([0, 1, 2].map .rsS ++ ([0, 1, 2, 3].map .rsR ++ (allS.map (fun x => .agS x.2 x.1) ++ allQ.map fun x => .agR x.1 x.2)))
abbrev Own (Φ : Kd → sProp 𝕄) : sProp 𝕄 :=
  iprop((bigSep Finset.univ fun i => Φ (.ld i)) ∗ (bigSep Finset.univ fun s => Φ (.rsS s)) ∗ (bigSep Finset.univ fun j => Φ (.rsR j))
    ∗ (bigSep Finset.univ fun x : Fin 4 × Dev nD => Φ (.agS x.2 x.1)) ∗ bigSep Finset.univ fun x : Fin 4 × Fin 4 => Φ (.agR x.1 x.2))
theorem own_eq (Φ : Kd → sProp 𝕄) : sepL Φ ownK = Own Φ := by
  unfold Own
  rw [uL [0, 1] (by decide) (by decide), uL [0, 1, 2] (by decide) (by decide), uL [0, 1, 2, 3] (by decide) (by decide),
    uL allS (by decide) (by decide), uL allQ (by decide) (by decide)]
  unfold ownK
  rw [sepL_append, sepL_append, sepL_append, sepL_append, sepL_map, sepL_map, sepL_map, sepL_map, sepL_map]
theorem all_eq (Φ : Kd → sProp 𝕄) : bigSep Finset.univ Φ = iprop(Φ .bar ∗ Own Φ) := by
  rw [uL (.bar :: ownK) (by decide) (by decide), sepL_cons, own_eq]

/-- A cell of the kernel's own. -/
abbrev KO : Type := {k : Kd // k ≠ .bar}
abbrev osem (k : KO) : SemLoc sig := sl k.1
theorem ko_eq (Φ : Kd → sProp 𝕄) : bigSep (Finset.univ : Finset KO) (fun k => Φ k.1) = Own Φ := by
  rw [← own_eq, ← sepL_of_bigSepL, ← bigSep_eq_bigSepL_of_eq (S := Finset.univ.erase Kd.bar) ownK (by decide) (by decide),
    show Finset.univ.erase Kd.bar = (Finset.univ : Finset KO).map (Function.Embedding.subtype _) from by
      ext k; simp, bigSep_map]
  rfl

theorem own_mono {Φ Ψ : Kd → sProp 𝕄} (h : ∀ k, Φ k ⊢ Ψ k) : Own Φ ⊢ Own Ψ := by
  rw [← ko_eq, ← ko_eq]; exact bigSep_mono fun k _ => h k.1
theorem own_sep (Φ Ψ : Kd → sProp 𝕄) : Own (fun k => iprop(Φ k ∗ Ψ k)) = iprop(Own Φ ∗ Own Ψ) := by
  rw [← ko_eq, ← ko_eq, ← ko_eq]; exact bigSep_sep' _ _ _

/-! ## Opening and closing -/

abbrev live (c : Dev nD) (k : Kd) : sProp 𝕄 := reached ER (cell c k) 0

theorem open_all (c : Dev nD) : iprop(Env V K ∗ Own (fun k => openTok ER (cell c k)) ∗ Own (fun k => semVal (cell c k) 0))
    ⊢ (|={Set.univ}=> (Own (at0 c) ∗ Own (live c)) : sProp 𝕄) := by
  rw [← own_sep, ← own_sep, ← ko_eq, ← ko_eq (fun k => iprop(at0 c k ∗ live c k))]
  refine (bigSep_with_persistent (R := Env V K) (Ψ := fun k : KO => iprop(|={Set.univ}=> (at0 c k.1 ∗ live c k.1))) fun k _ => ?_).trans (bigSep_fupd _ _)
  iintro ⟨#E, Ho, Hs⟩
  iapply (Rounds.cell_open ER (Rd V) (g := cell c k.1) (Set.mem_univ (K (cell c k.1))))
  isplitr; · iapply (Env_inv V K c k.1); iexact E
  isplitl [Ho] <;> iassumption

/-- Where a cell stands once nothing more comes. -/
def fin (c : Dev nD) (k : Kd) : sProp 𝕄 := if dut c k = ∅ then at0 c k else at1 c k

theorem fin_one {c : Dev nD} {k : Kd} (h : dut c k = {0}) : fin (F := F) c k = at1 c k := by
  unfold fin; rw [if_neg (by rw [h]; exact Finset.singleton_ne_empty _)]
theorem fin_none {c : Dev nD} {k : Kd} (h : dut c k = ∅) : fin (F := F) c k = at0 c k := if_pos h

theorem close_fin (c : Dev nD) (k : Kd) : iprop(Env V K ∗ fin c k) ⊢ (|={Set.univ}=> semVal (cell c k) 0 : sProp 𝕄) := by
  unfold fin
  by_cases h : dut c k = ∅
  · rw [if_pos h]
    iintro ⟨#E, Ha⟩
    iapply (Rounds.cell_close ER (Rd V) (g := cell c k) (Set.mem_univ (K (cell c k))) (fun h => h) (R := 0) (fun r _ => by
      by_cases h0 : r = 0
      · subst h0; rw [duties_eq, h]
      · exact duties_later V (cell c k) r (Nat.pos_of_ne_zero h0)))
    isplitr; · iapply (Env_inv V K c k); iexact E
    iexact Ha
  · rw [if_neg h]
    iintro ⟨#E, Ha⟩
    iapply (Rounds.cell_close ER (Rd V) (g := cell c k) (Set.mem_univ (K (cell c k))) (fun h => h) (R := 1) (duties_later V (cell c k)))
    isplitr; · iapply (Env_inv V K c k); iexact E
    iexact Ha

theorem close_all (c : Dev nD) : iprop(Env V K ∗ Own (fin c)) ⊢ (|={Set.univ}=> Own (fun k => semVal (cell c k) 0) : sProp 𝕄) := by
  rw [← ko_eq, ← ko_eq (fun k => semVal (cell c k) 0)]
  exact (bigSep_with_persistent (R := Env V K) (Ψ := fun k : KO => iprop(|={Set.univ}=> semVal (cell c k.1) 0)) fun k _ => close_fin V K c k.1).trans (bigSep_fupd _ _)

/-! ## The rights to pay -/

abbrev tk (c : Dev nD) (k : Kd) (d : Fin 4) : sProp 𝕄 := dutyTok ER (cell c k) 0 d

/-- Every duty of every cell. -/
def tokEmb : Dev nD × Kd × Fin 4 ↪ GSem nD τ sig × ℕ × Fin 4 :=
  ⟨fun x => (cell x.1 x.2.1, 0, x.2.2), fun x y h => by
    have h1 := cell_inj (congrArg (fun t => t.1) h)
    have h2 : x.2.2 = y.2.2 := congrArg (fun t => t.2.2) h
    exact Prod.ext h1.1 (Prod.ext h1.2 h2)⟩
abbrev allToks : Finset (GSem nD τ sig × ℕ × Fin 4) := Finset.univ.map tokEmb

/-- What device `c` may pay. -/
def toks (c : Dev nD) : sProp 𝕄 :=
  iprop((bigSep Finset.univ fun p : Dev nD => tk p .bar c) ∗ (bigSep Finset.univ fun i => tk c (.ld i) 0) ∗ (bigSep Finset.univ fun s => tk c (.rsS s) 0)
    ∗ (bigSep Finset.univ fun s : Fin 3 => tk (nxt c s.castSucc) (.rsR c) 0)
    ∗ (bigSep Finset.univ fun x : Fin 4 × Dev nD => tk c (.agS x.2 x.1) 0) ∗ bigSep Finset.univ fun x : Fin 4 × Dev nD => tk x.2 (.agR c x.1) 0)

theorem nxt_part (c : Dev nD) (Φ : Dev nD → sProp 𝕄) : bigSep Finset.univ Φ ⊢ bigSep Finset.univ fun s : Fin 3 => Φ (nxt c s.castSucc) := by
  refine (bigSep_subset (t := Finset.univ.map ⟨fun s : Fin 3 => nxt c s.castSucc, by revert c; decide⟩) (Finset.subset_univ _)).trans ?_
  rw [bigSep_map]; exact BI.Entails.refl _

theorem toks_deal : bigSep allToks (fun x => (dutyTok ER x.1 x.2.1 x.2.2 : sProp 𝕄)) ⊢ bigSep Finset.univ fun c : Dev nD => toks c := by
  unfold allToks
  rw [bigSep_map, bigSep_univ_prod]
  have e0 : ∀ c : Dev nD, bigSep Finset.univ (fun x : Kd × Fin 4 => (tk c x.1 x.2 : sProp 𝕄))
      ⊢ iprop((bigSep Finset.univ fun d => tk c .bar d) ∗ (bigSep Finset.univ fun i => tk c (.ld i) 0) ∗ (bigSep Finset.univ fun s => tk c (.rsS s) 0)
        ∗ (bigSep Finset.univ fun j : Fin 4 => tk c (.rsR j) 0) ∗ (bigSep Finset.univ fun x : Fin 4 × Dev nD => tk c (.agS x.2 x.1) 0)
        ∗ bigSep Finset.univ fun j : Fin 4 => bigSep Finset.univ fun q : Fin 4 => tk c (.agR j q) 0) := by
    intro c
    rw [bigSep_univ_prod, all_eq, ← bigSep_univ_prod (fun x : Fin 4 × Fin 4 => tk c (.agR x.1 x.2) 0)]
    exact sep_mono_right (own_mono fun k => bigSep_elim (Finset.mem_univ (0 : Fin 4)))
  refine (show _ ⊢ _ from bigSep_mono fun c _ => e0 c).trans ?_
  unfold toks
  rw [bigSep_sep', bigSep_sep', bigSep_sep', bigSep_sep', bigSep_sep', bigSep_sep', bigSep_sep', bigSep_sep', bigSep_sep', bigSep_sep']
  iintro ⟨Hb, Hl, Hs, Hr, Ha, Hg⟩
  isplitl [Hb]
  · iapply (Entails.of_eq (bigSep_univ_comm (fun (c : Dev nD) (d : Fin 4) => (tk c .bar d : sProp 𝕄)))); iexact Hb
  isplitl [Hl]; · iexact Hl
  isplitl [Hs]; · iexact Hs
  isplitl [Hr]
  · iapply (show (bigSep Finset.univ fun c : Dev nD => bigSep Finset.univ fun j : Fin 4 => (tk c (.rsR j) 0 : sProp 𝕄))
      ⊢ bigSep Finset.univ fun j : Dev nD => bigSep Finset.univ fun s : Fin 3 => tk (nxt j s.castSucc) (.rsR j) 0 from by
        rw [bigSep_univ_comm]; exact bigSep_mono fun j _ => nxt_part j fun c => tk c (.rsR j) 0)
    iexact Hr
  isplitl [Ha]; · iexact Ha
  iapply (show (bigSep Finset.univ fun c : Dev nD => bigSep Finset.univ fun j : Fin 4 => bigSep Finset.univ fun q : Fin 4 => (tk c (.agR j q) 0 : sProp 𝕄))
      ⊢ bigSep Finset.univ fun j : Dev nD => bigSep Finset.univ fun x : Fin 4 × Dev nD => tk x.2 (.agR j x.1) 0 from by
    rw [bigSep_univ_comm]
    refine bigSep_mono fun j _ => ?_
    rw [bigSep_univ_comm, bigSep_univ_prod]
    exact BI.Entails.refl _)
  iexact Hg

/-! ## The credit -/

/-- What pays what. -/
def pays (c : Dev nD) : Due → Option (Dev nD × Kd)
  | .B p => if p = c then none else some (p, .bar)
  | .R s => some (nxt c s.castSucc, .rsR c)
  | .A q p => if p = c then none else some (p, .agR c q)

theorem tal_at (c : Dev nD) (d : Due) (p : Dev nD) (k : Kd) : tal c d (cell p k) () = if pays c d = some (p, k) then amt k else 0 := by
  have key : ∀ (p' : Dev nD) (k' : Kd), tallyAt (cell p' k') () (amt k') (cell p k) () = if some (p', k') = some (p, k) then amt k else 0 := by
    intro p' k'
    rw [tallyAt_apply]
    by_cases h : p' = p ∧ k' = k
    · obtain ⟨rfl, rfl⟩ := h; rw [if_pos ⟨rfl, rfl⟩, if_pos rfl]
    · rw [if_neg (fun h' => h ⟨(cell_inj h'.1).1.symm, (cell_inj h'.1).2.symm⟩), if_neg (fun h' => h (by simpa using h'))]
  cases d with
  | B q =>
    rw [tal_B]; unfold pays
    by_cases h : q = c
    · rw [if_pos h]; simp only [if_pos h]; rfl
    · rw [if_neg h]; simp only [if_neg h]; exact key q .bar
  | R s => exact key _ (.rsR c)
  | A q r =>
    rw [tal_A]; unfold pays
    by_cases h : r = c
    · rw [if_pos h]; simp only [if_pos h]; rfl
    · rw [if_neg h]; simp only [if_neg h]; exact key r (.agR c q)

def cnt (c p : Dev nD) (k : Kd) : List Due → ℕ
  | [] => 0
  | d :: l => cnt c p k l + if pays c d = some (p, k) then 1 else 0
theorem Ow_at (c p : Dev nD) (k : Kd) : ∀ l : List Due, Ow c l (cell p k) () = cnt c p k l * amt k
  | [] => by show 0 = 0 * amt k; rw [Nat.zero_mul]
  | d :: l => by
    show Ow c l (cell p k) () + tal c d (cell p k) () = (cnt c p k l + if pays c d = some (p, k) then 1 else 0) * amt k
    rw [Ow_at c p k l, tal_at, Nat.add_mul, ite_mul, Nat.one_mul, Nat.zero_mul]

/-- What is owed to a cell at launch, by all together. -/
def tot (c : Dev nD) : Kd → ℕ
  | .bar => 3
  | .rsR j => if j = c then 0 else 1
  | .agR j _ => if j = c then 0 else 1
  | _ => 0
set_option maxRecDepth 20000 in
theorem tot_eq : ∀ (p : Dev nD) (k : Kd), ∑ d : Dev nD, cnt d p k dues = tot p k := by decide +kernel

abbrev O₀ (c : Dev nD) : CellTallies nD τ sig Unit := Ow c dues

theorem launch_at (c : Dev nD) (k : Kd) :
    tallyOn (cell c k) (launchCredit (Pipeline.owing O₀) 0 (cell c k)) = (tallyAt (cell c k) () (tot c k * amt k) : CellTallies nD τ sig Unit) := by
  unfold tallyAt; refine congrArg _ (Finsupp.ext fun u => ?_); cases u
  rw [Pipeline.launchCredit_owing, Finsupp.single_eq_same, Finset.sum_congr rfl fun d _ => Ow_at d c k dues, ← Finset.sum_mul, tot_eq]

abbrev credR (c : Dev nD) (j : Fin 4) : sProp 𝕄 := if j = c then iprop(emp) else cred (tallyAt (cell c (.rsR j)) () NR)
abbrev credA (c : Dev nD) (x : Fin 4 × Fin 4) : sProp 𝕄 := if x.1 = c then iprop(emp) else cred (tallyAt (cell c (.agR x.1 x.2)) () NA)
def creds (c : Dev nD) : sProp 𝕄 := iprop(cred (tallyAt (cell c .bar) () 3) ∗ (bigSep Finset.univ fun j => credR c j) ∗ bigSep Finset.univ fun x => credA c x)

theorem creds_deal (c : Dev nD) : (Pipeline.launchCred O₀ c : sProp 𝕄) ⊢ creds c := by
  unfold Pipeline.launchCred creds
  refine (bigSep_subset (t := Finset.univ.map ⟨sl, fun _ _ h => sl_inj h⟩) (Finset.subset_univ _)).trans ?_
  rw [bigSep_map]
  refine (show (bigSep Finset.univ fun k : Kd => (cred (tallyOn (cell c k) (launchCredit (Pipeline.owing O₀) 0 (cell c k))) : sProp 𝕄)) ⊢ _ from ?_)
  rw [bigSep_congr (fun k _ => congrArg cred (launch_at c k)), all_eq]
  iintro ⟨Hb, -, -, Hr, -, Ha⟩
  isplitl [Hb]; · iexact Hb
  isplitl [Hr]
  · iapply (show (bigSep Finset.univ fun j : Fin 4 => (cred (tallyAt (cell c (.rsR j)) () (tot c (.rsR j) * amt (.rsR j))) : sProp 𝕄)) ⊢ bigSep Finset.univ fun j => credR c j from
      bigSep_mono fun j _ => by
        unfold credR
        by_cases h : j = c
        · rw [if_pos h]; exact drop _
        · rw [if_neg h, show tot c (.rsR j) * amt (.rsR j) = NR from by show (if j = c then 0 else 1) * NR = NR; rw [if_neg h, Nat.one_mul]]; exact BI.Entails.refl _)
    iexact Hr
  · iapply (show (bigSep Finset.univ fun x : Fin 4 × Fin 4 => (cred (tallyAt (cell c (.agR x.1 x.2)) () (tot c (.agR x.1 x.2) * amt (.agR x.1 x.2))) : sProp 𝕄)) ⊢ bigSep Finset.univ fun x => credA c x from
      bigSep_mono fun x _ => by
        unfold credA
        by_cases h : x.1 = c
        · rw [if_pos h]; exact drop _
        · rw [if_neg h, show tot c (.agR x.1 x.2) * amt (.agR x.1 x.2) = NA from by show (if x.1 = c then 0 else 1) * NA = NA; rw [if_neg h, Nat.one_mul]]; exact BI.Entails.refl _)
    iexact Ha

end Cert.Proof.K
end
-- ==== Proof.Parts.lean ====
/-
  What the body starts from, out of the buffers, the cells and the rights as the region is entered; and back again when it is done.
-/
module

public import proofs.«01_k».proof.Proof.Cells

@[expose] public section
noncomputable section
namespace Cert.Proof.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
local notation "𝕄" => MT nD τ sig Unit (Elt F) ℕ UU ℕ

variable (V : (c : Dev nD) → Valuation τ sig (Elt F)) (K : GSem nD τ sig → ℕ)

/-! ## The buffers cut and joined -/

theorem p_disj : ∀ a ∈ (Finset.univ : Finset (Fin 3)), ∀ b ∈ (Finset.univ : Finset (Fin 3)), a ≠ b → Disjoint (pSet a) (pSet b) :=
  fun a _ b _ hab => Finset.disjoint_left.mpr fun i hi hj => hab (Fin.ext ((mem_pSet.mp hi).symm.trans (mem_pSet.mp hj)))
theorem p_all : (Finset.univ : Finset (Fin 3)).biUnion pSet = Finset.univ :=
  Finset.eq_univ_iff_forall.mpr fun i => Finset.mem_biUnion.mpr ⟨(i 0 : Fin 3), Finset.mem_univ _, mem_pSet.mpr rfl⟩
theorem r_disj : ∀ a ∈ (Finset.univ : Finset (Fin 4)), ∀ b ∈ (Finset.univ : Finset (Fin 4)), a ≠ b → Disjoint (rsSet a) (rsSet b) :=
  fun a _ b _ hab => Finset.disjoint_left.mpr fun i hi hj => hab (Fin.ext ((mem_rsSet.mp hi).symm.trans (mem_rsSet.mp hj)))
theorem r_all : (Finset.univ : Finset (Fin 4)).biUnion rsSet = Finset.univ :=
  Finset.eq_univ_iff_forall.mpr fun i => Finset.mem_biUnion.mpr ⟨(i 0 : Fin 4), Finset.mem_univ _, mem_rsSet.mpr rfl⟩
abbrev agS' (x : Fin 4 × Fin 4) : Finset S4x4x64x1024.Idx := agSet x.1 x.2
theorem a_disj : ∀ a ∈ (Finset.univ : Finset (Fin 4 × Fin 4)), ∀ b ∈ (Finset.univ : Finset (Fin 4 × Fin 4)), a ≠ b → Disjoint (agS' a) (agS' b) :=
  fun a _ b _ hab => Finset.disjoint_left.mpr fun i hi hj => hab (Prod.ext (Fin.ext ((mem_agSet.mp hi).1.symm.trans (mem_agSet.mp hj).1))
    (Fin.ext ((mem_agSet.mp hi).2.symm.trans (mem_agSet.mp hj).2)))
theorem a_all : (Finset.univ : Finset (Fin 4 × Fin 4)).biUnion agS' = Finset.univ :=
  Finset.eq_univ_iff_forall.mpr fun i => Finset.mem_biUnion.mpr ⟨((i 0 : Fin 4), (i 1 : Fin 4)), Finset.mem_univ _, mem_agSet.mpr ⟨rfl, rfl⟩⟩

theorem p_eq (c : Dev nD) (f : S3x256x1024.Idx → Elt F .bf16) :
    ((Memref.whole cc0_scratch2).view.loc (c : Thread nD τ) ↦{fullShare} f : sProp 𝕄) = bigSep Finset.univ fun s => pPt c s f := by
  have h := pointsTo_biUnion (Name := ℕ) (Lvl := ℕ) (U := UU) (Ix := Unit) (ℓ := (Memref.whole cc0_scratch2).view.loc (c : Thread nD τ)) (q := fullShare) (f := f) Finset.univ pSet p_disj
  rw [p_all] at h; exact h
theorem r_eq (c : Dev nD) (f : S4x256x1024.Idx → Elt F .bf16) :
    ((Memref.whole cc0_scratch3).view.loc (c : Thread nD τ) ↦{fullShare} f : sProp 𝕄) = bigSep Finset.univ fun j => rsPt c j f := by
  have h := pointsTo_biUnion (Name := ℕ) (Lvl := ℕ) (U := UU) (Ix := Unit) (ℓ := (Memref.whole cc0_scratch3).view.loc (c : Thread nD τ)) (q := fullShare) (f := f) Finset.univ rsSet r_disj
  rw [r_all] at h; exact h
theorem a_eq (c : Dev nD) (f : S4x4x64x1024.Idx → Elt F .bf16) :
    ((Memref.whole cc0_scratch4).view.loc (c : Thread nD τ) ↦{fullShare} f : sProp 𝕄) = bigSep Finset.univ fun j => bigSep Finset.univ fun q => agPt c j q fullShare f := by
  have h := pointsTo_biUnion (Name := ℕ) (Lvl := ℕ) (U := UU) (Ix := Unit) (ℓ := (Memref.whole cc0_scratch4).view.loc (c : Thread nD τ)) (q := fullShare) (f := f) Finset.univ agS' a_disj
  rw [a_all] at h
  exact h.trans (bigSep_univ_prod _)

abbrev rsAny (c : Dev nD) (j : Fin 4) : sProp 𝕄 := iprop(∃ f, rsPt c j f)
abbrev agAny (c : Dev nD) (j q : Fin 4) : sProp 𝕄 := iprop(∃ f, agPt c j q fullShare f)

theorem p_cut (c : Dev nD) : iprop(∃ f, (Memref.whole cc0_scratch2).view.loc (c : Thread nD τ) ↦{fullShare} f) ⊢ (bigSep Finset.univ fun s => PIn c s : sProp 𝕄) := by
  iintro ⟨%f, H⟩
  ihave H := (Entails.of_eq (p_eq c f)) $$ H
  iapply (show (bigSep Finset.univ fun s => (pPt c s f : sProp 𝕄)) ⊢ bigSep Finset.univ fun s => PIn c s from bigSep_mono fun s _ => by
    refine (show pPt c s f ⊢ iprop(∃ f, pPt c s f) from ?_); iintro H; iexists f; iexact H)
  iexact H
theorem r_cut (c : Dev nD) : iprop(∃ f, (Memref.whole cc0_scratch3).view.loc (c : Thread nD τ) ↦{fullShare} f) ⊢ (bigSep Finset.univ fun s => rsAny c s : sProp 𝕄) := by
  iintro ⟨%f, H⟩
  ihave H := (Entails.of_eq (r_eq c f)) $$ H
  iapply (show (bigSep Finset.univ fun s => (rsPt c s f : sProp 𝕄)) ⊢ bigSep Finset.univ fun s => rsAny c s from bigSep_mono fun s _ => by
    refine (show rsPt c s f ⊢ iprop(∃ f, rsPt c s f) from ?_); iintro H; iexists f; iexact H)
  iexact H
theorem a_cut (c : Dev nD) : iprop(∃ f, (Memref.whole cc0_scratch4).view.loc (c : Thread nD τ) ↦{fullShare} f)
    ⊢ (bigSep Finset.univ fun j => bigSep Finset.univ fun q => agAny c j q : sProp 𝕄) := by
  iintro ⟨%f, H⟩
  ihave H := (Entails.of_eq (a_eq c f)) $$ H
  iapply (show (bigSep Finset.univ fun j => bigSep Finset.univ fun q => (agPt c j q fullShare f : sProp 𝕄)) ⊢ bigSep Finset.univ fun j => bigSep Finset.univ fun q => agAny c j q from
    bigSep_mono fun j _ => bigSep_mono fun q _ => by refine (show agPt c j q fullShare f ⊢ iprop(∃ f, agPt c j q fullShare f) from ?_); iintro H; iexists f; iexact H)
  iexact H

theorem shares_join (c : Dev nD) (q : Fin 4) : (bigSep Finset.univ fun p => agPt c c q (shr p) (agC V) : sProp 𝕄) ⊢ agPt c c q fullShare (agC V) := by
  rw [bigSep_univ_eq_bigSepL [0, 1, 2, 3] (by decide) (by decide)]
  refine (show iprop(agPt c c q (shr 0) (agC V) ∗ agPt c c q (shr 1) (agC V) ∗ agPt c c q (shr 2) (agC V) ∗ agPt c c q (shr 3) (agC V)) ⊢ _ from ?_)
  iintro ⟨H0, H1, H2, H3⟩
  iapply (pointsTo_share (PosShare.mem_left_op_right fullShare)).mpr
  isplitl [H0 H1]
  · iapply (pointsTo_share (PosShare.mem_left_op_right fullShare.left)).mpr
    isplitl [H0]; · iexact H0
    iexact H1
  · iapply (pointsTo_share (PosShare.mem_left_op_right fullShare.right)).mpr
    isplitl [H2]; · iexact H2
    iexact H3

theorem fin_rsR (c : Dev nD) (j : Fin 4) : (if j = c then at0 c (.rsR j) else at1 c (.rsR j) : sProp 𝕄) = fin c (.rsR j) := by
  unfold fin
  by_cases h : j = c
  · rw [if_pos h, if_pos (show dut c (.rsR j) = ∅ from if_pos h)]
  · rw [if_neg h, if_neg (show ¬ dut c (.rsR j) = ∅ from by rw [dut_rsR h]; exact Finset.singleton_ne_empty _)]
theorem fin_agS (c : Dev nD) (x : Fin 4 × Dev nD) : (if x.2 = c then at0 c (.agS x.2 x.1) else at1 c (.agS x.2 x.1) : sProp 𝕄) = fin c (.agS x.2 x.1) := by
  unfold fin
  by_cases h : x.2 = c
  · rw [if_pos h, if_pos (show dut c (.agS x.2 x.1) = ∅ from if_pos h)]
  · rw [if_neg h, if_neg (show ¬ dut c (.agS x.2 x.1) = ∅ from by rw [dut_agS x.1 h]; exact Finset.singleton_ne_empty _)]

/-- The sends of the gather are done: its cells, and the own slab whole. -/
theorem done_ag (c : Dev nD) : sepL (AgDone V c) allS
    ⊢ iprop((bigSep Finset.univ fun x : Fin 4 × Dev nD => fin c (.agS x.2 x.1)) ∗ bigSep Finset.univ fun q => agPt c c q fullShare (agC V)) := by
  rw [← uL allS (by decide) (by decide)]
  unfold AgDone
  rw [bigSep_sep', bigSep_congr (fun x _ => fin_agS c x), bigSep_univ_prod (fun x : Fin 4 × Dev nD => agPt c c x.1 (shr x.2) (agC V))]
  exact sep_mono_right (bigSep_mono fun q _ => shares_join V c q)

/-- The receives of the gather are done: its cells, and the other devices' slabs. -/
theorem got_ag (c : Dev nD) : sepL (AgGot V c) allQ
    ⊢ iprop((bigSep Finset.univ fun x : Fin 4 × Fin 4 => fin c (.agR x.1 x.2))
      ∗ bigSep Finset.univ fun j : Fin 4 => if j = c then iprop(emp) else bigSep Finset.univ fun q => agPt c j q fullShare (agC V)) := by
  rw [← uL allQ (by decide) (by decide)]
  refine BI.Entails.trans (Q := bigSep Finset.univ fun x : Fin 4 × Fin 4 =>
    iprop(fin c (.agR x.1 x.2) ∗ if x.1 = c then iprop(emp) else agPt c x.1 x.2 fullShare (agC V))) (bigSep_mono fun x _ => ?_) ?_
  · unfold AgGot
    by_cases h : x.1 = c
    · rw [if_pos h, if_pos h, fin_none (show dut c (.agR x.1 x.2) = ∅ from if_pos h)]
      refine (show at0 c (.agR x.1 x.2) ⊢ iprop(at0 c (.agR x.1 x.2) ∗ emp) from ?_)
      iintro H; isplitl [H]; · iexact H
      iempintro
    · rw [if_neg h, if_neg h, fin_one (dut_agR x.2 h)]
      exact BI.Entails.refl _
  · rw [bigSep_sep', bigSep_univ_prod (fun x : Fin 4 × Fin 4 => if x.1 = c then iprop(emp) else agPt c x.1 x.2 fullShare (agC V))]
    have e : ∀ j : Fin 4, (bigSep Finset.univ fun q : Fin 4 => (if j = c then iprop(emp) else agPt c j q fullShare (agC V) : sProp 𝕄))
        ⊢ if j = c then iprop(emp) else bigSep Finset.univ fun q => agPt c j q fullShare (agC V) := by
      intro j
      by_cases h : j = c
      · rw [if_pos h]; exact drop _
      · rw [if_neg h]
        refine bigSep_mono fun q _ => ?_
        rw [if_neg h]
        exact BI.Entails.refl _
    refine (show iprop((bigSep Finset.univ fun x : Fin 4 × Fin 4 => fin c (.agR x.1 x.2))
        ∗ bigSep Finset.univ fun j : Fin 4 => bigSep Finset.univ fun q : Fin 4 => (if j = c then iprop(emp) else agPt c j q fullShare (agC V) : sProp 𝕄))
      ⊢ iprop((bigSep Finset.univ fun x : Fin 4 × Fin 4 => fin c (.agR x.1 x.2))
        ∗ bigSep Finset.univ fun j : Fin 4 => if j = c then iprop(emp) else bigSep Finset.univ fun q => agPt c j q fullShare (agC V)) from ?_)
    iintro ⟨H1, H2⟩
    isplitl [H1]; · iexact H1
    iapply (show (bigSep Finset.univ fun j : Fin 4 => bigSep Finset.univ fun q : Fin 4 => (if j = c then iprop(emp) else agPt c j q fullShare (agC V) : sProp 𝕄))
        ⊢ bigSep Finset.univ fun j : Fin 4 => if j = c then iprop(emp) else bigSep Finset.univ fun q => agPt c j q fullShare (agC V) from bigSep_mono fun j _ => e j)
    iexact H2

theorem ag_whole (c : Dev nD) : iprop((bigSep Finset.univ fun q => agPt c c q fullShare (agC V))
      ∗ bigSep Finset.univ fun j : Fin 4 => if j = c then iprop(emp) else bigSep Finset.univ fun q => agPt c j q fullShare (agC V))
    ⊢ ((Memref.whole cc0_scratch4).view.loc (c : Thread nD τ) ↦{fullShare} agC V : sProp 𝕄) := by
  have e : (bigSep (Finset.univ.erase c) fun j : Fin 4 => (if j = c then iprop(emp) else bigSep Finset.univ fun q => agPt c j q fullShare (agC V) : sProp 𝕄))
      = bigSep (Finset.univ.erase c) fun j : Fin 4 => bigSep Finset.univ fun q => agPt c j q fullShare (agC V) :=
    bigSep_congr fun j hj => if_neg (Finset.ne_of_mem_erase hj)
  have e1 := bigSep_univ_at (fun j : Fin 4 => (if j = c then iprop(emp) else bigSep Finset.univ fun q => agPt c j q fullShare (agC V) : sProp 𝕄)) c
  rw [e] at e1
  rw [a_eq, e1, bigSep_univ_at (fun j : Fin 4 => bigSep Finset.univ fun q => (agPt c j q fullShare (agC V) : sProp 𝕄)) c]
  refine (show iprop((bigSep Finset.univ fun q => agPt c c q fullShare (agC V)) ∗ (if c = c then iprop(emp) else bigSep Finset.univ fun q => agPt c c q fullShare (agC V))
      ∗ bigSep (Finset.univ.erase c) fun j : Fin 4 => bigSep Finset.univ fun q => agPt c j q fullShare (agC V))
    ⊢ iprop((bigSep Finset.univ fun q => agPt c c q fullShare (agC V)) ∗ bigSep (Finset.univ.erase c) fun j : Fin 4 => bigSep Finset.univ fun q => agPt c j q fullShare (agC V)) from ?_)
  iintro ⟨H1, -, H2⟩
  isplitl [H1]; · iexact H1
  iexact H2

/-! ## The rights and the cells as the body holds them -/

/-- All the pieces of the region's own, before the body. -/
def Raw (c : Dev nD) : sProp 𝕄 :=
  iprop(at0 c .bar ∗ Own (at0 c) ∗ Own (live c) ∗ (bigSep Finset.univ fun p : Dev nD => live p .bar) ∗ toks c ∗ creds c)

abbrev ownIf (c j : Fin 4) : sProp 𝕄 := if j = c then iprop(rsAny c c ∗ bigSep Finset.univ fun q => agAny c c q) else iprop(emp)

theorem sig_one (c p : Dev nD) : iprop(tk p .bar c ∗ live p .bar ∗ rsAny c p ∗ live c (.rsR p)
      ∗ (bigSep Finset.univ fun q => agAny c p q) ∗ bigSep Finset.univ fun q => live c (.agR p q))
    ⊢ (iprop(SigR c p ∗ ownIf c p) : sProp 𝕄) := by
  unfold SigR ownIf
  by_cases h : p = c
  · rw [if_pos h, if_pos h]; subst h
    iintro ⟨-, -, Hr, -, Ha, -⟩
    isplitr; · iempintro
    isplitl [Hr]; · iexact Hr
    iexact Ha
  · rw [if_neg h, if_neg h]
    rw [bigSep_univ_eq_bigSepL [0, 1, 2, 3] (by decide) (by decide), bigSep_univ_eq_bigSepL [0, 1, 2, 3] (by decide) (by decide)]
    refine (show iprop(tk p .bar c ∗ live p .bar ∗ rsAny c p ∗ live c (.rsR p) ∗ (agAny c p 0 ∗ agAny c p 1 ∗ agAny c p 2 ∗ agAny c p 3)
      ∗ live c (.agR p 0) ∗ live c (.agR p 1) ∗ live c (.agR p 2) ∗ live c (.agR p 3))
      ⊢ (iprop((tk p .bar c ∗ live p .bar ∗ (rsAny c p ∗ live c (.rsR p)) ∗ (agAny c p 0 ∗ live c (.agR p 0)) ∗ (agAny c p 1 ∗ live c (.agR p 1))
        ∗ (agAny c p 2 ∗ live c (.agR p 2)) ∗ (agAny c p 3 ∗ live c (.agR p 3))) ∗ emp) : sProp 𝕄) from ?_)
    iintro ⟨H1, H2, H3, H4, ⟨A0, A1, A2, A3⟩, L0, L1, L2, L3⟩
    isplitl
    · isplitl [H1]; · iexact H1
      isplitl [H2]; · iexact H2
      isplitl [H3 H4]; · isplitl [H3] <;> iassumption
      isplitl [A0 L0]; · isplitl [A0] <;> iassumption
      isplitl [A1 L1]; · isplitl [A1] <;> iassumption
      isplitl [A2 L2]; · isplitl [A2] <;> iassumption
      isplitl [A3] <;> iassumption
    iempintro

theorem own_if (c : Dev nD) : (bigSep Finset.univ fun p : Dev nD => ownIf c p) ⊢ (iprop(rsAny c c ∗ bigSep Finset.univ fun q => agAny c c q) : sProp 𝕄) :=
  by
  have h : ownIf (F := F) c c = iprop(rsAny c c ∗ bigSep Finset.univ fun q => agAny c c q) := if_pos rfl
  rw [← h]
  exact bigSep_elim (Finset.mem_univ c)

theorem sig_all (c : Dev nD) : iprop((bigSep Finset.univ fun p : Dev nD => tk p .bar c) ∗ (bigSep Finset.univ fun p : Dev nD => live p .bar)
      ∗ (bigSep Finset.univ fun p => rsAny c p) ∗ (bigSep Finset.univ fun p => live c (.rsR p))
      ∗ (bigSep Finset.univ fun p => bigSep Finset.univ fun q => agAny c p q) ∗ bigSep Finset.univ fun x : Fin 4 × Fin 4 => live c (.agR x.1 x.2))
    ⊢ (iprop((SigR c 0 ∗ SigR c 1 ∗ SigR c 2 ∗ SigR c 3) ∗ rsAny c c ∗ agAny c c 0 ∗ agAny c c 1 ∗ agAny c c 2 ∗ agAny c c 3) : sProp 𝕄) := by
  rw [bigSep_univ_prod, ← bigSep_sep', ← bigSep_sep', ← bigSep_sep', ← bigSep_sep', ← bigSep_sep']
  refine (show _ ⊢ _ from bigSep_mono fun p _ => sig_one c p).trans ?_
  rw [bigSep_sep']
  rw [bigSep_univ_eq_bigSepL [0, 1, 2, 3] (by decide) (by decide) (fun p => SigR (F := F) c p)]
  have e := own_if (F := F) c
  rw [bigSep_univ_eq_bigSepL [0, 1, 2, 3] (by decide) (by decide) (fun q => agAny (F := F) c c q)] at e
  refine (show iprop((SigR c 0 ∗ SigR c 1 ∗ SigR c 2 ∗ SigR c 3) ∗ bigSep Finset.univ fun p => ownIf c p) ⊢ _ from ?_)
  iintro ⟨H, Ho⟩
  isplitl [H]; · iexact H
  iapply e
  iexact Ho

theorem ag_pre (c : Dev nD) : iprop((bigSep Finset.univ fun x : Fin 4 × Dev nD => at0 c (.agS x.2 x.1)) ∗ (bigSep Finset.univ fun x : Fin 4 × Dev nD => tk x.2 (.agR c x.1) 0)
      ∗ (bigSep Finset.univ fun x : Fin 4 × Dev nD => tk c (.agS x.2 x.1) 0) ∗ bigSep Finset.univ fun x : Fin 4 × Dev nD => live c (.agS x.2 x.1))
    ⊢ (sepL (AgPre c) allS : sProp 𝕄) := by
  rw [← uL allS (by decide) (by decide), ← bigSep_sep', ← bigSep_sep', ← bigSep_sep']
  refine bigSep_mono fun x _ => ?_
  unfold AgPre
  by_cases h : x.2 = c
  · rw [if_pos h]
    refine (show iprop(at0 c (.agS x.2 x.1) ∗ tk x.2 (.agR c x.1) 0 ∗ tk c (.agS x.2 x.1) 0 ∗ live c (.agS x.2 x.1)) ⊢ iprop(at0 c (.agS x.2 x.1) ∗ emp) from ?_)
    iintro ⟨H, -⟩
    isplitl [H]; · iexact H
    iempintro
  · rw [if_neg h]; exact BI.Entails.refl _

theorem rs_pre (c : Dev nD) : iprop((bigSep Finset.univ fun s => at0 c (.rsS s)) ∗ (bigSep Finset.univ fun s : Fin 3 => tk (nxt c s.castSucc) (.rsR c) 0)
      ∗ (bigSep Finset.univ fun s => tk c (.rsS s) 0) ∗ bigSep Finset.univ fun s => live c (.rsS s))
    ⊢ (iprop(RsPre c 0 ∗ RsPre c 1 ∗ RsPre c 2) : sProp 𝕄) := by
  rw [← bigSep_sep', ← bigSep_sep', ← bigSep_sep', bigSep_univ_eq_bigSepL [0, 1, 2] (by decide) (by decide)]
  exact BI.Entails.refl _

theorem rs_recv_pre (c : Dev nD) : iprop((bigSep Finset.univ fun j => at0 c (.rsR j)) ∗ bigSep Finset.univ fun j => credR c j) ⊢ (sepL (RsRecv c) [0, 1, 2, 3] : sProp 𝕄) := by
  rw [← uL [0, 1, 2, 3] (by decide) (by decide), ← bigSep_sep']
  exact BI.Entails.refl _
theorem ag_recv_pre (c : Dev nD) : iprop((bigSep Finset.univ fun x : Fin 4 × Fin 4 => at0 c (.agR x.1 x.2)) ∗ bigSep Finset.univ fun x => credA c x) ⊢ (sepL (AgRecv c) allQ : sProp 𝕄) := by
  rw [← uL allQ (by decide) (by decide), ← bigSep_sep']
  exact BI.Entails.refl _

theorem ld_pre (c : Dev nD) : iprop((bigSep Finset.univ fun i => at0 c (.ld i)) ∗ (bigSep Finset.univ fun i => tk c (.ld i) 0) ∗ bigSep Finset.univ fun i => live c (.ld i))
    ⊢ (iprop((at0 c (.ld 0) ∗ at0 c (.ld 1)) ∗ LdPre c 0 ∗ LdPre c 1) : sProp 𝕄) := by
  rw [← bigSep_sep', bigSep_univ_eq_bigSepL [0, 1] (by decide) (by decide), bigSep_univ_eq_bigSepL [0, 1] (by decide) (by decide)]
  exact BI.Entails.refl _

theorem wq_cut (c : Dev nD) : ((Memref.whole main_arg1).view.loc (c : Thread nD τ) ↦{fullShare} (V c main_arg1 : S1024x4096.Idx → Elt F .f32) : sProp 𝕄)
    ⊣⊢ iprop(wqSrc V c ∗ (Memref.whole main_arg1).view.loc (c : Thread nD τ) ↦[Finset.univ \ (wqM c).view.set]{fullShare} (V c main_arg1 : S1024x4096.Idx → Elt F .f32)) :=
  pointsTo_split_subset (Finset.subset_univ _)
theorem wo_cut (c : Dev nD) : ((Memref.whole main_arg4).view.loc (c : Thread nD τ) ↦{fullShare} (V c main_arg4 : S4096x1024.Idx → Elt F .f32) : sProp 𝕄)
    ⊣⊢ iprop(woSrc V c ∗ (Memref.whole main_arg4).view.loc (c : Thread nD τ) ↦[Finset.univ \ (woM c).view.set]{fullShare} (V c main_arg4 : S4096x1024.Idx → Elt F .f32)) :=
  pointsTo_split_subset (Finset.subset_univ _)

abbrev wqRest (c : Dev nD) : sProp 𝕄 := (Memref.whole main_arg1).view.loc (c : Thread nD τ) ↦[Finset.univ \ (wqM c).view.set]{fullShare} (V c main_arg1 : S1024x4096.Idx → Elt F .f32)
abbrev woRest (c : Dev nD) : sProp 𝕄 := (Memref.whole main_arg4).view.loc (c : Thread nD τ) ↦[Finset.univ \ (woM c).view.set]{fullShare} (V c main_arg4 : S4096x1024.Idx → Elt F .f32)

/-- The region's scratch buffers, at any contents. -/
def Scr (c : Dev nD) : sProp 𝕄 :=
  iprop((∃ f, (Memref.whole cc0_scratch0).view.loc (c : Thread nD τ) ↦{fullShare} f) ∗ (∃ f, (Memref.whole cc0_scratch1).view.loc (c : Thread nD τ) ↦{fullShare} f)
    ∗ (∃ f, (Memref.whole cc0_scratch2).view.loc (c : Thread nD τ) ↦{fullShare} f) ∗ (∃ f, (Memref.whole cc0_scratch3).view.loc (c : Thread nD τ) ↦{fullShare} f)
    ∗ (∃ f, (Memref.whole cc0_scratch4).view.loc (c : Thread nD τ) ↦{fullShare} f))
/-- The two weights. -/
def Wts (c : Dev nD) : sProp 𝕄 :=
  iprop(((Memref.whole main_arg1).view.loc (c : Thread nD τ) ↦{fullShare} (V c main_arg1 : S1024x4096.Idx → Elt F .f32))
    ∗ ((Memref.whole main_arg4).view.loc (c : Thread nD τ) ↦{fullShare} (V c main_arg4 : S4096x1024.Idx → Elt F .f32)))

theorem pre_intro (c : Dev nD) : iprop(Raw c ∗ Scr c ∗ Wts V c ∗ OW c dues ∗ (xB V c ∗ kB V c ∗ vB V c) ∗ ∃ f, outPt c f)
    ⊢ iprop(BodyPre V c ∗ wqRest V c ∗ woRest V c) := by
  unfold Raw Scr Wts toks creds Own BodyPre BarW RsOwn AgOwn OutS
  iintro ⟨⟨Hb, ⟨A1, A2, A3, A4, A5⟩, ⟨L1, L2, L3, L4, L5⟩, Lb, ⟨T1, T2, T3, T4, T5, T6⟩, C1, C2, C3⟩, ⟨S0, S1, S2, S3, S4⟩, ⟨Wq, Wo⟩, HO, Hx, ⟨%fo, Ho⟩⟩
  ihave S2 := (p_cut c) $$ S2
  ihave S2 := (Entails.of_eq (bigSep_univ_eq_bigSepL [0, 1, 2] (by decide) (by decide) (fun s => PIn (F := F) c s))) $$ S2
  ihave S2 := (show bigSepL [0, 1, 2] (fun s => PIn (F := F) c s) ⊢ iprop(PIn c 0 ∗ PIn c 1 ∗ PIn c 2) from BI.Entails.refl _) $$ S2
  icases S2 with ⟨P0, P1, P2⟩
  ihave S3 := (r_cut c) $$ S3
  ihave S4 := (a_cut c) $$ S4
  ihave G := (sig_all c) $$ [T1 Lb S3 L3 S4 L5]
  · isplitl [T1]; · iexact T1
    isplitl [Lb]; · iexact Lb
    isplitl [S3]; · iexact S3
    isplitl [L3]; · iexact L3
    isplitl [S4]; · iexact S4
    iexact L5
  icases G with ⟨⟨G0, G1, G2, G3⟩, ⟨%fr, Rw⟩, ⟨%f0, O0⟩, ⟨%f1, O1⟩, ⟨%f2, O2⟩, ⟨%f3, O3⟩⟩
  ihave HA := (ag_pre c) $$ [A4 T6 T5 L4]
  · isplitl [A4]; · iexact A4
    isplitl [T6]; · iexact T6
    isplitl [T5]; · iexact T5
    iexact L4
  ihave HR := (rs_pre c) $$ [A2 T4 T3 L2]
  · isplitl [A2]; · iexact A2
    isplitl [T4]; · iexact T4
    isplitl [T3]; · iexact T3
    iexact L2
  icases HR with ⟨R0, R1, R2⟩
  ihave Hr := (rs_recv_pre c) $$ [A3 C2]
  · isplitl [A3] <;> iassumption
  ihave Ha := (ag_recv_pre c) $$ [A5 C3]
  · isplitl [A5] <;> iassumption
  ihave Hl := (ld_pre c) $$ [A1 T2 L1]
  · isplitl [A1]; · iexact A1
    isplitl [T2]; · iexact T2
    iexact L1
  icases Hl with ⟨⟨D0, D1⟩, E0, E1⟩
  ihave Wq := (wq_cut V c).mp $$ Wq
  icases Wq with ⟨Wq, Wqr⟩
  ihave Wo := (wo_cut V c).mp $$ Wo
  icases Wo with ⟨Wo, Wor⟩
  isplitr [Wqr Wor]
  · isplitl [HO]; · iexact HO
    isplitl [G0]; · iexact G0
    isplitl [G1]; · iexact G1
    isplitl [G2]; · iexact G2
    isplitl [G3]; · iexact G3
    isplitl [Wq]; · iexact Wq
    isplitl [S0]; · iexact S0
    isplitl [E0]; · iexact E0
    isplitl [Wo]; · iexact Wo
    isplitl [S1]; · iexact S1
    isplitl [E1]; · iexact E1
    isplitl [D0]; · iexact D0
    isplitl [D1]; · iexact D1
    isplitl [Hx]; · iexact Hx
    isplitl [Hb C1]; · isplitl [Hb] <;> iassumption
    isplitl [P0]; · iexact P0
    isplitl [P1]; · iexact P1
    isplitl [P2]; · iexact P2
    isplitl [R0]; · iexact R0
    isplitl [R1]; · iexact R1
    isplitl [R2]; · iexact R2
    isplitl [HA]; · iexact HA
    isplitl [Rw]
    · iexists fr; isplitr; · ipureintro; exact fun h => absurd h (Nat.not_lt_zero _)
      iexact Rw
    isplitl [Hr]; · iexact Hr
    isplitl [Ha]; · iexact Ha
    isplitl [O0]
    · iexists f0; isplitr; · ipureintro; exact fun h => absurd h (Nat.not_lt_zero _)
      iexact O0
    isplitl [O1]
    · iexists f1; isplitr; · ipureintro; exact fun h => absurd h (Nat.not_lt_zero _)
      iexact O1
    isplitl [O2]
    · iexists f2; isplitr; · ipureintro; exact fun h => absurd h (Nat.not_lt_zero _)
      iexact O2
    isplitl [O3]
    · iexists f3; isplitr; · ipureintro; exact fun h => absurd h (Nat.not_lt_zero _)
      iexact O3
    iexists fo; isplitr
    · ipureintro; exact ⟨fun x hx => absurd hx List.not_mem_nil, fun h => absurd h (Nat.not_lt_zero _)⟩
    iexact Ho
  isplitl [Wqr] <;> iassumption

theorem post_elim (c : Dev nD) : iprop(BodyPost V c ∗ wqRest V c ∗ woRest V c)
    ⊢ iprop(OW c [] ∗ (xB V c ∗ kB V c ∗ vB V c) ∗ outPt c (outC V c) ∗ Scr c ∗ Wts V c ∗ fin c .bar ∗ Own (fin c)) := by
  have hb : dut c .bar ≠ ∅ := by revert c; decide
  have hbar : fin (F := F) c .bar = at1 c .bar := if_neg hb
  unfold BodyPost Att Scr Wts Own RsAts RsBack
  rw [← uL [0, 1, 2, 3] (by decide) (by decide), bigSep_congr (fun j _ => fin_rsR c j), hbar,
    bigSep_univ_eq_bigSepL [0, 1] (by decide) (by decide) (fun i => fin (F := F) c (.ld i)),
    bigSep_univ_eq_bigSepL [0, 1, 2] (by decide) (by decide) (fun i => fin (F := F) c (.rsS i))]
  iintro ⟨⟨HO, ⟨Hx, Hk, Hv, Hq⟩, Ho, Wq, Wo, D0, D1, B, S3, R, ⟨R0, P0⟩, ⟨R1, P1⟩, ⟨R2, P2⟩, HA, HG, Hout⟩, Wqr, Wor⟩
  ihave HA := (done_ag V c) $$ HA
  icases HA with ⟨FA, OA⟩
  ihave HG := (got_ag V c) $$ HG
  icases HG with ⟨FG, OG⟩
  ihave S4 := (ag_whole V c) $$ [OA OG]
  · isplitl [OA] <;> iassumption
  ihave S2 := (show iprop(pPt c 0 (pC V c) ∗ pPt c 1 (pC V c) ∗ pPt c 2 (pC V c)) ⊢ ((Memref.whole cc0_scratch2).view.loc (c : Thread nD τ) ↦{fullShare} pC V c : sProp 𝕄) from by
    rw [p_eq, bigSep_univ_eq_bigSepL [0, 1, 2] (by decide) (by decide)]; exact BI.Entails.refl _) $$ [P0 P1 P2]
  · isplitl [P0]; · iexact P0
    isplitl [P1] <;> iassumption
  isplitl [HO]; · iexact HO
  isplitl [Hx Hk Hv]
  · isplitl [Hx]; · iexact Hx
    isplitl [Hk] <;> iassumption
  isplitl [Hout]; · iexact Hout
  isplitl [Hq Ho S2 S3 S4]
  · isplitl [Hq]; · iexists _; iexact Hq
    isplitl [Ho]; · iexists _; iexact Ho
    isplitl [S2]; · iexists _; iexact S2
    isplitl [S3]; · iexists _; iexact S3
    iexists _; iexact S4
  isplitl [Wq Wqr Wo Wor]
  · isplitl [Wq Wqr]
    · iapply (wq_cut V c).mpr; isplitl [Wq] <;> iassumption
    · iapply (wo_cut V c).mpr; isplitl [Wo] <;> iassumption
  isplitl [B]; · iexact B
  isplitl [D0 D1]
  · iapply (show iprop(at1 c (.ld 0) ∗ at1 c (.ld 1)) ⊢ bigSepL [0, 1] (fun i => fin (F := F) c (.ld i)) from
      Entails.of_eq (by rw [← fin_one (show dut c (.ld 0) = {0} from rfl), ← fin_one (show dut c (.ld 1) = {0} from rfl)]; rfl))
    isplitl [D0] <;> iassumption
  isplitl [R0 R1 R2]
  · iapply (show iprop(at1 c (.rsS 0) ∗ at1 c (.rsS 1) ∗ at1 c (.rsS 2)) ⊢ bigSepL [0, 1, 2] (fun i => fin (F := F) c (.rsS i)) from
      Entails.of_eq (by rw [← fin_one (show dut c (.rsS 0) = {0} from rfl), ← fin_one (show dut c (.rsS 1) = {0} from rfl), ← fin_one (show dut c (.rsS 2) = {0} from rfl)]; rfl))
    isplitl [R0]; · iexact R0
    isplitl [R1] <;> iassumption
  isplitl [R]; · iexact R
  isplitl [FA]; · iexact FA
  iexact FG

end Cert.Proof.K
end
-- ==== Proof.Region.lean ====
/-
  The region of the kernel in @main: what the core enters it with, its body's obligation, what it leaves.
-/
module

public import proofs.«01_k».proof.Proof.Parts
public import proofs.«01_k».proof.Proof.Gen.KernelIdeal.Frame
public import Idealize.ShloMosaic.Lib.Pipeline.RegionTalk
public import Idealize.ShloMosaic.Lib.Pipeline.ValueKit

@[expose] public section
noncomputable section
namespace Cert.Proof.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F] [Named F]
local notation "𝕄" => MT nD τ sig Unit (Elt F) ℕ UU ℕ

variable (W : (c : Dev nD) → Valuation τ sig (Elt F))

/-- The buffers the body addresses itself. -/
def Hs : Finset (DevRef τ sig) := {Proc.devRef .tc main_arg1, Proc.devRef .tc main_arg4}
/-- The unscoped buffers that are no window's array. -/
abbrev Sr : Finset (DevRef τ sig) := Pipeline.ucRefs τ sig \ Pipeline.arrRefs (τ := τ) spec0

/-- What the buffers hold after the region. -/
def Wf (c : Dev nD) : Valuation τ sig (Elt F) := Function.update (W c) (Proc.devRef .tc main_v6) (outC W c)

theorem Wf_v6 (c : Dev nD) : Wf W c main_v6 = outC W c := Function.update_self ..
theorem Wf_ne (c : Dev nD) (b : DevRef τ sig) (h : b ≠ Proc.devRef .tc main_v6) : Wf W c b = W c b := Function.update_of_ne h ..

theorem held_Hs (c : Dev nD) : (StableHlo.held (c : Thread nD τ) Hs (W c) : sProp 𝕄) = Wts W c := by
  unfold StableHlo.held
  rw [bigSep_eq_bigSepL_of_eq [Proc.devRef .tc main_arg1, Proc.devRef .tc main_arg4] (by decide) (by decide)]
  rfl
theorem held_Wf (c : Dev nD) : (StableHlo.held (c : Thread nD τ) Hs (Wf W c) : sProp 𝕄) = Wts W c := by
  rw [← held_Hs]
  refine StableHlo.held_congr (c : Thread nD τ) fun b hb => Wf_ne W c b ?_
  rintro rfl
  exact absurd hb (by decide)

/-- What the launch leaves for the region beside the buffers. -/
def Tk (c : Dev nD) : sProp 𝕄 :=
  iprop((∃ K, invs W K ∗ at0 c .bar ∗ Own (fun k => openTok ER (cell c k)) ∗ (bigSep Finset.univ fun p : Dev nD => live p .bar) ∗ toks c) ∗ creds c)
def Xk (c : Dev nD) : sProp 𝕄 := iprop((∃ K, Env W K) ∗ Raw c)
def Yk (c : Dev nD) : sProp 𝕄 := semVal (cell c .bar) 0

theorem own0 (c : Dev nD) : (Pipeline.ownSems0 osem c : sProp 𝕄) = Own (fun k => semVal (cell c k) 0) := ko_eq fun k => semVal (cell c k) 0

theorem hopen (c : Dev nD) : iprop(Tk W c ∗ Pipeline.ownSems0 osem c ∗ levAts L lv) ⊢ (|={Set.univ}=> Xk W c : sProp 𝕄) := by
  rw [own0]
  unfold Tk Xk Raw
  iintro ⟨⟨⟨%K, #HI, Hb, Ho, Hl, Ht⟩, Hc⟩, Hs, #HL⟩
  ihave #HE := (show iprop(invs W K ∗ levAts L lv) ⊢ Env W K from BI.Entails.refl _) $$ []
  · isplitr; · iexact HI
    iexact HL
  imod (open_all W K c) $$ [Ho Hs] with ⟨Ha, Hv⟩
  · isplitr; · iexact HE
    isplitl [Ho] <;> iassumption
  imodintro
  isplitr; · iexists K; iexact HE
  isplitl [Hb]; · iexact Hb
  isplitl [Ha]; · iexact Ha
  isplitl [Hv]; · iexact Hv
  isplitl [Hl]; · iexact Hl
  isplitl [Ht] <;> iassumption

/-- The proof data of the one region. -/
def dat (c : Dev nD) : Dat τ (Elt F) Unit ℕ UU ℕ cfg0 c where
  A
    | 0 => W c main_v1
    | 1 => W c main_v3
    | 2 => W c main_v5
    | 3 => W c main_v6
    | ⟨_ + 4, h⟩ => absurd h (Nat.not_lt.2 (Nat.le_add_left _ _))
  after
    | 0 => fun _ => W c main_v1
    | 1 => fun _ => W c main_v3
    | 2 => fun _ => W c main_v5
    | 3 => fun _ => outC W c
    | ⟨_ + 4, h⟩ => absurd h (Nat.not_lt.2 (Nat.le_add_left _ _))
  Φ t := if t.val = 0 then iprop(Pipeline.scopedRest spec0 c ∗ (∃ r, prngReg c r) ∗ StableHlo.held (c : Thread nD τ) Hs (W c) ∗ Xk W c)
    else iprop(Pipeline.scopedRest spec0 c ∗ (∃ r, prngReg c r) ∗ StableHlo.held (c : Thread nD τ) Hs (Wf W c) ∗ Pipeline.ownSems0 osem c ∗ Yk c)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat W
  | ⟨_ + 1, h⟩ => absurd h (Nat.not_lt.2 (Nat.le_add_left _ _))

theorem phi_first (c : Dev nD) : (dat W c).Φ t0_0.castSucc
    = iprop(Pipeline.scopedRest spec0 c ∗ (∃ r, prngReg c r) ∗ StableHlo.held (c : Thread nD τ) Hs (W c) ∗ Xk W c) := rfl
theorem phi_last (c : Dev nD) : (dat W c).Φ t0_0.succ
    = iprop(Pipeline.scopedRest spec0 c ∗ (∃ r, prngReg c r) ∗ StableHlo.held (c : Thread nD τ) Hs (Wf W c) ∗ Pipeline.ownSems0 osem c ∗ Yk c) := rfl
theorem owed_first (c : Dev nD) : (dat W c).owed t0_0.castSucc = O₀ c := rfl
theorem owed_succ (c : Dev nD) : (dat W c).owed t0_0.succ = 0 := rfl
theorem last_eq : (Fin.last cfg0.N) = t0_0.succ := Fin.ext (show cfg0.N = 0 + 1 from N_0)

theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f, ⌜f = X⌝ ∗ ((c : Thread nD τ).loc b) ↦{fullShare} f) := by
  unfold owns; simp only [Memref.view_whole, View.read_whole, View.set_whole]

theorem scr_eq (c : Dev nD) : (Pipeline.scopedRest spec0 c : sProp 𝕄) = Scr c := by rw [scopedRest0_eq]; rfl

abbrev stg (c : Dev nD) (b : Ref sig .tc) (X : b.ty.Contents (Elt F)) : sProp 𝕄 := iprop(∃ f, ⌜f = X⌝ ∗ ((c : Thread nD τ).loc b) ↦{fullShare} f)

def obPre (c : Dev nD) : sProp 𝕄 :=
  iprop((dat W c).Φ t0_0.castSucc ∗ (dat W c).owesAt () t0_0.castSucc
    ∗ (∃ d, stg c cc0_stg0_0 ((dat W c).before (0 : Fin 4) t0_0 d)) ∗ (∃ d, stg c cc0_stg1_0 ((dat W c).before (1 : Fin 4) t0_0 d))
    ∗ (∃ d, stg c cc0_stg2_0 ((dat W c).before (2 : Fin 4) t0_0 d)) ∗ (∃ d, stg c cc0_stg3_0 ((dat W c).before (3 : Fin 4) t0_0 d)))
def obPost (c : Dev nD) : sProp 𝕄 :=
  iprop((dat W c).Φ t0_0.succ ∗ (dat W c).owesAt () t0_0.succ
    ∗ stg c cc0_stg0_0 (W c main_v1) ∗ stg c cc0_stg1_0 (W c main_v3) ∗ stg c cc0_stg2_0 (W c main_v5) ∗ stg c cc0_stg3_0 (outC W c))

theorem before_0 (c : Dev nD) (d) : (dat W c).before (0 : Fin 4) t0_0 d = W c main_v1 := by
  unfold Dat.before; rw [if_pos (fetch0_0 t0_0)]
  funext j
  have hm : (cfg0.win 0).moved (cfg0.grid.coords t0_0) j = true := ((cfg0.win 0).moved_iff _ j).mpr fun a => (j a).isLt
  unfold Dat.fetched Pipeline.Window.fill
  rw [dif_pos hm]
  unfold Dat.blockOf
  refine congrArg (W c main_v1) (funext fun a => Fin.ext ?_)
  fin_cases a <;> (blk_simp; exact (congrArg (· + _) (Nat.zero_mul _)).trans (Nat.zero_add _))
theorem before_1 (c : Dev nD) (d) : (dat W c).before (1 : Fin 4) t0_0 d = W c main_v3 := by
  unfold Dat.before; rw [if_pos (fetch0_1 t0_0)]
  funext j
  have hm : (cfg0.win 1).moved (cfg0.grid.coords t0_0) j = true := ((cfg0.win 1).moved_iff _ j).mpr fun a => (j a).isLt
  unfold Dat.fetched Pipeline.Window.fill
  rw [dif_pos hm]
  unfold Dat.blockOf
  refine congrArg (W c main_v3) (funext fun a => Fin.ext ?_)
  fin_cases a <;> (blk_simp; exact (congrArg (· + _) (Nat.zero_mul _)).trans (Nat.zero_add _))
theorem before_2 (c : Dev nD) (d) : (dat W c).before (2 : Fin 4) t0_0 d = W c main_v5 := by
  unfold Dat.before; rw [if_pos (fetch0_2 t0_0)]
  funext j
  have hm : (cfg0.win 2).moved (cfg0.grid.coords t0_0) j = true := ((cfg0.win 2).moved_iff _ j).mpr fun a => (j a).isLt
  unfold Dat.fetched Pipeline.Window.fill
  rw [dif_pos hm]
  unfold Dat.blockOf
  refine congrArg (W c main_v5) (funext fun a => Fin.ext ?_)
  fin_cases a <;> (blk_simp; exact (congrArg (· + _) (Nat.zero_mul _)).trans (Nat.zero_add _))

theorem owes_out (c : Dev nD) : ((dat W c).owesAt () t0_0.castSucc : sProp 𝕄) ⊢ OW c dues := by
  unfold Dat.owesAt Pipeline.owesWithin OW; rw [owed_first]
  iintro ⟨%X, -, HO⟩; iexists X; iexact HO
theorem owes_in (c : Dev nD) : (OW c [] : sProp 𝕄) ⊢ (dat W c).owesAt () t0_0.succ := by
  unfold Dat.owesAt Pipeline.owesWithin Dat.bound OW; rw [owed_succ]
  iintro ⟨%X, HO⟩; iexists X; isplitr; · ipureintro; exact fun _ _ => Or.inl trivial
  iexact HO

theorem finish (K : GSem nD τ sig → ℕ) (c : Dev nD) : iprop(Env W K ∗ (∃ r, prngReg c r) ∗ BodyPost W c ∗ wqRest W c ∗ woRest W c)
    ⊢ (|={Set.univ}=> obPost W c : sProp 𝕄) := by
  unfold obPost
  rw [phi_last, held_Wf, own0, scr_eq]
  unfold Yk
  iintro ⟨#HE, Hp, HB, Hq, Ho⟩
  ihave H := (post_elim W c) $$ [HB Hq Ho]
  · isplitl [HB]; · iexact HB
    isplitl [Hq] <;> iassumption
  icases H with ⟨HO, ⟨Hx, Hk, Hv⟩, Hout, Hs, Hw, Hb, Hf⟩
  imod (close_fin W K c .bar) $$ [Hb] with Hb
  · isplitr; · iexact HE
    iexact Hb
  imod (close_all W K c) $$ [Hf] with Hf
  · isplitr; · iexact HE
    iexact Hf
  imodintro
  isplitl [Hp Hs Hw Hb Hf]
  · isplitl [Hs]; · iexact Hs
    isplitl [Hp]; · iexact Hp
    isplitl [Hw]; · iexact Hw
    isplitl [Hf]; · iexact Hf
    iexact Hb
  isplitl [HO]; · iapply (owes_in W c); iexact HO
  isplitl [Hx]; · iexists _; isplitr; · ipureintro; rfl
                  iexact Hx
  isplitl [Hk]; · iexists _; isplitr; · ipureintro; rfl
                  iexact Hk
  isplitl [Hv]; · iexists _; isplitr; · ipureintro; rfl
                  iexact Hv
  iexists _; isplitr; · ipureintro; rfl
  iexact Hout

set_option maxRecDepth 4000 in
theorem ob_run (c : Dev nD) : obPre W c ⊢ WP c (cc0_body (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) (fun _ => obPost W c) := by
  unfold obPre
  simp only [before_0, before_1, before_2]
  rw [phi_first, held_Hs, scr_eq]
  unfold Xk
  iintro ⟨⟨Hs, Hp, Hw, ⟨%K, #HE⟩, HR⟩, HO, ⟨%d0, %f0, %h0, H0⟩, ⟨%d1, %f1, %h1, H1⟩, ⟨%d2, %f2, %h2, H2⟩, ⟨%d3, %f3, -, H3⟩⟩
  subst h0; subst h1; subst h2
  ihave HO := (owes_out W c) $$ HO
  ihave G := (pre_intro W c) $$ [Hs Hw HR HO H0 H1 H2 H3]
  · isplitl [HR]; · iexact HR
    isplitl [Hs]; · iexact Hs
    isplitl [Hw]; · iexact Hw
    isplitl [HO]; · iexact HO
    isplitl [H0 H1 H2]
    · isplitl [H0]; · iexact H0
      isplitl [H1]; · iexact H1
      iexact H2
    iexists f3; iexact H3
  icases G with ⟨HB, Hq, Ho⟩
  iapply (wp_fupd frame (wpE (defs₀ (F := F)) Variants.none (c : Thread nD τ) none) Set.univ _ _)
  iapply (body W K c) $$ HE HB
  iintro HB
  iapply (finish W K c)
  isplitr; · iexact HE
  isplitl [Hp]; · iexact Hp
  isplitl [HB]; · iexact HB
  isplitl [Hq] <;> iassumption

set_option maxRecDepth 4000 in
theorem obligation (c : Dev nD) : BodyObligation (dat W c) (defs₀ (F := F)) Variants.none () Set.univ := fun t => by
  rw [fin_N0 t]
  rw [bigSep_W0, bigSep_W0]
  simp only [owns_stage]
  exact ob_run W c

end Cert.Proof.K
end
-- ==== Proof.Launch.lean ====
/-
  The run of @main on the four devices: the region as a segment between the host operations, the launch of the protocol, and what every
  final state holds. Over any float operations.
-/
module

public import proofs.«01_k».proof.Proof.Region

@[expose] public section
noncomputable section
namespace Cert.Proof.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F] [Named F]
local notation "𝕄" => MT nD τ sig Unit (Elt F) ℕ UU ℕ

section Seg
variable (W : (c : Dev nD) → Valuation τ sig (Elt F))

/-! ## The region as a segment -/

theorem final_out (c : Dev nD) : (dat W c).arrAt 3 cfg0.N = outC W c := by
  refine (dat W c).arrAt_eq_of_covers (3 : Fin 4) (outC W c) (by decide +kernel) fun t hf y => ?_
  rw [fin_N0 t]
  refine congrArg (outC W c) (funext fun a => Fin.ext ?_)
  fin_cases a <;> (blk_simp; exact ((congrArg (· + _) (Nat.zero_mul _)).trans (Nat.zero_add _)).symm)

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem due_all : ∀ d ∈ dues, 0 < levD d := fun d _ => by cases d <;> exact Nat.succ_pos _

theorem cutD (c : Dev nD) (t : Fin ((Pipeline.pin (pcfgs (F := F)) adm 0).N + 1)) (g : GSem nD τ sig) (i : Unit)
    (h : 0 < (pdats W 0 c).owed t g i) : i ∈ L g ∧ (0 : ℕ) < lv g i := by
  have e : (pdats W 0 c).owed t = if t.val = 0 then O₀ c else 0 := rfl
  rw [e] at h
  split at h
  · exact Ow_pos due_all h
  · exact absurd h (Nat.lt_irrefl 0)

theorem arr_at0 (c : Dev nD) (w : Fin 4) : (dat W c).arrAt w 0 = W c (Proc.devRef .tc (Pipeline.arrRef spec0 w)) := by
  fin_cases w <;> rfl
theorem arr_atN (c : Dev nD) (w : Fin 4) : (dat W c).arrAt w cfg0.N = Wf W c (Proc.devRef .tc (Pipeline.arrRef spec0 w)) := by
  fin_cases w
  · exact ((dat W c).arrAt_in (0 : Fin 4) rfl _).trans (Wf_ne W c _ (by decide)).symm
  · exact ((dat W c).arrAt_in (1 : Fin 4) rfl _).trans (Wf_ne W c _ (by decide)).symm
  · exact ((dat W c).arrAt_in (2 : Fin 4) rfl _).trans (Wf_ne W c _ (by decide)).symm
  · exact (final_out W c).trans (Wf_v6 W c).symm

theorem sem_lv (c : Dev nD) (w : Fin 4) (s : Fin ((spec0 w).nbuf)) : lv ((c : Thread nD τ), .dma ((spec0 w).sem s)) () ≤ 0 := by
  have h : ∀ (w : Fin 4) (s : Fin ((spec0 w).nbuf)), kd (.dma ((spec0 w).sem s)) = none := by decide
  unfold lv; rw [h w s]; exact Nat.le_refl 0

theorem hout0 (c : Dev nD) : (pdats W 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) Hs (Wf W c)
      ∗ Pipeline.ownSems0 osem c ∗ Yk c) := by
  have e : (pdats W 0 c).Φ (Fin.last (Pipeline.pin (pcfgs (F := F)) adm 0).N) = (dat W c).Φ t0_0.succ := congrArg (dat W c).Φ last_eq
  rw [e, phi_last]

theorem osem_facts : Pipeline.OwnSemFacts spec0 osem := by decide

theorem hs_sub : Hs ⊆ Sr := by decide

theorem off_eq (c : Dev nD) : ∀ b ∈ Sr \ Hs, Wf W c b = W c b := fun b hb => Wf_ne W c b (by
  rintro rfl; exact absurd hb (by decide))

set_option backward.isDefEq.respectTransparency.types false in
def reg0 : Pipeline.RegionSeg (pcfgs (F := F)) adm (pdats W) () (defs₀ (F := F)) Variants.none L lv 0 :=
  Pipeline.RegionSeg.ofTalk (pcfgs (F := F)) adm (pdats W) () defs₀ Variants.none L lv 0 osem osem_facts
    Hs Sr hs_sub kitP rfl (fun c => (obligation W c).loose)
    (fun _ => 0) O₀ (fun c => (zero_add (O₀ c)).symm)
    (fun c => (congrArg (dat W c).owed last_eq).trans (owed_succ W c)) (fun _ => rfl)
    (fun _ w => by fin_cases w <;> rfl)
    W (Wf W) (off_eq W)
    (Tk W) Yk (Xk W) Yk (hopen W) (fun c => BI.Entails.refl _) (hout0 W)
    (fun c => by iintro H; imodintro; iexact H)
    (fun _ => 0)
    ⟨fun c w s => by rw [L_tc]; exact Finset.mem_singleton_self _, fun c w s => sem_lv c w s, fun c t g i h => cutD W c t g i h⟩
    (fun _ => iprop(emp)) (arr_at0 W) (arr_atN W)

abbrev held' (c : Dev nD) (U : Valuation τ sig (Elt F)) : sProp 𝕄 := StableHlo.held (c : Thread nD τ) (Pipeline.ucRefs τ sig) U
theorem arr_sub : Pipeline.arrRefs (τ := τ) spec0 ⊆ Pipeline.ucRefs τ sig := by decide

theorem reg0_pre (c : Dev nD) : iprop(held' c (W c) ∗ (Tk W c ∗ (∃ r, prngReg c r) ∗ ∃ X, owes (c : Thread nD τ) (O₀ c) X)) ⊢ (reg0 W).pre c := by
  show _ ⊢ iprop(StableHlo.held (c.tc : Thread nD τ) (Pipeline.arrRefs (τ := τ) spec0) (W c) ∗ (∃ r, prngReg c r)
    ∗ (StableHlo.held (c.tc : Thread nD τ) Sr (W c) ∗ emp) ∗ Tk W c ∗ ∃ Wd, owes (c : Thread nD τ) (0 + O₀ c) Wd)
  rw [zero_add]
  unfold held'
  rw [StableHlo.held_sub_split (c : Thread nD τ) arr_sub (W c)]
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem reg0_post (c : Dev nD) : (reg0 W).post c
    ⊢ iprop(held' c (Wf W c) ∗ (semVal (cell c .bar) 0 ∗ ∃ X, owes (c : Thread nD τ) (0 : CellTallies nD τ sig Unit) X)) := by
  show iprop(StableHlo.held (c.tc : Thread nD τ) (Pipeline.arrRefs (τ := τ) spec0) (Wf W c) ∗ (∃ r, prngReg c r)
    ∗ (StableHlo.held (c.tc : Thread nD τ) Sr (Wf W c) ∗ emp) ∗ Yk c ∗ ∃ Wd, owes (c : Thread nD τ) (0 : CellTallies nD τ sig Unit) Wd) ⊢ _
  unfold held' Yk
  rw [StableHlo.held_sub_split (c : Thread nD τ) arr_sub (Wf W c)]
  iintro ⟨Ha, -, ⟨Hr, -⟩, Hb, HO⟩
  isplitl [Ha Hr]
  · isplitl [Ha] <;> iassumption
  isplitl [Hb] <;> iassumption

/-! ## The launch -/

def barEmb : Dev nD ↪ GSem nD τ sig := ⟨fun c => cell c .bar, fun _ _ h => (cell_inj h).1⟩
def scEmb : Dev nD × KO ↪ GSem nD τ sig :=
  ⟨fun x => cell x.1 x.2.1, fun _ _ h => Prod.ext (cell_inj h).1 (Subtype.ext (cell_inj h).2)⟩
abbrev barCells : Finset (GSem nD τ sig) := Finset.univ.map barEmb
abbrev scCells : Finset (GSem nD τ sig) := Finset.univ.map scEmb

theorem cells_disjoint : Disjoint barCells scCells := by
  rw [Finset.disjoint_left]
  rintro g h h'
  obtain ⟨c, -, rfl⟩ := Finset.mem_map.mp h
  obtain ⟨x, -, e⟩ := Finset.mem_map.mp h'
  exact x.2.2 (cell_inj e).2

theorem cell_mem (c : Dev nD) (k : Kd) : cell c k ∈ barCells ∪ scCells := by
  by_cases h : k = .bar
  · subst h; exact Finset.mem_union_left _ (Finset.mem_map_of_mem barEmb (Finset.mem_univ c))
  · exact Finset.mem_union_right _ (Finset.mem_map_of_mem scEmb (Finset.mem_univ (c, (⟨k, h⟩ : KO))))

def u₀ : UU :=
  (initOf (Pipeline.cells (Pipeline.pin (pcfgs (F := F)) adm) cellOf_inj) (Pipeline.launchToks (Pipeline.pin (pcfgs (F := F)) adm) cellOf_inj),
    launchOf barCells scCells allToks)

/-- The launch's ghost state, all of it with device 0 until it is dealt. -/
def G (c : Dev nD) : sProp 𝕄 := if c = 0 then BI.own (ER (launchOf barCells scCells allToks)) else iprop(emp)
theorem G_all : bigSep Finset.univ (G (F := F)) = BI.own (ER (launchOf barCells scCells allToks)) := by
  rw [bigSep_univ_at (G (F := F)) (0 : Dev nD), bigSep_congr (s := Finset.univ.erase (0 : Dev nD)) (Ψ := fun _ => (BI.emp : sProp 𝕄))
    fun c hc => by unfold G; rw [if_neg (Finset.ne_of_mem_erase hc)]; rfl, BI.bigSep_emp_const]
  unfold G; rw [if_pos rfl]
  exact BI.equiv_iff.mp BI.sep_emp

/-- What every device may consult: every cell's invariant, and that round 0 of every barrier is reached. -/
def recs (κ : GSem nD τ sig → ℕ) : sProp 𝕄 :=
  iprop((bigSep (barCells ∪ scCells) fun g => cellInv ER (Rd W) (κ g) g) ∗ bigSep barCells fun g => reached ER g 0)
instance recs_persistent (κ : GSem nD τ sig → ℕ) : BI.Persistent (recs W κ) := by unfold recs; infer_instance

theorem recs_invs (κ : GSem nD τ sig → ℕ) : recs W κ ⊢ invs W κ := by
  unfold invs
  refine BI.Entails.trans (bigSep_of_persistent (Finset.univ : Finset (Dev nD × Kd)) (recs W κ)) (bigSep_mono fun x _ => ?_)
  exact (show recs W κ ⊢ cellInv ER (Rd W) (κ (cell x.1 x.2)) (cell x.1 x.2) from by
    unfold recs
    iintro ⟨H, -⟩
    iapply (show (bigSep (barCells ∪ scCells) fun g => (cellInv ER (Rd W) (κ g) g : sProp 𝕄)) ⊢ cellInv ER (Rd W) (κ (cell x.1 x.2)) (cell x.1 x.2) from
      bigSep_elim (cell_mem x.1 x.2))
    iexact H)
theorem recs_live (κ : GSem nD τ sig → ℕ) : recs W κ ⊢ (bigSep Finset.univ fun p : Dev nD => live p .bar) := by
  refine BI.Entails.trans (bigSep_of_persistent (Finset.univ : Finset (Dev nD)) (recs W κ)) (bigSep_mono fun c _ => ?_)
  exact (show recs W κ ⊢ live c .bar from by
    unfold recs
    iintro ⟨-, H⟩
    iapply (show (bigSep barCells fun g => (reached ER g 0 : sProp 𝕄)) ⊢ reached ER (cell c .bar) 0 from
      bigSep_elim (Finset.mem_map_of_mem barEmb (Finset.mem_univ c)))
    iexact H)

/-- What is the device's own of the protocol's ghost state. -/
def lin (c : Dev nD) : sProp 𝕄 := iprop(at0 c .bar ∗ Own (fun k => openTok ER (cell c k)) ∗ toks c)

end Seg

section Run
variable (m : (ℓ : Loc nD τ sig) → Buf (Elt F) ℓ) (ρ : Dev nD → PrngReg)

abbrev R0 (c : Dev nD) : sProp 𝕄 := iprop(Tk (V0 m) c ∗ (∃ r, prngReg c r) ∗ ∃ X, owes (c : Thread nD τ) (O₀ c) X)
abbrev R1 (c : Dev nD) : sProp 𝕄 := iprop(semVal (cell c .bar) 0 ∗ ∃ X, owes (c : Thread nD τ) (0 : CellTallies nD τ sig Unit) X)
abbrev VI (c : Dev nD) : Valuation τ sig (Elt F) := fun b => m (c, b)
abbrev VF (c : Dev nD) : Valuation τ sig (Elt F) := StableHlo.after hostOps1 (Wf (V0 m) c)

/-- What of a device's launch holdings is not the protocol's. -/
def bundle (c : Dev nD) : sProp 𝕄 :=
  iprop(held' c (VI m c) ∗ creds c ∗ owes (c : Thread nD τ) (O₀ c) ∅ ∗ ∃ r, prngReg c r)

abbrev T₀ (c : Dev nD) : sProp 𝕄 := iprop(held' c (VI m c) ∗ R0 m c)
abbrev Tₙ (c : Dev nD) : sProp 𝕄 := iprop(held' c (VF m c) ∗ semVal (cell c .bar) 0)

theorem T₀_intro (κ : GSem nD τ sig → ℕ) (c : Dev nD) : iprop(recs (V0 m) κ ∗ (lin c ∗ bundle m c)) ⊢ T₀ m c := by
  unfold bundle T₀ R0 Tk lin
  iintro ⟨#HR, ⟨Hb, Ho, Ht⟩, Hh, Hc, HO, Hp⟩
  isplitl [Hh]; · iexact Hh
  isplitl [Hb Ho Ht Hc]
  · isplitr [Hc]
    · iexists κ
      isplitr; · iapply (recs_invs (V0 m) κ); iexact HR
      isplitl [Hb]; · iexact Hb
      isplitl [Ho]; · iexact Ho
      isplitr; · iapply (recs_live (V0 m) κ); iexact HR
      iexact Ht
    · iexact Hc
  isplitl [Hp]; · iexact Hp
  iexists ∅; iexact HO

theorem unscoped_eq : ∀ sm : SemLoc sig, sm.isScoped .tc = false → sm = sl .bar := by decide
theorem unscopedSems0_eq (c : Dev nD) : (unscopedSems0 c : sProp 𝕄) = semVal (cell c .bar) 0 := by
  unfold unscopedSems0
  rw [show (Finset.univ.filter fun sm : SemLoc sig => ¬ sm.isScoped .tc) = {sl .bar} from by decide, BI.bigSep_singleton]

theorem core (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (cell c .bar) 0 ∗ G c)) : sProp 𝕄) := by
  rw [show unscopedBufs c (fun b => m ((c : Thread nD τ).loc b)) = held' c (VI m c) from Pipeline.unscopedBufs_held c (VI m c), unscopedSems0_eq]
  unfold bundle
  iintro ⟨Hh, Hus, HO, Hcr, Hp, HG⟩
  ihave Hc := (creds_deal (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : bigSep Finset.univ (fun c : Dev nD => (semVal (cell c .bar) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (at0 c .bar : sProp 𝕄)) :=
    Entails.of_eq (bigSep_map (s := Finset.univ) barEmb (Φ := fun g : GSem nD τ sig => (atPos ER g 0 ∅ 0 : sProp 𝕄)))
  have hop : bigSep scCells (fun g => (openTok ER g : sProp 𝕄)) ⊢ bigSep Finset.univ (fun c : Dev nD => (Own (fun k => openTok ER (cell c k)) : sProp 𝕄)) :=
    Entails.of_eq (by
      rw [bigSep_map, bigSep_univ_prod]
      exact bigSep_congr fun c _ => ko_eq fun k => (openTok ER (cell c k) : sProp 𝕄))
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (cell c .bar) 0 ∗ G c)) : sProp 𝕄) from bigSep_mono fun c _ => core m ρ c) $$ H
  ihave H2 := Smoke.bigSep_unpair $$ H'; icases H2 with ⟨HB, H3⟩
  ihave H4 := Smoke.bigSep_unpair $$ H3; icases H4 with ⟨Hv, HG⟩
  ihave Hu := (show bigSep Finset.univ (G (F := F)) ⊢ BI.own (ER (launchOf barCells scCells allToks)) from Entails.of_eq (G_all (F := F))) $$ HG
  imod (Rounds.fund_launch ER (Rd (V0 m)) cells_disjoint (fun g _ h => h) allToks) $$ [Hv Hu] with ⟨%κ, -, #Hinv, #Hr, Hat, Hopen, Htok⟩
  · isplitl [Hv]
    · iapply hv $$ Hv
    · iexact Hu
  imodintro
  iapply (bigSep_with_persistent (R := recs (V0 m) κ) (Φ := fun c => iprop(lin c ∗ bundle m c)) fun c _ => T₀_intro m κ c)
  isplitr
  · unfold recs
    isplitr; · iexact Hinv
    iexact Hr
  iapply Smoke.bigSep_pair
  isplitr [HB]
  · unfold lin
    iapply Smoke.bigSep_pair; isplitl [Hat]; · iapply hat $$ Hat
    iapply Smoke.bigSep_pair; isplitl [Hopen]; · iapply hop $$ Hopen
    iapply (toks_deal (F := F)) $$ Htok
  · iexact HB

/-! ## The run -/

theorem ops0_sub : ∀ op ∈ (hostOps0 : List (HloOp τ sig (Elt F))), op.bufs ⊆ Pipeline.ucRefs τ sig :=
  fun op h => Pipeline.sub_ucRefs op ((List.forall_iff_forall_mem.mp hostOps0_sub) op h)
theorem ops1_sub : ∀ op ∈ (hostOps1 : List (HloOp τ sig (Elt F))), op.bufs ⊆ Pipeline.ucRefs τ sig :=
  fun op h => Pipeline.sub_ucRefs op ((List.forall_iff_forall_mem.mp hostOps1_sub) op h)
theorem ops0_fresh : ∀ op ∈ (hostOps0 : List (HloOp τ sig (Elt F))), op.fresh = ∅ := List.forall_iff_forall_mem.mp hostOps0_fresh
theorem ops1_fresh : ∀ op ∈ (hostOps1 : List (HloOp τ sig (Elt F))), op.fresh = ∅ := List.forall_iff_forall_mem.mp hostOps1_fresh

def seg0 : Pipeline.HostSeg (Ix := Unit) (Name := ℕ) (U := UU) (Lvl := ℕ) (pcfgs (F := F)) (defs₀ (F := F)) Variants.none L lv :=
  Pipeline.HostSeg.ofOps _ _ _ _ _ (Pipeline.ucRefs τ sig) hostOps0 ops0_sub ops0_fresh (VI m) (R0 m)
def seg1 : Pipeline.HostSeg (Ix := Unit) (Name := ℕ) (U := UU) (Lvl := ℕ) (pcfgs (F := F)) (defs₀ (F := F)) Variants.none L lv :=
  Pipeline.HostSeg.ofOps _ _ _ _ _ (Pipeline.ucRefs τ sig) hostOps1 ops1_sub ops1_fresh (Wf (V0 m)) R1

def segs : List (Pipeline.Seg (pcfgs (F := F)) adm (pdats (V0 m)) () (defs₀ (F := F)) Variants.none L lv) :=
  [.host (seg0 m), .region (reg0 (V0 m)), .host (seg1 m)]

theorem VF_arg (c : Dev nD) (b : Ref sig .tc) (hb : b ≠ main_v6 ∧ b ≠ main_v7) : VF m c b = V0 m c b :=
  (StableHlo.after_of_forall_not_mem (b := Proc.devRef .tc b) _ _ (List.forall_iff_forall_mem.mp (by
    simp only [hostOps1, List.Forall, StableHlo.unary_writes, Finset.mem_singleton]
    exact StableHlo.devRef_ne_of_ne hb.2))).trans (Wf_ne _ c _ (StableHlo.devRef_ne_of_ne hb.1))

/-- The result: the region's output with a leading axis of one. -/
def res (c : Dev nD) : FVec F S1x1024x1024 .f32 := broadcastInDim S1x1024x1024 ![1, 2] bcast_S1024x1024_S1x1024x1024_1_2 (outC (V0 m) c)
theorem VF_v7 (c : Dev nD) : VF m c main_v7 = res m c := by
  unfold VF res
  rw [StableHlo.after_cons, StableHlo.after_nil, StableHlo.unary_result]
  exact congrArg _ (Wf_v6 (V0 m) c)

abbrev ucL : List (DevRef τ sig) :=
  [Proc.devRef .tc main_v7, Proc.devRef .tc main_arg0, Proc.devRef .tc main_arg1, Proc.devRef .tc main_arg2, Proc.devRef .tc main_arg3, Proc.devRef .tc main_arg4,
   Proc.devRef .tc main_v1, Proc.devRef .tc main_v2, Proc.devRef .tc main_v3, Proc.devRef .tc main_v4, Proc.devRef .tc main_v5, Proc.devRef .tc main_v6]
abbrev lp (c : Dev nD) (b : Ref sig .tc) (U : Valuation τ sig (Elt F)) : sProp 𝕄 := ((c : Thread nD τ).loc b) ↦{fullShare} (U b)
theorem held_six (c : Dev nD) (U : Valuation τ sig (Elt F)) : held' c U
    ⊢ iprop(lp c main_v7 U ∗ lp c main_arg0 U ∗ lp c main_arg1 U ∗ lp c main_arg2 U ∗ lp c main_arg3 U ∗ lp c main_arg4 U) := by
  unfold held' StableHlo.held
  rw [bigSep_eq_bigSepL_of_eq (S := Pipeline.ucRefs τ sig) ucL (by decide) (by decide)]
  refine (show iprop(lp c main_v7 U ∗ lp c main_arg0 U ∗ lp c main_arg1 U ∗ lp c main_arg2 U ∗ lp c main_arg3 U ∗ lp c main_arg4 U
    ∗ lp c main_v1 U ∗ lp c main_v2 U ∗ lp c main_v3 U ∗ lp c main_v4 U ∗ lp c main_v5 U ∗ lp c main_v6 U) ⊢ _ from ?_)
  iintro ⟨H7, H0, H1, H2, H3, H4, -, -, -, -, -, -⟩
  isplitl [H7]; · iexact H7
  isplitl [H0]; · iexact H0
  isplitl [H1]; · iexact H1
  isplitl [H2]; · iexact H2
  isplitl [H3] <;> iassumption

/-- What every final state holds on device `c`. -/
def Post (c : Dev nD) (mem : (ℓ : Loc nD τ sig) → Buf (Elt F) ℓ) : Prop :=
  mem ((c : Thread nD τ).loc main_v7) = res m c
  ∧ mem ((c : Thread nD τ).loc main_arg0) = m ((c : Thread nD τ).loc main_arg0)
  ∧ mem ((c : Thread nD τ).loc main_arg1) = m ((c : Thread nD τ).loc main_arg1)
  ∧ mem ((c : Thread nD τ).loc main_arg2) = m ((c : Thread nD τ).loc main_arg2)
  ∧ mem ((c : Thread nD τ).loc main_arg3) = m ((c : Thread nD τ).loc main_arg3)
  ∧ mem ((c : Thread nD τ).loc main_arg4) = m ((c : Thread nD τ).loc main_arg4)

set_option backward.isDefEq.respectTransparency.types false in
theorem run_main : θ_run (defs (F := F)) (onTc (τ := τ) (main (F := F))) ⟨m, fun _ => 0, ρ⟩
    (fun r => (∀ c : Dev nD, Post m c r.2.mem) ∧ r.2.sem = fun _ => 0) :=
  Pipeline.θ_run_regions_kit_sems (pcfgs (F := F)) adm (pdats (V0 m)) () cellOf_inj EP defs₀ Variants.none L lv m ρ main (segs m)
    (fun c Q => by rw [main_segs adm (pdats (V0 m)) () Variants.none L lv (seg0 m) (seg1 m) (reg0 (V0 m)) rfl rfl c]; exact BI.Entails.refl _)
    (by simp only [segs, Pipeline.Seg.pipes_host, Pipeline.Seg.pipes_region, Pipeline.Seg.pipes_nil]; decide)
    (O₀ := O₀) (hL := L_of_ne) (G := G) (u₀ := u₀)
    (hu₀ := by
      unfold u₀
      rw [G_all]
      iintro Hu
      ihave H := (ownU_pair _ _) $$ Hu
      icases H with ⟨HP, HX⟩
      imodintro
      isplitl [HP]; · iexact HP
      iexact HX)
    (T₀ := T₀ m) (Tₙ := Tₙ m)
    (hch := by
      refine ⟨fun c => .rfl, fun c => reg0_pre (V0 m) c, fun c => reg0_post (V0 m) c, fun c => ?_⟩
      · refine (show iprop(held' c (VF m c) ∗ (semVal (cell c .bar) 0 ∗ ∃ X, owes (c : Thread nD τ) (0 : CellTallies nD τ sig Unit) X))
          ⊢ iprop((held' c (VF m c) ∗ semVal (cell c .bar) 0) ∗ ∃ X, owes (c : Thread nD τ) (0 : CellTallies nD τ sig Unit) X) from ?_)
        iintro ⟨Hh, Hb, HO⟩
        isplitr [HO]
        · isplitl [Hh] <;> iassumption
        · iexact HO)
    (hinit := init m ρ)
    (QY := fun c s => ((s.mem ((c : Thread nD τ).loc main_v7) = VF m c main_v7
        ∧ s.mem ((c : Thread nD τ).loc main_arg0) = VF m c main_arg0 ∧ s.mem ((c : Thread nD τ).loc main_arg1) = VF m c main_arg1
        ∧ s.mem ((c : Thread nD τ).loc main_arg2) = VF m c main_arg2 ∧ s.mem ((c : Thread nD τ).loc main_arg3) = VF m c main_arg3
        ∧ s.mem ((c : Thread nD τ).loc main_arg4) = VF m c main_arg4)) ∧ s.sem (cell c .bar) = 0)
    (hfin := fun c s' => by
      unfold Tₙ
      iintro ⟨⟨Hh, Hb⟩, HSI⟩
      ihave H := (held_six c (VF m c)) $$ Hh
      icases H with ⟨H7, H0, H1, H2, H3, H4⟩
      icombine HSI H7 gives %h7
      icombine HSI H0 gives %h0
      icombine HSI H1 gives %h1
      icombine HSI H2 gives %h2
      icombine HSI H3 gives %h3
      icombine HSI H4 gives %h4
      icombine HSI Hb gives %hb
      imodintro
      isplitr
      · ipureintro
        exact ⟨⟨Buf.eq_of_forall_mem_univ h7, Buf.eq_of_forall_mem_univ h0, Buf.eq_of_forall_mem_univ h1, Buf.eq_of_forall_mem_univ h2,
          Buf.eq_of_forall_mem_univ h3, Buf.eq_of_forall_mem_univ h4⟩, by simpa using hb⟩
      iexact HSI)
    (hQ := fun s h hs => ⟨fun c => by
        obtain ⟨⟨h7, h0, h1, h2, h3, h4⟩, -⟩ := h c
        exact ⟨h7.trans (VF_v7 m c), h0.trans ((VF_arg m c main_arg0 (by decide)).trans (V_main_arg0 m c)),
          h1.trans ((VF_arg m c main_arg1 (by decide)).trans (V_main_arg1 m c)), h2.trans ((VF_arg m c main_arg2 (by decide)).trans (V_main_arg2 m c)),
          h3.trans ((VF_arg m c main_arg3 (by decide)).trans (V_main_arg3 m c)), h4.trans ((VF_arg m c main_arg4 (by decide)).trans (V_main_arg4 m c))⟩,
      sem_eq_zero hs fun c sm hsm => by
        obtain rfl := unscoped_eq sm hsm
        exact (h c).2⟩)

end Run
end Cert.Proof.K
end
-- ==== Proof.Frames.lean ====
/- The frames of the three programs and the naming of the mask's constant.

   The run of `Launch` is proved over any field, for the idealized kernel's text. The original kernel has the same text
   but for the mask's constant, which it writes as a literal; reading the named constant as that literal's own word, the
   two programs at the machine's numbers are one, and the original's frame is the same run. -/
module

public import proofs.«01_k».proof.Proof.Launch
public import proofs.«01_k».proof.Proof.Gen.Kernel
public import proofs.«01_k».proof.Proof.Gen.ReferenceIdeal.Run
public import Idealize.ShloMosaic.Lib.Quiescent

@[expose] public section

noncomputable section

namespace Cert.Proof.K

open Idealize.ShloMosaic Idealize.SL.Sem

section Bits

/-- At the machine's numbers a named constant is the word it was written as. -/
local instance namedBits : Named Bits where
  named _ _ {φ} b := FloatOps.ofBits φ b

theorem main_bits : Kernel.main (F := Bits) = KernelIdeal.main (F := Bits) := rfl

theorem defs₀_bits : Kernel.defs₀ (F := Bits) = KernelIdeal.defs₀ (F := Bits) := by
  unfold Kernel.defs₀ KernelIdeal.defs₀
  refine congrArg Defs.onTc (funext fun l => funext fun a => ?_)
  match l, a with
  | 0, (t, s) => exact rfl

theorem defs_bits : Kernel.defs (F := Bits) = KernelIdeal.defs (F := Bits) := by
  unfold Kernel.defs KernelIdeal.defs
  rw [defs₀_bits]
  rfl

theorem frame_kernel : Cert.quiescent_Kernel := by
  intro m ρ _
  rw [defs_bits, main_bits]
  exact (θ_run (KernelIdeal.defs (F := Bits)) _ _).mono (fun _ h => ⟨fun c => (h.1 c).2, h.2⟩) (run_main (F := Bits) m ρ)

end Bits

theorem frame_ideal : Cert.quiescent_KernelIdeal := fun m ρ _ =>
  (θ_run (KernelIdeal.defs (F := Ideal)) _ _).mono (fun _ h => ⟨fun c => (h.1 c).2, h.2⟩) (run_main (F := Ideal) m ρ)

/-- The reference is host operations alone: it declares no semaphore and writes no argument. -/
theorem frame_reference : Cert.quiescent_ReferenceIdeal := fun m ρ _ =>
  (θ_run ReferenceIdeal.defs _ _).mono (fun r h => ⟨fun c => (h c).2, sem_eq_zero_of_no_sems (by decide) r.2⟩)
    (ReferenceIdeal.Value.run (F := Ideal) m ρ)

/-- The mask's literal and the infinity it stands for. -/
theorem preserves_mask : Cert.preserves_Kernel_KernelIdeal :=
  IdealRules.named_const.statement Cert.KernelIdeal.κ "mask" .f32 0xCE6E6B28#32 ⊥ rfl

end Cert.Proof.K

end
-- ==== Proof.Pre.lean ====
/- The precondition, read: every entry of x, Wq and K is a real number. -/
module

public import proofs.«01_k».proof.Defs
public import Idealize.ShloMosaic.Lib.ReduceAll
public import Idealize.ShloMosaic.Lib.Pointwise

@[expose] public section

noncomputable section

namespace Cert.Proof.V

open Idealize.ShloMosaic

section K
open Cert.Pre_finite_inputs_KernelIdeal
/-- The shape facts of the predicate over the devices' arrays. -/
instance preK : Cert.Pre_finite_inputs_KernelIdeal.Facts where
  bcast_S_S1x1024x1024 := by decide
  reducesTo_S1x1024x1024_S_d0_1_2 := by decide
  h_S_ := by decide
  bcast_S_S1024x4096 := by decide
  reducesTo_S1024x4096_S_d0_1 := by decide
  bcast_S_S1x1024x8x128 := by decide
  reducesTo_S1x1024x8x128_S_d0_1_2_3 := by decide
end K

section R
open Cert.Pre_finite_inputs_ReferenceIdeal
/-- The shape facts of the predicate over the whole arrays. -/
instance preR : Cert.Pre_finite_inputs_ReferenceIdeal.Facts where
  bcast_S_S1x1024x1024 := by decide
  reducesTo_S1x1024x1024_S_d0_1_2 := by decide
  h_S_ := by decide
  bcast_S_S1024x4096 := by decide
  reducesTo_S1024x4096_S_d0_1 := by decide
  bcast_S_S1x1024x32x128 := by decide
  reducesTo_S1x1024x32x128_S_d0_1_2_3 := by decide
end R

/-- A number whose absolute value is below the format's infinity is real. -/
theorem real_of_olt (a : EReal) (h : Ideal.cmp .olt (max a (-a)) (Ideal.ofBits .f32 0x7F800000#32) = 1#1) : a ≠ ⊥ ∧ a ≠ ⊤ := by
  have top : Ideal.ofBits .f32 0x7F800000#32 = ⊤ := by simp [Ideal.ofBits, Ideal.ieee]
  rw [top] at h
  constructor
  · rintro rfl
    simp [Ideal.cmp] at h
  · rintro rfl
    simp [Ideal.cmp] at h

/-- One conjunct of the predicate. -/
theorem real_of_reduce {s : Shape} {axes : List (Fin s.rank)} (a : FVec Ideal s .f32) (hb : Shape.BroadcastsInDim ⟨0, ![]⟩ s (![] : Fin 0 → Fin s.rank))
    (hr : s.ReducesTo axes ⟨0, ![]⟩) (hu : 0 < Shape.numel ⟨0, ![]⟩) (j : Shape.Idx ⟨0, ![]⟩)
    (h : Host.reduce IntOp.andi (cmpf .olt (Host.absf a) (broadcastInDim s ![] hb (constant (F := Ideal) ⟨0, ![]⟩ .f32 0x7F800000#32))) (constantI ⟨0, ![]⟩ 1 1#1) hr hu j = 1#1)
    (i : s.Idx) : (a i : EReal) ≠ ⊥ ∧ (a i : EReal) ≠ ⊤ := by
  haveI : Subsingleton (Shape.Idx ⟨0, ![]⟩) := ⟨fun p q => funext fun b => b.elim0⟩
  exact real_of_olt _ (Host.reduce_andi_all _ _ hr hu j h i)

/-- The precondition over one device's arrays. -/
theorem pre_real (a0 : FVec Ideal ⟨3, ![1, 1024, 1024]⟩ .f32) (a1 : FVec Ideal ⟨2, ![1024, 4096]⟩ .f32) (a2 a3 : FVec Ideal ⟨4, ![1, 1024, 8, 128]⟩ .f32)
    (a4 : FVec Ideal ⟨2, ![4096, 1024]⟩ .f32) (h : Cert.Pre_finite_inputs_KernelIdeal.fn (F := Ideal) a0 a1 a2 a3 a4 = fun _ => 1#1) :
    (∀ i, (a0 i : EReal) ≠ ⊥ ∧ (a0 i : EReal) ≠ ⊤) ∧ (∀ i, (a1 i : EReal) ≠ ⊥ ∧ (a1 i : EReal) ≠ ⊤) ∧ (∀ i, (a2 i : EReal) ≠ ⊥ ∧ (a2 i : EReal) ≠ ⊤) := by
  have e := congrFun h ix0
  unfold Cert.Pre_finite_inputs_KernelIdeal.fn at e
  obtain ⟨e01, e2⟩ := IntOp.andi_eq_one.1 e
  obtain ⟨e0, e1⟩ := IntOp.andi_eq_one.1 e01
  exact ⟨real_of_reduce a0 _ preK.reducesTo_S1x1024x1024_S_d0_1_2 _ _ e0, real_of_reduce a1 _ preK.reducesTo_S1024x4096_S_d0_1 _ _ e1, real_of_reduce a2 _ preK.reducesTo_S1x1024x8x128_S_d0_1_2_3 _ _ e2⟩

end Cert.Proof.V

end
-- ==== Proof.Core.lean ====
/- One row of attention over the extended reals: a softmax over a window without subtracting the maximum, divided at the end,
   is the softmax over the whole row with the maximum subtracted, divided before the product with the values.

   The scores in the row are real; the values are any extended reals. -/
module

public import Idealize.ShloMosaic.PureOps.Ideal.Laws
public import Idealize.ShloMosaic.Lib.FinSumWindow

@[expose] public section

noncomputable section

namespace Cert.Proof.V

open Idealize.ShloMosaic
open scoped BigOperators

/-- A sum of reals, read as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum times a real that is not negative. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- A sum of reals is real. -/
theorem sum_real {ι : Type} (s : Finset ι) (f : ι → EReal) (h : ∀ i, f i ≠ ⊥ ∧ f i ≠ ⊤) : ∑ i ∈ s, f i ≠ ⊥ ∧ ∑ i ∈ s, f i ≠ ⊤ := by
  have e : ∀ i, f i = ((f i).toReal : EReal) := fun i => (EReal.coe_toReal (h i).2 (h i).1).symm
  rw [Finset.sum_congr rfl fun i _ => e i, ← coe_sum]
  exact ⟨EReal.coe_ne_bot _, EReal.coe_ne_top _⟩

/-- A product of reals is real. -/
theorem mul_real {a b : EReal} (ha : a ≠ ⊥ ∧ a ≠ ⊤) (hb : b ≠ ⊥ ∧ b ≠ ⊤) : a * b ≠ ⊥ ∧ a * b ≠ ⊤ := by
  lift a to ℝ using ⟨ha.2, ha.1⟩
  lift b to ℝ using ⟨hb.2, hb.1⟩
  rw [← EReal.coe_mul]
  exact ⟨EReal.coe_ne_bot _, EReal.coe_ne_top _⟩

/-- The score of a column: −∞ where it is not kept. -/
def msk {n : ℕ} (keep : Fin n → Prop) [DecidablePred keep] (s : Fin n → EReal) (j : Fin n) : EReal := if keep j then s j else ⊥

variable {n w : ℕ} (keep : Fin n → Prop) [DecidablePred keep]

/-- A row of windowed attention. -/
theorem row_eq (s v : Fin n → EReal) (hs : ∀ j, s j ≠ ⊥ ∧ s j ≠ ⊤) (i : Fin n) (hi : keep i)
    (lo : ℕ) (hlo : lo + w ≤ n) (hwin : ∀ j : Fin n, keep j → lo ≤ j.val ∧ j.val < lo + w) :
    (∑ p : Fin w, Ideal.exp (msk keep s ⟨lo + p.val, by omega⟩) * v ⟨lo + p.val, by omega⟩)
        * Ideal.div 1 (∑ p : Fin w, Ideal.exp (msk keep s ⟨lo + p.val, by omega⟩))
      = ∑ j, v j * Ideal.div (Ideal.exp (msk keep s j - Finset.univ.fold max ⊥ (msk keep s)))
          (∑ j, Ideal.exp (msk keep s j - Finset.univ.fold max ⊥ (msk keep s))) := by
  -- the maximum is real
  obtain ⟨μ, hμ⟩ : ∃ μ : ℝ, Finset.univ.fold max ⊥ (msk keep s) = (μ : EReal) := by
    have h1 : Finset.univ.fold max ⊥ (msk keep s) ≠ ⊥ := by
      have : s i ≤ Finset.univ.fold max ⊥ (msk keep s) :=
        Finset.le_fold_max _ |>.mpr (.inr ⟨i, Finset.mem_univ _, by unfold msk; rw [if_pos hi]⟩)
      intro e
      rw [e] at this
      exact (hs i).1 (le_bot_iff.mp this)
    have h2 : Finset.univ.fold max ⊥ (msk keep s) ≠ ⊤ := by
      refine ne_of_lt (Finset.fold_max_lt _ |>.mpr ⟨bot_lt_top, fun j _ => ?_⟩)
      unfold msk
      split
      · exact lt_top_iff_ne_top.mpr (hs j).2
      · exact bot_lt_top
    exact ⟨_, (EReal.coe_toReal h2 h1).symm⟩
  rw [hμ]
  -- the weights are reals
  set e : Fin n → ℝ := fun j => if keep j then Real.exp (s j).toReal else 0 with he
  have hE : ∀ j, Ideal.exp (msk keep s j) = (e j : EReal) := by
    intro j
    unfold msk
    simp only [he]
    by_cases h : keep j
    · rw [if_pos h, if_pos h, ← Ideal.exp_coe, EReal.coe_toReal (hs j).2 (hs j).1]
    · rw [if_neg h, if_neg h, Ideal.exp_bot, EReal.coe_zero]
  have hE' : ∀ j, Ideal.exp (msk keep s j - (μ : EReal)) = ((e j * Real.exp (-μ) : ℝ) : EReal) := by
    intro j
    unfold msk
    simp only [he]
    by_cases h : keep j
    · rw [if_pos h, if_pos h, ← Real.exp_add, ← Ideal.exp_coe, EReal.coe_add, EReal.coe_toReal (hs j).2 (hs j).1, EReal.coe_neg, sub_eq_add_neg]
    · rw [if_neg h, if_neg h, EReal.bot_sub, Ideal.exp_bot, zero_mul, EReal.coe_zero]
  have hpos : ∀ j, 0 ≤ e j := fun j => by
    simp only [he]
    split
    · exact (Real.exp_pos _).le
    · exact le_rfl
  have hout : ∀ j : Fin n, ¬(lo ≤ j.val ∧ j.val < lo + w) → e j = 0 := fun j h => if_neg fun hk => h (hwin j hk)
  have hD : 0 < ∑ j, e j :=
    Finset.sum_pos' (fun j _ => hpos j) ⟨i, Finset.mem_univ _, by simp only [he]; rw [if_pos hi]; exact Real.exp_pos _⟩
  simp only [hE, hE']
  rw [← FinSumWindow.sum_window lo hlo (fun j => (e j : EReal) * v j) (fun j h => by rw [hout j h, EReal.coe_zero, zero_mul]),
    ← FinSumWindow.sum_window lo hlo (fun j => (e j : EReal)) (fun j h => by rw [hout j h, EReal.coe_zero]),
    ← coe_sum, ← coe_sum, ← Finset.sum_mul, Ideal.div_coe hD.ne', one_mul, sum_mul_coe _ _ _ (one_div_pos.mpr hD).le]
  refine Finset.sum_congr rfl fun j _ => ?_
  rw [Ideal.div_coe (mul_pos hD (Real.exp_pos _)).ne', ← EReal.coe_mul, mul_comm (e j : EReal) (v j), mul_assoc, ← EReal.coe_mul]
  congr 2
  have := (Real.exp_pos (-μ)).ne'
  have := hD.ne'
  field_simp

/-! ## The mask's words -/

/-- A row and a column no further apart than the window. -/
abbrev near (i j : ℕ) : Prop := i ≤ j + 128 ∧ j ≤ i + 128

theorem near_word (p q : ℕ) (hp : p < 2048) (hq : q < 2048) :
    IntOp.cmpi .sle (IntOp.absi (IntOp.subi (BitVec.ofNat 32 p) (BitVec.ofNat 32 q))) 128#32 = if near p q then 1#1 else 0#1 := by
  have hi : (IntOp.subi (BitVec.ofNat 32 p) (BitVec.ofNat 32 q)).toInt = (p : ℤ) - q := by
    unfold IntOp.subi
    rw [BitVec.toInt_sub, BitVec.toInt_ofNat', BitVec.toInt_ofNat']
    simp only [Int.bmod]
    omega
  have ha : (IntOp.absi (IntOp.subi (BitVec.ofNat 32 p) (BitVec.ofNat 32 q))).toInt = |(p : ℤ) - q| := by
    unfold IntOp.absi
    rw [BitVec.msb_eq_toInt]
    by_cases h : (IntOp.subi (BitVec.ofNat 32 p) (BitVec.ofNat 32 q)).toInt < 0
    · rw [if_pos (decide_eq_true h), BitVec.toInt_neg, hi, abs_of_neg (by omega)]
      simp only [Int.bmod]
      omega
    · rw [if_neg (by simpa using h), hi, abs_of_nonneg (by omega)]
  have hn : near p q ↔ |(p : ℤ) - q| ≤ 128 := by rw [abs_le]; omega
  unfold IntOp.cmpi
  simp only [BitVec.sle_eq_decide, ha, show (128#32 : BitVec 32).toInt = 128 by decide, ← hn]
  by_cases h : near p q
  · rw [if_pos h, decide_eq_true h]; rfl
  · rw [if_neg h, decide_eq_false h]; rfl

end Cert.Proof.V

end
-- ==== Proof.ValKer.lean ====
/- The kernel's value, read element by element.

   Every stage of the kernel's result is read at an index over the extended reals: a device's heads on one row, its partial
   output, and the sum over the devices that ends in every device's result. -/
module

public import proofs.«01_k».proof.Proof.Cont
public import proofs.«01_k».proof.Proof.Core
public import Idealize.ShloMosaic.Lib.Pointwise

@[expose] public section

noncomputable section

namespace Cert.Proof.V

open Idealize.ShloMosaic Idealize.ShloMosaic.TcCoe
open Cert.KernelIdeal Cert.KernelIdeal.Gen
open Cert.Proof.K (expS headO ctxO accO qO maskO xL kvL allL wqC woC qG mkG accG accB rsC rsL redV redB agC outQ outC meW tgtW stW ksW nxt stepOf winL)

set_option maxRecDepth 16384

/-! ## The window -/

/-- The first key of chunk `c`'s window. -/
def lo (c : ℕ) : ℕ := min 512 (256 * c - 128)

theorem lo_le (c : ℕ) : lo c + 512 ≤ 1024 := by unfold lo; omega

theorem stW_eq : ∀ (c : Dev nD) (r : Fin 4), stW c (K.rw r) = BitVec.ofNat 32 (256 * (nxt c r).val) := by decide
theorem ksW_eq : ∀ (c : Dev nD) (r : Fin 4), ksW c (K.rw r) = BitVec.ofNat 32 (lo (nxt c r).val) := by decide

theorem mkG_apply (c : Dev nD) (r : Fin 4) (a : Fin 256) (p : Fin 512) :
    mkG c r (ix2 a p) = if near (256 * (nxt c r).val + a.val) (lo (nxt c r).val + p.val) then 1#1 else 0#1 := by
  rw [← near_word _ _ (by have := (nxt c r).isLt; simp only [nD] at this; omega) (by have := lo_le (nxt c r).val; omega)]
  unfold mkG
  pointwise [maskO]
  rw [stW_eq, ksW_eq]
  unfold IntOp.addi
  rw [← BitVec.ofNat_add, ← BitVec.ofNat_add, Nat.add_comm a.val, Nat.add_comm p.val]

/-! ## The loads -/

/-- A coordinate of a load: its offset and the coordinate in the block. -/
theorem at_off {o b : ℕ} (x : ℕ) (h : o = b) : o + 1 * x = b + x := by rw [h, Nat.one_mul]
theorem at_zero {o : ℕ} (x : ℕ) (h : o = 0) : o + 1 * x = x := by rw [h, Nat.one_mul, Nat.zero_add]

theorem off1_eq : ∀ c : Dev nD, k0_off1 c = ![0, 1024 * c.val] := by decide
theorem off2_eq : ∀ c : Dev nD, k0_off2 c = ![1024 * c.val, 0] := by decide
theorem off3_eq : ∀ (c : Dev nD) (r : Fin 4), k0_off3 c (K.rw r) = ![256 * (nxt c r).val, 0] := by decide

theorem dev_lt (c : Dev nD) : c.val < 4 := c.isLt

variable (V : (c : Dev nD) → Valuation τ sig (Elt Ideal))

/-- The rows of x on device `c`. -/
def xA (c : Dev nD) : S1024x1024.Idx → EReal := V c main_v1
/-- Wq on device `c`. -/
def wqA (c : Dev nD) : S1024x4096.Idx → EReal := V c main_arg1
/-- The keys of device `c`, head by head. -/
def kA (c : Dev nD) : S8x1024x128.Idx → EReal := V c main_v3
/-- The values of device `c`, head by head. -/
def vA (c : Dev nD) : S8x1024x128.Idx → EReal := V c main_v5
/-- Wo on device `c`. -/
def woA (c : Dev nD) : S4096x1024.Idx → EReal := V c main_arg4

theorem wqC_apply (c : Dev nD) (e k : Fin 1024) :
    wqC V c (ix2 e k) = wqA V c (ix2 e ⟨1024 * c.val + k.val, by have := dev_lt c; omega⟩ ) := by
  unfold wqC
  refine congrArg (V c main_arg1) (funext fun b => Fin.ext ?_)
  fin_cases b
  · exact at_zero e.val (congrFun (off1_eq c) 0)
  · exact at_off k.val (congrFun (off1_eq c) 1)

theorem woC_apply (c : Dev nD) (k n : Fin 1024) :
    woC V c (ix2 k n) = woA V c (ix2 ⟨1024 * c.val + k.val, by have := dev_lt c; omega⟩ n ) := by
  unfold woC
  refine congrArg (V c main_arg4) (funext fun b => Fin.ext ?_)
  fin_cases b
  · exact at_off k.val (congrFun (off2_eq c) 0)
  · exact at_zero n.val (congrFun (off2_eq c) 1)

theorem allL_apply (f : S1024x1024.Idx → Elt Ideal .f32) (i ) : allL f i = f i := by
  unfold allL
  refine congrArg f (funext fun b => Fin.ext ?_)
  fin_cases b
  · exact at_zero (i 0).val rfl
  · exact at_zero (i 1).val rfl

theorem xL_apply (c : Dev nD) (r : Fin 4) (a : Fin 256) (e : Fin 1024) :
    xL V c r (ix2 a e) = xA V c (ix2 ⟨256 * (nxt c r).val + a.val, by have := dev_lt (nxt c r); omega⟩ e ) := by
  unfold xL
  refine congrArg (V c main_v1) (funext fun b => Fin.ext ?_)
  fin_cases b
  · exact at_off a.val (congrFun (off3_eq c r) 0)
  · exact at_zero e.val (congrFun (off3_eq c r) 1)

theorem kvL_apply (f : S8x1024x128.Idx → Elt Ideal .f32) (o : Fin 3 → Nat) (hb : ∀ a, o a + S1x512x128.size a ≤ S8x1024x128.size a)
    (h l : ℕ) (he : o = ![h, l, 0]) (hh : h < 8) (hl : l + 512 ≤ 1024) (p : Fin 512) (d : Fin 128) :
    kvL f o hb (ix3 0 p d) = f (ix3 ⟨h, hh⟩ ⟨l + p.val, by omega⟩ d) := by
  subst he
  unfold kvL
  refine congrArg f (funext fun b => Fin.ext ?_)
  fin_cases b
  · exact at_off 0 rfl
  · exact at_off p.val rfl
  · exact at_zero d.val rfl

theorem winL_apply (f : S8x1024x128.Idx → Elt Ideal .f32) (c : Dev nD) (r : Fin 4) (h : Fin 8) (p : Fin 512) (d : Fin 128) :
    winL f c r h (ix3 0 p d) = f (ix3 h ⟨lo (nxt c r).val + p.val, by have := lo_le (nxt c r).val; omega⟩ d) := by
  have hl := lo_le (nxt c r).val
  fin_cases h
  · exact kvL_apply f _ _ 0 _ (by revert c r; decide) (by decide) hl p d
  · exact kvL_apply f _ _ 1 _ (by revert c r; decide) (by decide) hl p d
  · exact kvL_apply f _ _ 2 _ (by revert c r; decide) (by decide) hl p d
  · exact kvL_apply f _ _ 3 _ (by revert c r; decide) (by decide) hl p d
  · exact kvL_apply f _ _ 4 _ (by revert c r; decide) (by decide) hl p d
  · exact kvL_apply f _ _ 5 _ (by revert c r; decide) (by decide) hl p d
  · exact kvL_apply f _ _ 6 _ (by revert c r; decide) (by decide) hl p d
  · exact kvL_apply f _ _ 7 _ (by revert c r; decide) (by decide) hl p d

theorem rsL_apply (c : Dev nD) (k q : Fin 4) (a : Fin 64) (n : Fin 1024) :
    rsL V c ![k.val, 64 * q.val, 0] (K.rsL_inb k q) (ix3 0 a n) = rsC V c (ix3 k ⟨64 * q.val + a.val, by omega⟩ n) := by
  unfold rsL
  refine congrArg (rsC V c) (funext fun b => Fin.ext ?_)
  fin_cases b
  · exact at_off 0 rfl
  · exact at_off a.val rfl
  · exact at_zero n.val rfl

/-! ## A device's heads on one row -/

/-- The scale of the scores. -/
abbrev scaleV : EReal := Ideal.ofBits .f32 0x3DB504F3#32

/-- One head's output at one place, from the payload's operands. -/
def hd (mk : IVec S256x512 1) (q : FVec Ideal S256x1024 .f32) (kl vl : Vec Ideal S1x512x128 .f32) (h : Fin 8) (a : Fin 256) (d : Fin 128) : EReal :=
  (∑ p : Fin 512, Ideal.exp (if mk (ix2 a p) = 1 then (∑ x : Fin 128, q (ix2 a ⟨h.val * 128 + x.val, by omega⟩) * kl (ix3 0 p x)) * scaleV else ⊥)
      * vl (ix3 0 p d))
    * Ideal.div 1 (∑ p : Fin 512, Ideal.exp (if mk (ix2 a p) = 1 then (∑ x : Fin 128, q (ix2 a ⟨h.val * 128 + x.val, by omega⟩) * kl (ix3 0 p x)) * scaleV else ⊥))

theorem mask_bot : (Named.named κ "mask" (0xCE6E6B28#32 : BitVec (FTy.bits .f32)) : Ideal .f32) = (⊥ : EReal) := rfl

theorem headO_apply (mk : IVec S256x512 1) (q : FVec Ideal S256x1024 .f32) (qh : FVec Ideal S256x128 .f32) (kl vl : Vec Ideal S1x512x128 .f32) (h : Fin 8)
    (a : Fin 256) (d : Fin 128) (hq : ∀ x : Fin 128, qh (ix2 a x) = q (ix2 a ⟨h.val * 128 + x.val, by omega⟩)) :
    headO mk qh kl vl (ix2 a d) = hd mk q kl vl h a d := by
  pointwise [headO, expS]
  unfold hd
  simp only [hq, mask_bot, Scalar.select]

set_option maxHeartbeats 1000000 in
theorem ctxO_apply (mk : IVec S256x512 1) (q : FVec Ideal S256x1024 .f32) (kl vl : Fin 8 → Vec Ideal S1x512x128 .f32)
    (a : Fin 256) (h : Fin 8) (d : Fin 128) :
    ctxO mk q kl vl (ix2 a ⟨h.val * 128 + d.val, by omega⟩) = hd mk q (kl h) (vl h) h a d := by
  have hd' := d.isLt
  pointwise [ctxO]
  fin_cases h
  all_goals
    simp only []
    split_ifs
    all_goals first
      | (exfalso; omega)
      | (refine Eq.trans (congrArg (fun z => headO _ _ _ _ (ix2 a z)) (Fin.ext (b := d) (by simp <;> omega))) (headO_apply mk q _ _ _ _ a d fun x => ?_)
         pointwise []
         try exact congrArg (fun z => q (ix2 a z)) (Fin.ext (by simp <;> omega)))

/-- The score of key `j` against row `i`, for one head of device `c`. -/
def sc (c : Dev nD) (i : Fin 1024) (h : Fin 8) (j : Fin 1024) : EReal :=
  (∑ x : Fin 128, (∑ e : Fin 1024, xA V c (ix2 i e )
      * wqA V c (ix2 e ⟨1024 * c.val + (h.val * 128 + x.val), by have := dev_lt c; omega⟩ ))
    * kA V c (ix3 h j x )) * scaleV

/-- The output of one head of device `c` on row `i`. -/
def kctx (c : Dev nD) (i : Fin 1024) (h : Fin 8) (d : Fin 128) : EReal :=
  (∑ p : Fin 512, Ideal.exp (msk (fun j : Fin 1024 => near i.val j.val) (sc V c i h) ⟨lo (i.val / 256) + p.val, by have := lo_le (i.val / 256); omega⟩)
      * vA V c (ix3 h ⟨lo (i.val / 256) + p.val, by have := lo_le (i.val / 256); omega⟩ d ))
    * Ideal.div 1 (∑ p : Fin 512,
        Ideal.exp (msk (fun j : Fin 1024 => near i.val j.val) (sc V c i h) ⟨lo (i.val / 256) + p.val, by have := lo_le (i.val / 256); omega⟩))

/-- Row `a` of chunk `c`. -/
abbrev rowOf (c : Dev nD) (a : Fin 256) : Fin 1024 := ⟨256 * c.val + a.val, by have := dev_lt c; omega⟩

theorem qG_apply (c : Dev nD) (r : Fin 4) (a : Fin 256) (k : Fin 1024) :
    qG V c r (ix2 a k) = ∑ e : Fin 1024, xA V c (ix2 (rowOf (nxt c r) a) e )
      * wqA V c (ix2 e ⟨1024 * c.val + k.val, by have := dev_lt c; omega⟩ ) := by
  unfold qG
  pointwise [qO]
  refine Finset.sum_congr rfl fun e _ => ?_
  rw [xL_apply, allL_apply, wqC_apply]

theorem hd_eq (c : Dev nD) (r : Fin 4) (h : Fin 8) (a : Fin 256) (d : Fin 128) :
    hd (mkG c r) (qG V c r) (winL (kA V c) c r h) (winL (vA V c) c r h) h a d = kctx V c (rowOf (nxt c r) a) h d := by
  have hc : (rowOf (nxt c r) a).val / 256 = (nxt c r).val := by show (256 * (nxt c r).val + a.val) / 256 = _; omega
  have hp : ∀ p : Fin 512, (⟨lo ((rowOf (nxt c r) a).val / 256) + p.val, by have := lo_le ((rowOf (nxt c r) a).val / 256); omega⟩ : Fin 1024)
      = ⟨lo (nxt c r).val + p.val, by have := lo_le (nxt c r).val; omega⟩ := fun p => Fin.ext (congrArg (fun z => lo z + p.val) hc)
  unfold hd kctx
  simp only [hp, winL_apply, qG_apply, mkG_apply]
  unfold msk sc
  have hm : ∀ p : Fin 512, ((if near (256 * (nxt c r).val + a.val) (lo (nxt c r).val + p.val) then 1#1 else 0#1) = (1 : BitVec 1))
      ↔ near (256 * (nxt c r).val + a.val) (lo (nxt c r).val + p.val) := by
    intro p
    by_cases h : near (256 * (nxt c r).val + a.val) (lo (nxt c r).val + p.val)
    · rw [if_pos h]; exact ⟨fun _ => h, fun _ => rfl⟩
    · rw [if_neg h]; exact ⟨fun e => absurd e (by decide), fun e => absurd e h⟩
  simp only [hm]

/-- A device's partial output at a row of the step's chunk. -/
theorem accG_apply (c : Dev nD) (r : Fin 4) (a : Fin 256) (n : Fin 1024) :
    accG V c r (ix2 a n) = ∑ t : Fin 1024, kctx V c (rowOf (nxt c r) a) ⟨t.val / 128, by omega⟩ ⟨t.val % 128, by omega⟩
      * woA V c (ix2 ⟨1024 * c.val + t.val, by have := dev_lt c; omega⟩ n ) := by
  unfold accG
  pointwise [accO]
  refine Finset.sum_congr rfl fun t _ => ?_
  rw [allL_apply, woC_apply]
  refine congrArg (· * _) ?_
  rw [← hd_eq, ← ctxO_apply]
  exact congrArg (fun z => ctxO _ _ _ _ (ix2 a z)) (Fin.ext (by show t.val = t.val / 128 * 128 + t.val % 128; omega))

/-! ## The sum over the devices -/

/-- Device `k`'s share of the result. -/
def part (k : Dev nD) (i n : Fin 1024) : EReal :=
  ∑ t : Fin 1024, kctx V k i ⟨t.val / 128, by omega⟩ ⟨t.val % 128, by omega⟩
    * woA V k (ix2 ⟨1024 * k.val + t.val, by have := dev_lt k; omega⟩ n )

theorem rsC_apply (c : Dev nD) (k : Fin 4) (a : Fin 256) (n : Fin 1024) : rsC V c (ix3 k a n) = part V k (rowOf c a) n := by
  have e : nxt k (stepOf k c) = c := K.nxt_stepOf k c
  have h := accG_apply V k (stepOf k c) a n
  rw [e] at h
  have hx : K.ix2 a n = ix2 a n := funext fun b => by fin_cases b <;> rfl
  refine Eq.trans ?_ h
  show accG V k (stepOf k c) (K.ix2 a n) = _
  rw [hx]

/-- The four slabs' sum at an index. -/
theorem red_pay (A B C D : Vec Ideal S1x64x1024 .bf16) (a : Fin 64) (n : Fin 1024) (x0 x1 x2 x3 : EReal)
    (h0 : A (ix3 0 a n) = x0) (h1 : B (ix3 0 a n) = x1) (h2 : C (ix3 0 a n) = x2) (h3 : D (ix3 0 a n) = x3) :
    k0_pay80 (k0_pay79 A B) C D (ix2 a n) = ((x0 + x1) + x2) + x3 := by
  subst h0 h1 h2 h3
  pointwise [k0_pay80, k0_pay79]

theorem rsL_part (c : Dev nD) (k q : Fin 4) (a : Fin 64) (n : Fin 1024) :
    rsL V c ![k.val, 64 * q.val, 0] (K.rsL_inb k q) (ix3 0 a n) = part V k (rowOf c ⟨64 * q.val + a.val, by omega⟩) n :=
  (rsL_apply V c k q a n).trans (rsC_apply V c k _ n)

theorem redV_apply (c : Dev nD) (q : Fin 4) (a : Fin 64) (n : Fin 1024) :
    redV V c q (ix2 a n) = ((part V 0 (rowOf c ⟨64 * q.val + a.val, by omega⟩) n + part V 1 (rowOf c ⟨64 * q.val + a.val, by omega⟩) n)
      + part V 2 (rowOf c ⟨64 * q.val + a.val, by omega⟩) n) + part V 3 (rowOf c ⟨64 * q.val + a.val, by omega⟩) n := by
  exact red_pay _ _ _ _ a n _ _ _ _ (rsL_part V c 0 q a n) (rsL_part V c 1 q a n) (rsL_part V c 2 q a n) (rsL_part V c 3 q a n)

/-- A rounded sum is the sum. -/
theorem ext_trunc (x : FVec Ideal S64x1024 .f32) (i : S64x1024.Idx) :
    extf .f32 (truncf .bf16 x bitsLt_bf16_f32) bitsLt_bf16_f32 i = x i := rfl

theorem outQ_apply (c j : Dev nD) (q : Fin 4) (x : S64x1024.Idx) : outQ V c j q x = redV V j q x := by
  unfold outQ
  by_cases h : j = c
  · rw [if_pos h, h]
  · rw [if_neg h]
    unfold redB
    exact ext_trunc (redV V j q) x

/-- The result: the sum of the devices' shares. -/
theorem outC_apply (c : Dev nD) (i n : Fin 1024) :
    outC V c (ix2 i n) = ((part V 0 i n + part V 1 i n) + part V 2 i n) + part V 3 i n := by
  have hi := i.isLt
  have e : rowOf ⟨i.val / 256, by simp only [nD]; omega⟩ ⟨64 * (⟨i.val % 256 / 64, by omega⟩ : Fin 4).val + (⟨i.val % 64, by omega⟩ : Fin 64).val, by
      show 64 * (i.val % 256 / 64) + i.val % 64 < 256; omega⟩ = i :=
    Fin.ext (by show 256 * (i.val / 256) + (64 * (i.val % 256 / 64) + i.val % 64) = i.val; omega)
  have h := redV_apply V ⟨i.val / 256, by simp only [nD]; omega⟩ ⟨i.val % 256 / 64, by omega⟩ ⟨i.val % 64, by omega⟩ n
  rw [e] at h
  have hx : K.ix2' ⟨i.val % 64, by omega⟩ n = ix2 ⟨i.val % 64, by omega⟩ n := funext fun b => by fin_cases b <;> rfl
  rw [← hx] at h
  exact (outQ_apply V c _ _ _).trans h

end Cert.Proof.V

end
-- ==== Proof.ValRef.lean ====
/- The reference's value, read element by element.

   The host operations of the reference are cut into named stages (mask, scores, exponentials, weights, context), and each
   stage is read at an index over the extended reals. -/
module

public import proofs.«01_k».proof.Proof.Gen.ReferenceIdeal.Run
public import proofs.«01_k».proof.Proof.Core
public import Idealize.ShloMosaic.Lib.Pointwise

@[expose] public section

noncomputable section

namespace Cert.Proof.R

open Idealize.ShloMosaic Idealize.ShloMosaic.TcCoe Idealize.SL.Sem
open Cert.ReferenceIdeal Cert.ReferenceIdeal.Gen

/-! ## The stages -/

/-- Whether a row and a column are no further apart than the window. -/
def maskR : IVec S1024x1024 1 :=
  cmpi .sle (absi (subi (broadcastInDim S1024x1024 ![0, 1] bcast_S1024x1_S1024x1024_0_1 (broadcastInDim S1024x1 ![0] bcast_S1024_S1024x1_0 (iotaInDim S1024 32 0)))
      (broadcastInDim S1024x1024 ![0, 1] bcast_S1x1024_S1024x1024_0_1 (broadcastInDim S1x1024 ![1] bcast_S1024_S1x1024_1 (iotaInDim S1024 32 0)))))
    (broadcastInDim S1024x1024 ![] bcast_S_S1024x1024 (constantI S_ 32 128#32))

/-- Whether a row keeps any column. -/
def keepR : IVec S1024 1 := Host.reduce IntOp.ori maskR (constantI S_ 1 0#1) reducesTo_S1024x1024_S1024_d1 h_S_

/-- The scores, −∞ outside the window. -/
def scoreR (x : FVec Ideal S1x1024x1024 .f32) (wq : FVec Ideal S1024x4096 .f32) (k : FVec Ideal S1x1024x32x128 .f32) :
    FVec Ideal S1x32x1024x1024 .f32 :=
  select (broadcastInDim S1x32x1024x1024 ![0, 1, 2, 3] bcast_S1x1x1024x1024_S1x32x1024x1024_0_1_2_3
      (broadcastInDim S1x1x1024x1024 ![2, 3] bcast_S1024x1024_S1x1x1024x1024_2_3 maskR))
    (mulf (Host.dotGeneral dot_S1x1024x32x128_S1x1024x32x128_S1x32x1024x1024_3_3_1_1_02_02 none
        (shapeCast _ (Host.dotGeneral dot_S1x1024x1024_S1024x4096_S1x1024x4096_2_0_01_1_n_n none x wq) shapeCasts_S1x1024x4096_S1x1024x32x128) k)
      (broadcastInDim S1x32x1024x1024 ![] bcast_S_S1x32x1024x1024 (constant S_ .f32 0x3DB504F3#32)))
    (broadcastInDim S1x32x1024x1024 ![] bcast_S_S1x32x1024x1024 (id (constant S_ .f32 0xFF800000#32)))

/-- The exponentials of the scores less their row's maximum. -/
def expR (s : FVec Ideal S1x32x1024x1024 .f32) : FVec Ideal S1x32x1024x1024 .f32 :=
  Host.exp (subf s (broadcastInDim S1x32x1024x1024 ![0, 1, 2, 3] bcast_S1x32x1024x1_S1x32x1024x1024_0_1_2_3
    (broadcastInDim S1x32x1024x1 ![0, 1, 2] bcast_S1x32x1024_S1x32x1024x1_0_1_2
      (Host.reduce FloatOps.maximumf s (constant S_ .f32 0xFF800000#32) reducesTo_S1x32x1024x1024_S1x32x1024_d3 h_S_))))

/-- The weights. -/
def weightR (e : FVec Ideal S1x32x1024x1024 .f32) : FVec Ideal S1x32x1024x1024 .f32 :=
  select (broadcastInDim S1x32x1024x1024 ![0, 1, 2, 3] bcast_S1x1x1024x1_S1x32x1024x1024_0_1_2_3 (broadcastInDim S1x1x1024x1 ![2] bcast_S1024_S1x1x1024x1_2 keepR))
    (Host.divf e (broadcastInDim S1x32x1024x1024 ![0, 1, 2, 3] bcast_S1x32x1024x1_S1x32x1024x1024_0_1_2_3
      (select (broadcastInDim S1x32x1024x1 ![0, 1, 2, 3] bcast_S1x1x1024x1_S1x32x1024x1_0_1_2_3 (broadcastInDim S1x1x1024x1 ![2] bcast_S1024_S1x1x1024x1_2 keepR))
        (broadcastInDim S1x32x1024x1 ![0, 1, 2] bcast_S1x32x1024_S1x32x1024x1_0_1_2
          (Host.reduceAdd e (constant S_ .f32 0x00000000#32) reducesTo_S1x32x1024x1024_S1x32x1024_d3 h_S_))
        (broadcastInDim S1x32x1024x1 ![] bcast_S_S1x32x1024x1 (id (constant S_ .f32 0x3F800000#32))))))
    (broadcastInDim S1x32x1024x1024 ![] bcast_S_S1x32x1024x1024 (id (constant S_ .f32 0x00000000#32)))

/-- The heads' outputs times Wo. -/
def outR (v : FVec Ideal S1x1024x32x128 .f32) (w : FVec Ideal S1x32x1024x1024 .f32) (wo : FVec Ideal S4096x1024 .f32) : FVec Ideal S1x1024x1024 .f32 :=
  Host.dotGeneral dot_S1x1024x4096_S4096x1024_S1x1024x1024_2_0_01_1_n_n none
    (shapeCast _ (transpose S1x1024x32x128 [0, 3, 1, 2] (Host.dotGeneral dot_S1x1024x32x128_S1x32x1024x1024_S1x32x128x1024_1_3_3_2_02_01 none v w)
      transposes_S1x32x128x1024_S1x1024x32x128_0_3_1_2) shapeCasts_S1x1024x32x128_S1x1024x4096) wo

set_option maxRecDepth 16384 in
/-- The reference's result is the stages' composition. -/
theorem res_eq (m : (ℓ : Loc nD τ sig) → Buf (Elt Ideal) ℓ) (c : Dev nD) :
    Value.res_out0 m c = outR (m ((c.tc : Thread nD τ).loc main_arg3))
      (weightR (expR (scoreR (m ((c.tc : Thread nD τ).loc main_arg0)) (m ((c.tc : Thread nD τ).loc main_arg1)) (m ((c.tc : Thread nD τ).loc main_arg2)))))
      (m ((c.tc : Thread nD τ).loc main_arg4)) := by
  unfold Value.res_out0 Value.res_main_v34
  rfl

set_option maxRecDepth 16384

/-! ## The stages at an index -/

theorem maskR_apply (i j : Fin 1024) : maskR (ix2 i j) = if V.near i.val j.val then 1#1 else 0#1 := by
  rw [← V.near_word _ _ (by omega) (by omega)]
  pointwise [maskR]

theorem maskR_one (i j : Fin 1024) : maskR (ix2 i j) = 1 ↔ V.near i.val j.val := by
  rw [maskR_apply]
  by_cases h : V.near i.val j.val
  · rw [if_pos h]; exact ⟨fun _ => h, fun _ => rfl⟩
  · rw [if_neg h]; exact ⟨fun e => absurd e (by decide), fun e => absurd e h⟩

/-- A fold of bits by "or" that meets a one is one. -/
theorem fold_or {ι : Type} [DecidableEq ι] (s : Finset ι) (f : ι → BitVec 1) (i : ι) (hi : i ∈ s) (h : f i = 1#1) :
    Finset.fold IntOp.ori 0#1 f s = 1#1 := by
  rw [← Finset.insert_erase hi, Finset.fold_insert (Finset.notMem_erase i s), h]
  generalize Finset.fold IntOp.ori 0#1 f (s.erase i) = b
  revert b
  decide

/-- Every row keeps its own column. -/
theorem keepR_apply (i : Fin 1024) : keepR (ix1 i) = 1#1 := by
  pointwise [keepR]
  exact fold_or _ _ i (Finset.mem_univ _) ((maskR_one i i).mpr ⟨by omega, by omega⟩)

theorem inf_bot : Ideal.ofBits .f32 0xFF800000#32 = ⊥ := by simp [Ideal.ofBits, Ideal.ieee]

variable (x : FVec Ideal S1x1024x1024 .f32) (wq : FVec Ideal S1024x4096 .f32) (k v : FVec Ideal S1x1024x32x128 .f32) (wo : FVec Ideal S4096x1024 .f32)

/-- The score of key `j` against row `i`, head `h`. -/
def scR (i : Fin 1024) (h : Fin 32) (j : Fin 1024) : EReal :=
  (∑ y : Fin 128, (∑ e : Fin 1024, x (ix3 0 i e) * wq (ix2 e ⟨h.val * 128 + y.val, by omega⟩)) * k (ix4 0 j h y)) * Ideal.ofBits .f32 0x3DB504F3#32

theorem scoreR_apply (h : Fin 32) (i j : Fin 1024) :
    scoreR x wq k (ix4 0 h i j) = V.msk (fun j : Fin 1024 => V.near i.val j.val) (scR x wq k i h) j := by
  have hi : (id (constant S_ .f32 0xFF800000#32 : FVec Ideal S_ .f32)) ix0 = ⊥ := inf_bot
  pointwise [scoreR]
  rw [hi]
  unfold Scalar.select V.msk scR
  simp only [maskR_one]

theorem expR_apply (s : FVec Ideal S1x32x1024x1024 .f32) (h : Fin 32) (i j : Fin 1024) :
    expR s (ix4 0 h i j) = Ideal.exp (s (ix4 0 h i j) - Finset.univ.fold max ⊥ fun j => s (ix4 0 h i j)) := by
  pointwise [expR]
  rw [inf_bot]

theorem weightR_apply (e : FVec Ideal S1x32x1024x1024 .f32) (h : Fin 32) (i j : Fin 1024) :
    weightR e (ix4 0 h i j) = Ideal.div (e (ix4 0 h i j)) (∑ j, e (ix4 0 h i j)) := by
  pointwise [weightR]
  rw [keepR_apply]
  rfl

theorem outR_apply (w : FVec Ideal S1x32x1024x1024 .f32) (i n : Fin 1024) :
    outR v w wo (ix3 0 i n) = ∑ t : Fin 4096, (∑ j : Fin 1024, v (ix4 0 j ⟨t.val / 128, by omega⟩ ⟨t.val % 128, by omega⟩)
      * w (ix4 0 ⟨t.val / 128, by omega⟩ i j)) * wo (ix2 t n) := by
  pointwise [outR]

/-- One head's output on row `i`. -/
def ctxR (i : Fin 1024) (h : Fin 32) (d : Fin 128) : EReal :=
  ∑ j : Fin 1024, v (ix4 0 j h d) * Ideal.div
    (Ideal.exp (V.msk (fun j : Fin 1024 => V.near i.val j.val) (scR x wq k i h) j
      - Finset.univ.fold max ⊥ (V.msk (fun j : Fin 1024 => V.near i.val j.val) (scR x wq k i h))))
    (∑ j : Fin 1024, Ideal.exp (V.msk (fun j : Fin 1024 => V.near i.val j.val) (scR x wq k i h) j
      - Finset.univ.fold max ⊥ (V.msk (fun j : Fin 1024 => V.near i.val j.val) (scR x wq k i h))))

/-- The reference at an index. -/
theorem ref_apply (i n : Fin 1024) :
    outR v (weightR (expR (scoreR x wq k))) wo (ix3 0 i n)
      = ∑ t : Fin 4096, ctxR x wq k v i ⟨t.val / 128, by omega⟩ ⟨t.val % 128, by omega⟩ * wo (ix2 t n) := by
  rw [outR_apply]
  refine Finset.sum_congr rfl fun t _ => ?_
  unfold ctxR
  simp only [weightR_apply, expR_apply, scoreR_apply]

end Cert.Proof.R

end
-- ==== Proof.Value.lean ====
/- The kernel's value is the reference's.

   What the region finds in its buffers is read back to the launch memory; each device's heads are the reference's heads
   `8c … 8c+7`; and the four devices' sums are the reference's one. -/
module

public import proofs.«01_k».proof.Proof.Launch
public import proofs.«01_k».proof.Proof.ValKer
public import proofs.«01_k».proof.Proof.ValRef
public import Idealize.ShloMosaic.Lib.StableHlo.ReadAt

@[expose] public section

noncomputable section

namespace Cert.Proof.V

open Idealize.ShloMosaic Idealize.ShloMosaic.TcCoe Idealize.SL.Sem
open Cert.KernelIdeal Cert.KernelIdeal.Gen
open Cert.Proof.R (scR ctxR)
open Cert.Proof.K (outC)

set_option maxRecDepth 16384

/-! ## The buffers at the region -/

section Mem
variable (m : (ℓ : Loc nD τ sig) → Buf (Elt Ideal) ℓ)

/-- Device `c`'s arrays at launch. -/
def mx (c : Dev nD) : S1x1024x1024.Idx → EReal := m ((c : Thread nD τ).loc main_arg0)
def mq (c : Dev nD) : S1024x4096.Idx → EReal := m ((c : Thread nD τ).loc main_arg1)
def mk (c : Dev nD) : S1x1024x8x128.Idx → EReal := m ((c : Thread nD τ).loc main_arg2)
def mv (c : Dev nD) : S1x1024x8x128.Idx → EReal := m ((c : Thread nD τ).loc main_arg3)
def mo (c : Dev nD) : S4096x1024.Idx → EReal := m ((c : Thread nD τ).loc main_arg4)

theorem xA_mem (c : Dev nD) (i e : Fin 1024) : xA (V0 m) c (ix2 i e) = mx m c (ix3 0 i e) := by
  unfold xA mx V0
  after_reads_at

theorem kA_mem (c : Dev nD) (h : Fin 8) (j : Fin 1024) (x : Fin 128) : kA (V0 m) c (ix3 h j x) = mk m c (ix4 0 j h x) := by
  unfold kA mk V0
  after_reads_at

theorem vA_mem (c : Dev nD) (h : Fin 8) (j : Fin 1024) (x : Fin 128) : vA (V0 m) c (ix3 h j x) = mv m c (ix4 0 j h x) := by
  unfold vA mv V0
  after_reads_at

theorem wqA_mem (c : Dev nD) : wqA (V0 m) c = mq m c := V_main_arg1 m c
theorem woA_mem (c : Dev nD) : woA (V0 m) c = mo m c := V_main_arg4 m c

end Mem

/-! ## The heads and the sum -/

theorem scale_real : scaleV ≠ ⊥ ∧ scaleV ≠ ⊤ := by
  unfold scaleV
  have e : Ideal.ofBits .f32 0x3DB504F3#32 = (((11863283 : ℝ) : EReal) * (((2 ^ 27 : ℝ)⁻¹ : ℝ) : EReal)) := by
    simp [Ideal.ofBits, Ideal.ieee]
  rw [e]
  exact mul_real ⟨EReal.coe_ne_bot _, EReal.coe_ne_top _⟩ ⟨EReal.coe_ne_bot _, EReal.coe_ne_top _⟩

/-- The whole sum is the four devices' sums. -/
theorem sum_split (f : Fin 4096 → EReal) :
    ∑ t, f t = ∑ c : Fin 4, ∑ t : Fin 1024, f ⟨1024 * c.val + t.val, by omega⟩ := by
  rw [← Fintype.sum_prod_type' (f := fun (c : Fin 4) (t : Fin 1024) => f ⟨1024 * c.val + t.val, by omega⟩)]
  exact (Fintype.sum_equiv (finProdFinEquiv (m := 4) (n := 1024)) _ f fun p => congrArg f (Fin.ext (Nat.add_comm _ _))).symm

section Eq
variable (m : (ℓ : Loc nD τ sig) → Buf (Elt Ideal) ℓ)
variable (X : FVec Ideal S1x1024x1024 .f32) (WQ : FVec Ideal S1024x4096 .f32) (K W : FVec Ideal ⟨4, ![1, 1024, 32, 128]⟩ .f32) (WO : FVec Ideal S4096x1024 .f32)

/-- The devices' arrays are the whole arrays, K and V cut along the heads. -/
structure Cut : Prop where
  x : ∀ c, mx m c = X
  q : ∀ c, mq m c = WQ
  k : ∀ (c : Dev nD) (j : Fin 1024) (h : Fin 8) (y : Fin 128), mk m c (ix4 0 j h y) = K (ix4 0 j ⟨c.val * 8 + h.val, by have := dev_lt c; omega⟩ y)
  v : ∀ (c : Dev nD) (j : Fin 1024) (h : Fin 8) (y : Fin 128), mv m c (ix4 0 j h y) = W (ix4 0 j ⟨c.val * 8 + h.val, by have := dev_lt c; omega⟩ y)
  o : ∀ c, mo m c = WO

variable (H : Cut m X WQ K W WO)
include H

theorem real_x (h : ∀ i, mx m 0 i ≠ ⊥ ∧ mx m 0 i ≠ ⊤) : ∀ i, (X i : EReal) ≠ ⊥ ∧ (X i : EReal) ≠ ⊤ := by rw [H.x] at h; exact h

theorem real_q (h : ∀ i, mq m 0 i ≠ ⊥ ∧ mq m 0 i ≠ ⊤) : ∀ i, (WQ i : EReal) ≠ ⊥ ∧ (WQ i : EReal) ≠ ⊤ := by rw [H.q] at h; exact h

/-- Every head is some device's. -/
theorem real_k (h : ∀ c i, mk m c i ≠ ⊥ ∧ mk m c i ≠ ⊤) : ∀ i, (K i : EReal) ≠ ⊥ ∧ (K i : EReal) ≠ ⊤ := by
  intro i
  have h2 : (i 2).val < 32 := (i 2).isLt
  have hi : ix4 (0 : Fin 1) (i 1 : Fin 1024) (⟨(i 2).val / 8 * 8 + (i 2).val % 8, by omega⟩ : Fin 32) (i 3 : Fin 128) = i := by
    funext b
    match b with
    | 0 => exact Subsingleton.elim (α := Fin 1) _ _
    | 1 => rfl
    | 2 => exact Fin.ext (by show (i 2).val / 8 * 8 + (i 2).val % 8 = (i 2).val; omega)
    | 3 => rfl
  have e := H.k ⟨(i 2).val / 8, by show (i 2).val / 8 < 4; omega⟩ (i 1) ⟨(i 2).val % 8, by omega⟩ (i 3)
  have e' := e.trans (congrArg K hi)
  rw [← e']
  exact h _ _

theorem sc_eq (c : Dev nD) (i : Fin 1024) (h : Fin 8) :
    sc (V0 m) c i h = scR X WQ K i ⟨c.val * 8 + h.val, by have := dev_lt c; omega⟩ := by
  funext j
  unfold sc scR
  rw [wqA_mem, H.q]
  refine congrArg (· * scaleV) (Finset.sum_congr rfl fun y _ => ?_)
  rw [kA_mem, H.k]
  refine congrArg (· * _) (Finset.sum_congr rfl fun e _ => ?_)
  rw [xA_mem, H.x]
  refine congrArg (fun z => X (ix3 0 i e) * WQ (ix2 e z)) (Fin.ext ?_)
  show 1024 * c.val + (h.val * 128 + y.val) = (c.val * 8 + h.val) * 128 + y.val
  omega

variable (hX : ∀ i, (X i : EReal) ≠ ⊥ ∧ (X i : EReal) ≠ ⊤) (hQ : ∀ i, (WQ i : EReal) ≠ ⊥ ∧ (WQ i : EReal) ≠ ⊤) (hK : ∀ i, (K i : EReal) ≠ ⊥ ∧ (K i : EReal) ≠ ⊤)
include hX hQ hK

omit H in
theorem scR_real (i : Fin 1024) (h : Fin 32) (j : Fin 1024) : scR X WQ K i h j ≠ ⊥ ∧ scR X WQ K i h j ≠ ⊤ :=
  mul_real (sum_real _ _ fun _ => mul_real (sum_real _ _ fun _ => mul_real (hX _) (hQ _)) (hK _)) scale_real

theorem kctx_eq (c : Dev nD) (i : Fin 1024) (h : Fin 8) (d : Fin 128) :
    kctx (V0 m) c i h d = ctxR X WQ K W i ⟨c.val * 8 + h.val, by have := dev_lt c; omega⟩ d := by
  unfold kctx ctxR
  rw [sc_eq m X WQ K W WO H]
  simp only [vA_mem, H.v]
  exact row_eq (fun j : Fin 1024 => near i.val j.val) (scR X WQ K i ⟨c.val * 8 + h.val, by have := dev_lt c; omega⟩)
    (fun j => W (ix4 0 j ⟨c.val * 8 + h.val, by have := dev_lt c; omega⟩ d)) (scR_real X WQ K hX hQ hK i _) i
    ⟨by omega, by omega⟩ (lo (i.val / 256)) (lo_le _) (fun j hj => by
      have h1 : i.val ≤ j.val + 128 := hj.1
      have h2 : j.val ≤ i.val + 128 := hj.2
      have h3 := i.isLt
      have h4 := j.isLt
      unfold lo
      omega)

theorem part_eq (c : Dev nD) (i n : Fin 1024) :
    part (V0 m) c i n = ∑ t : Fin 1024, (fun t : Fin 4096 => ctxR X WQ K W i ⟨t.val / 128, by omega⟩ ⟨t.val % 128, by omega⟩ * WO (ix2 t n))
      ⟨1024 * c.val + t.val, by have := dev_lt c; omega⟩ := by
  unfold part
  refine Finset.sum_congr rfl fun t _ => ?_
  rw [woA_mem, H.o, kctx_eq m X WQ K W WO H hX hQ hK]
  have e1 : (⟨c.val * 8 + t.val / 128, by have := dev_lt c; omega⟩ : Fin 32) = ⟨(1024 * c.val + t.val) / 128, by have := dev_lt c; omega⟩ :=
    Fin.ext (by show c.val * 8 + t.val / 128 = (1024 * c.val + t.val) / 128; omega)
  have e2 : (⟨t.val % 128, by omega⟩ : Fin 128) = ⟨(1024 * c.val + t.val) % 128, by omega⟩ :=
    Fin.ext (by show t.val % 128 = (1024 * c.val + t.val) % 128; omega)
  rw [e1, e2]

/-- The region's output is the reference at every index. -/
theorem out_eq (c : Dev nD) (i n : Fin 1024) :
    outC (V0 m) c (ix2 i n) = R.outR W (R.weightR (R.expR (R.scoreR X WQ K))) WO (ix3 0 i n) := by
  rw [outC_apply, R.ref_apply, sum_split, Fin.sum_univ_four]
  rw [part_eq m X WQ K W WO H hX hQ hK, part_eq m X WQ K W WO H hX hQ hK, part_eq m X WQ K W WO H hX hQ hK, part_eq m X WQ K W WO H hX hQ hK]

theorem res_at (c : Dev nD) (i n : Fin 1024) :
    Cert.Proof.K.res m c (ix3 0 i n) = R.outR W (R.weightR (R.expR (R.scoreR X WQ K))) WO (ix3 0 i n) := by
  rw [← out_eq m X WQ K W WO H hX hQ hK c i n]
  unfold Cert.Proof.K.res
  pointwise

/-- The kernel's result is the reference's. -/
theorem res_eq (c : Dev nD) : Cert.Proof.K.res m c = R.outR W (R.weightR (R.expR (R.scoreR X WQ K))) WO := by
  funext z
  have hz : z = ix3 (0 : Fin 1) (z 1 : Fin 1024) (z 2 : Fin 1024) := by
    funext b
    match b with
    | 0 => exact Subsingleton.elim (α := Fin 1) _ _
    | 1 => rfl
    | 2 => rfl
  refine (congrArg (Cert.Proof.K.res m c) hz).trans (Eq.trans ?_ (congrArg (R.outR W (R.weightR (R.expR (R.scoreR X WQ K))) WO) hz).symm)
  exact res_at m X WQ K W WO H hX hQ hK c (z 1) (z 2)

end Eq

end Cert.Proof.V

end
-- ==== Proof.Algebraic.lean ====
/- The value claim: the idealized kernel and the reference end with one result, on inputs that are real numbers. -/
module

public import proofs.«01_k».proof.Proof.Frames
public import proofs.«01_k».proof.Proof.Pre
public import proofs.«01_k».proof.Proof.Value
public import Idealize.ShloMosaic.Lib.LayoutAt

@[expose] public section

noncomputable section

namespace Cert.Proof.V

open Idealize.ShloMosaic Idealize.ShloMosaic.TcCoe Idealize.SL.Sem

set_option maxRecDepth 16384

/-- The frames hold with the precondition as without. -/
theorem frame_ideal_pre : Cert.quiescent_KernelIdeal_pre_finite_inputs_KernelIdeal := fun m ρ _ => K.frame_ideal m ρ trivial

theorem frame_reference_pre : Cert.quiescent_ReferenceIdeal_pre_finite_inputs_ReferenceIdeal := fun m ρ _ => K.frame_reference m ρ trivial

/-- A device's block of an array cut along the heads, at an index. -/
theorem block_at (T : FVec Ideal ⟨4, ![1, 1024, 32, 128]⟩ .f32) (c : Fin 4) (j : Fin 1024) (h : Fin 8) (y : Fin 128) :
    Layout.block ⟨4, ![1, 1024, 8, 128]⟩ ⟨4, ![1, 1024, 32, 128]⟩ 2 4 c T (by decide) (ix4 0 j h y) = T (ix4 0 j ⟨c.val * 8 + h.val, by omega⟩ y) := by
  rw [Layout.block_apply]
  refine congrArg T (funext fun b => Fin.ext ?_)
  match b with
  | 0 => exact (Layout.Tiles.idx_val _ _ _ _).trans rfl
  | 1 => exact (Layout.Tiles.idx_val _ _ _ _).trans rfl
  | 2 => exact (Layout.Tiles.idx_val _ _ _ _).trans rfl
  | 3 => exact (Layout.Tiles.idx_val _ _ _ _).trans rfl

theorem value : Cert.algebraic_KernelIdeal_ReferenceIdeal_pre_finite_inputs_KernelIdeal := by
  intro m g m' g' hpre hargs
  have hcut : Cut m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    ⟨fun c => (hargs c).1, fun c => (hargs c).2.1,
      fun c j h y => (congrFun (hargs c).2.2.1 (ix4 0 j h y)).trans (block_at _ c j h y),
      fun c j h y => (congrFun (hargs c).2.2.2.1 (ix4 0 j h y)).trans (block_at _ c j h y),
      fun c => (hargs c).2.2.2.2⟩
  have hreal := fun c => pre_real _ _ _ _ _ (hpre c)
  have hX := real_x m _ _ _ _ _ hcut (hreal 0).1
  have hQ := real_q m _ _ _ _ _ hcut (hreal 0).2.1
  have hK := real_k m _ _ _ _ _ hcut fun c => (hreal c).2.2
  refine ⟨_, (θ_run _ _ _).mono (fun _ h c => ⟨((h.1 c).1).trans (res_eq m _ _ _ _ _ hcut hX hQ hK c), (h.1 c).2⟩) (K.run_main (F := Ideal) m g),
    (θ_run _ _ _).mono (fun _ h => ⟨(h 0).1.trans (R.res_eq m' 0), (h 0).2⟩) (ReferenceIdeal.Value.run (F := Ideal) m' g')⟩

end Cert.Proof.V

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, V.preK, V.preR,
  K.frame_kernel, K.frame_ideal, V.frame_ideal_pre, K.frame_reference, V.frame_reference_pre, K.preserves_mask, V.value⟩

end Cert.Proof

end
